-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_3)) (v2 : (c : Dev Cert.Kernel2Ideal.nD) → Buf (Elt Ideal) ((c.tc : Thread Cert.Kernel2Ideal.nD Cert.Kernel2Ideal.τ).loc Cert.Kernel2Ideal.main_v10_4)) (v3 : (c : Dev Cert.Kernel2Ideal.nD) → Buf (Elt Ideal) ((c.tc : Thread Cert.Kernel2Ideal.nD Cert.Kernel2Ideal.τ).loc Cert.Kernel2Ideal.main_v10_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_3) = v1 c
          ∧ r.2.mem ((c.tc : Thread Cert.Kernel2Ideal.nD Cert.Kernel2Ideal.τ).loc Cert.Kernel2Ideal.main_v10_4) = v2 c
          ∧ r.2.mem ((c.tc : Thread Cert.Kernel2Ideal.nD Cert.Kernel2Ideal.τ).loc Cert.Kernel2Ideal.main_v10_5) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v25)) (v1 : (c : Dev Cert.Kernel3Ideal.nD) → Buf (Elt Ideal) ((c.tc : Thread Cert.Kernel3Ideal.nD Cert.Kernel3Ideal.τ).loc Cert.Kernel3Ideal.main_v27)) (v2 : (c : Dev Cert.Kernel3Ideal.nD) → Buf (Elt Ideal) ((c.tc : Thread Cert.Kernel3Ideal.nD Cert.Kernel3Ideal.τ).loc Cert.Kernel3Ideal.main_v29)) (v3 : (c : Dev Cert.Kernel3Ideal.nD) → Buf (Elt Ideal) ((c.tc : Thread Cert.Kernel3Ideal.nD Cert.Kernel3Ideal.τ).loc Cert.Kernel3Ideal.main_v32)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_v27) = v1 c
          ∧ r.2.mem ((c.tc : Thread Cert.Kernel3Ideal.nD Cert.Kernel3Ideal.τ).loc Cert.Kernel3Ideal.main_v29) = v2 c
          ∧ r.2.mem ((c.tc : Thread Cert.Kernel3Ideal.nD Cert.Kernel3Ideal.τ).loc Cert.Kernel3Ideal.main_v32) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v29) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v21)) (v1 : (c : Dev Cert.Kernel4Ideal.nD) → Buf (Elt Ideal) ((c.tc : Thread Cert.Kernel4Ideal.nD Cert.Kernel4Ideal.τ).loc Cert.Kernel4Ideal.main_v23)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_v23) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v301) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v18)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v306) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2x8192x1024 : Shape := ⟨3, ![2, 8192, 1024]⟩
abbrev S2x1x1024 : Shape := ⟨3, ![2, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S1x1024 : Shape := ⟨2, ![1, 1024]⟩
abbrev S_ : Shape := ⟨0, ![]⟩
abbrev S2x8x2816 : Shape := ⟨3, ![2, 8, 2816]⟩
abbrev S1x512x1024 : Shape := ⟨3, ![1, 512, 1024]⟩
abbrev S1x1x1024 : Shape := ⟨3, ![1, 1, 1024]⟩
abbrev S1x8x2816 : Shape := ⟨3, ![1, 8, 2816]⟩
abbrev S520x2816 : Shape := ⟨2, ![520, 2816]⟩
abbrev S512x2816 : Shape := ⟨2, ![512, 2816]⟩
abbrev S8x2816 : Shape := ⟨2, ![8, 2816]⟩
abbrev S512x1024 : Shape := ⟨2, ![512, 1024]⟩
abbrev S1024x256 : Shape := ⟨2, ![1024, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 19
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S1024x5632, .bf16⟩
  | .hbm, ⟨11, _⟩ => ⟨S1x2816, .f32⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S2x8x2816, .f32⟩
  | .hbm, ⟨17, _⟩ => ⟨S2x8192x1024, .f32⟩
  | .hbm, ⟨18, _⟩ => ⟨S2x8x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x8x2816, .f32⟩
  | .local _ .vmem, ⟨9, _⟩ => ⟨S1x8x2816, .f32⟩
  | .local _ .vmem, ⟨10, _⟩ => ⟨S1024x5632, .bf16⟩
  | .local _ .vmem, ⟨11, _⟩ => ⟨S3x2816, .f32⟩
  | .local _ .vmem, ⟨12, _⟩ => ⟨S1x2816, .f32⟩
  | .local _ .vmem, ⟨13, _⟩ => ⟨S2816x1024, .bf16⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x8x2816, .f32⟩
  | .local _ .vmem, ⟨19, _⟩ => ⟨S1x8x2816, .f32⟩
  | .local _ .vmem, ⟨20, _⟩ => ⟨S520x2816, .f32⟩
  | .local _ .vmem, ⟨21, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S2x8192x1024 : Shape := ⟨3, ![2, 8192, 1024]⟩
abbrev S2x1x1024 : Shape := ⟨3, ![2, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S2x8192x5632 : Shape := ⟨3, ![2, 8192, 5632]⟩
abbrev S2x8192x2816 : Shape := ⟨3, ![2, 8192, 2816]⟩
abbrev S2x2x2816 : Shape := ⟨3, ![2, 2, 2816]⟩
abbrev S2x8194x2816 : Shape := ⟨3, ![2, 8194, 2816]⟩
abbrev S1x2816 : Shape := ⟨2, ![1, 2816]⟩
abbrev S1x1x2816 : Shape := ⟨3, ![1, 1, 2816]⟩
abbrev S2x8192 : Shape := ⟨2, ![2, 8192]⟩
abbrev S2x8192x1 : Shape := ⟨3, ![2, 8192, 1]⟩
abbrev S1x1x1024 : Shape := ⟨3, ![1, 1, 1024]⟩
abbrev S2x8x2816 : Shape := ⟨3, ![2, 8, 2816]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x5632, .f32⟩
  | .hbm, ⟨18, _⟩ => ⟨S2x8192x2816, .f32⟩
  | .hbm, ⟨19, _⟩ => ⟨S2x8192x2816, .f32⟩
  | .hbm, ⟨20, _⟩ => ⟨S_, .f32⟩
  | .hbm, ⟨21, _⟩ => ⟨S2x2x2816, .f32⟩
  | .hbm, ⟨22, _⟩ => ⟨S2x8194x2816, .f32⟩
  | .hbm, ⟨23, _⟩ => ⟨S2x8192x2816, .f32⟩
  | .hbm, ⟨24, _⟩ => ⟨S1x2816, .f32⟩
  | .hbm, ⟨25, _⟩ => ⟨S2816, .f32⟩
  | .hbm, ⟨26, _⟩ => ⟨S1x1x2816, .f32⟩
  | .hbm, ⟨27, _⟩ => ⟨S2x8192x2816, .f32⟩
  | .hbm, ⟨28, _⟩ => ⟨S2x8192x2816, .f32⟩
  | .hbm, ⟨29, _⟩ => ⟨S_, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S1x2816, .f32⟩
  | .hbm, ⟨34, _⟩ => ⟨S2816, .f32⟩
  | .hbm, ⟨35, _⟩ => ⟨S1x1x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S1x1x2816, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S_, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S2x8192x1024, .f32⟩
  | .hbm, ⟨60, _⟩ => ⟨S_, .f32⟩
  | .hbm, ⟨61, _⟩ => ⟨S2x8192x1024, .f32⟩
  | .hbm, ⟨62, _⟩ => ⟨S2x8192x1024, .f32⟩
  | .hbm, ⟨63, _⟩ => ⟨S_, .f32⟩
  | .hbm, ⟨64, _⟩ => ⟨S2x1x1024, .f32⟩
  | .hbm, ⟨65, _⟩ => ⟨S2x1x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S_, .f32⟩
  | .hbm, ⟨70, _⟩ => ⟨S2x8192, .f32⟩
  | .hbm, ⟨71, _⟩ => ⟨S2x8192x1, .f32⟩
  | .hbm, ⟨72, _⟩ => ⟨S_, .f32⟩
  | .hbm, ⟨73, _⟩ => ⟨S2x8192x1, .f32⟩
  | .hbm, ⟨74, _⟩ => ⟨S2x8192x1, .f32⟩
  | .hbm, ⟨75, _⟩ => ⟨S2x8192x1024, .f32⟩
  | .hbm, ⟨76, _⟩ => ⟨S2x8192x1024, .f32⟩
  | .hbm, ⟨77, _⟩ => ⟨S2x8192x1024, .f32⟩
  | .hbm, ⟨78, _⟩ => ⟨S_, .f32⟩
  | .hbm, ⟨79, _⟩ => ⟨S2x8192, .f32⟩
  | .hbm, ⟨80, _⟩ => ⟨S2x8192x1, .f32⟩
  | .hbm, ⟨81, _⟩ => ⟨S_, .f32⟩
  | .hbm, ⟨82, _⟩ => ⟨S2x8192x1, .f32⟩
  | .hbm, ⟨83, _⟩ => ⟨S2x8192x1, .f32⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x8192x1, .f32⟩
  | .hbm, ⟨88, _⟩ => ⟨S2x8192x1, .f32⟩
  | .hbm, ⟨89, _⟩ => ⟨S2x8192x1, .f32⟩
  | .hbm, ⟨90, _⟩ => ⟨S2x8192x1024, .f32⟩
  | .hbm, ⟨91, _⟩ => ⟨S2x8192x1024, .f32⟩
  | .hbm, ⟨92, _⟩ => ⟨S1x1x1024, .f32⟩
  | .hbm, ⟨93, _⟩ => ⟨S2x8192x1024, .f32⟩
  | .hbm, ⟨94, _⟩ => ⟨S2x8192x1024, .f32⟩
  | .hbm, ⟨95, _⟩ => ⟨S1x1x1024, .f32⟩
  | .hbm, ⟨96, _⟩ => ⟨S2x8192x1024, .f32⟩
  | .hbm, ⟨97, _⟩ => ⟨S2x8192x1024, .f32⟩
  | .hbm, ⟨98, _⟩ => ⟨S2x8x2816, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1x1024 : Shape := ⟨3, ![2, 1, 1024]⟩
abbrev S1024x2560 : Shape := ⟨2, ![1024, 2560]⟩
abbrev S128x128 : Shape := ⟨2, ![128, 128]⟩
abbrev S_ : Shape := ⟨0, ![]⟩
abbrev S2x4x128x8192 : Shape := ⟨4, ![2, 4, 128, 8192]⟩
abbrev S2x4x32x256x256 : Shape := ⟨5, ![2, 4, 32, 256, 256]⟩
abbrev S2x4x32x128x256 : Shape := ⟨5, ![2, 4, 32, 128, 256]⟩
abbrev S2x512x8192 : Shape := ⟨3, ![2, 512, 8192]⟩
abbrev S2x8192x512 : Shape := ⟨3, ![2, 8192, 512]⟩
abbrev S1x512x1024 : Shape := ⟨3, ![1, 512, 1024]⟩
abbrev S1x1x1024 : Shape := ⟨3, ![1, 1, 1024]⟩
abbrev S1x4x128x512 : Shape := ⟨4, ![1, 4, 128, 512]⟩
abbrev S1x4x2x256x256 : Shape := ⟨5, ![1, 4, 2, 256, 256]⟩
abbrev S1x4x2x128x256 : Shape := ⟨5, ![1, 4, 2, 128, 256]⟩
abbrev S1x512x512 : Shape := ⟨3, ![1, 512, 512]⟩
abbrev S512x1024 : Shape := ⟨2, ![512, 1024]⟩
abbrev S1x1024 : Shape := ⟨2, ![1, 1024]⟩
abbrev S512x2560 : Shape := ⟨2, ![512, 2560]⟩
abbrev S512x512 : Shape := ⟨2, ![512, 512]⟩
abbrev S4x128x512 : Shape := ⟨3, ![4, 128, 512]⟩
abbrev S128x512 : Shape := ⟨2, ![128, 512]⟩
abbrev S512x128 : Shape := ⟨2, ![512, 128]⟩
abbrev S1x1x1x128x128 : Shape := ⟨5, ![1, 1, 1, 128, 128]⟩

abbrev nBuf : Space → Nat
  | .hbm => 59
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2560, .f32⟩
  | .hbm, ⟨4, _⟩ => ⟨S1024x2560, .bf16⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S128x128, .i32⟩
  | .hbm, ⟨20, _⟩ => ⟨S128x128, .i1⟩
  | .hbm, ⟨21, _⟩ => ⟨S_, .i32⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S128x128, .i1⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S_, .i32⟩
  | .hbm, ⟨30, _⟩ => ⟨S128x128, .i32⟩
  | .hbm, ⟨31, _⟩ => ⟨S128x128, .i32⟩
  | .hbm, ⟨32, _⟩ => ⟨S_, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i1⟩
  | .hbm, ⟨40, _⟩ => ⟨S128x128, .i32⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i1⟩
  | .hbm, ⟨45, _⟩ => ⟨S128x128, .i1⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S128x128, .bf16⟩
  | .hbm, ⟨53, _⟩ => ⟨S2x4x128x8192, .bf16⟩
  | .hbm, ⟨54, _⟩ => ⟨S2x4x32x256x256, .bf16⟩
  | .hbm, ⟨55, _⟩ => ⟨S2x4x32x128x256, .bf16⟩
  | .hbm, ⟨56, _⟩ => ⟨S2x512x8192, .f32⟩
  | .hbm, ⟨57, _⟩ => ⟨S2x512x8192, .f32⟩
  | .hbm, ⟨58, _⟩ => ⟨S2x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2560, .bf16⟩
  | .local _ .vmem, ⟨7, _⟩ => ⟨S128x128, .bf16⟩
  | .local _ .vmem, ⟨8, _⟩ => ⟨S1x4x128x512, .bf16⟩
  | .local _ .vmem, ⟨9, _⟩ => ⟨S1x4x128x512, .bf16⟩
  | .local _ .vmem, ⟨10, _⟩ => ⟨S1x4x2x256x256, .bf16⟩
  | .local _ .vmem, ⟨11, _⟩ => ⟨S1x4x2x256x256, .bf16⟩
  | .local _ .vmem, ⟨12, _⟩ => ⟨S1x4x2x128x256, .bf16⟩
  | .local _ .vmem, ⟨13, _⟩ => ⟨S1x4x2x128x256, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10_0 : Ref sig .tc := ⟨.hbm, 53, rfl⟩
abbrev main_v10_1 : Ref sig .tc := ⟨.hbm, 54, rfl⟩
abbrev main_v10_2 : Ref sig .tc := ⟨.hbm, 55, rfl⟩
abbrev main_v10_3 : Ref sig .tc := ⟨.hbm, 56, rfl⟩
abbrev main_v10_4 : Ref sig .tc := ⟨.hbm, 57, rfl⟩
abbrev main_v10_5 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x2x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x8192x1024 : Shape := ⟨3, ![2, 8192, 1024]⟩
abbrev S2x1x1024 : Shape := ⟨3, ![2, 1, 1024]⟩
abbrev S1024x2560 : Shape := ⟨2, ![1024, 2560]⟩
abbrev S_ : Shape := ⟨0, ![]⟩
abbrev S2x8192x2560 : Shape := ⟨3, ![2, 8192, 2560]⟩
abbrev S2x8192x512 : Shape := ⟨3, ![2, 8192, 512]⟩
abbrev S2x512x8192 : Shape := ⟨3, ![2, 512, 8192]⟩
abbrev S2x4x128x8192 : Shape := ⟨4, ![2, 4, 128, 8192]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2560, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x2560, .f32⟩
  | .hbm, ⟨12, _⟩ => ⟨S2x8192x512, .f32⟩
  | .hbm, ⟨13, _⟩ => ⟨S2x8192x512, .f32⟩
  | .hbm, ⟨14, _⟩ => ⟨S2x8192x512, .f32⟩
  | .hbm, ⟨15, _⟩ => ⟨S2x8192x512, .f32⟩
  | .hbm, ⟨16, _⟩ => ⟨S2x8192x512, .f32⟩
  | .hbm, ⟨17, _⟩ => ⟨S2x8192x512, .f32⟩
  | .hbm, ⟨18, _⟩ => ⟨S2x8192x512, .f32⟩
  | .hbm, ⟨19, _⟩ => ⟨S_, .f32⟩
  | .hbm, ⟨20, _⟩ => ⟨S2x8192x512, .f32⟩
  | .hbm, ⟨21, _⟩ => ⟨S2x8192x512, .f32⟩
  | .hbm, ⟨22, _⟩ => ⟨S_, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S_, .f32⟩
  | .hbm, ⟨27, _⟩ => ⟨S2x8192x512, .f32⟩
  | .hbm, ⟨28, _⟩ => ⟨S2x8192x512, .f32⟩
  | .hbm, ⟨29, _⟩ => ⟨S2x512x8192, .f32⟩
  | .hbm, ⟨30, _⟩ => ⟨S2x4x128x8192, .f32⟩
  | .hbm, ⟨31, _⟩ => ⟨S2x4x128x8192, .bf16⟩
  | .hbm, ⟨32, _⟩ => ⟨S2x512x8192, .f32⟩
  | .hbm, ⟨33, _⟩ => ⟨S2x512x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel3.lean ====
abbrev S32x8x1024 : Shape := ⟨3, ![32, 8, 1024]⟩
abbrev S32x1024 : Shape := ⟨2, ![32, 1024]⟩
abbrev S1024x2560 : Shape := ⟨2, ![1024, 2560]⟩
abbrev S32x30x512 : Shape := ⟨3, ![32, 30, 512]⟩
abbrev S8x32x1024 : Shape := ⟨3, ![8, 32, 1024]⟩
abbrev S1x256x1024 : Shape := ⟨3, ![1, 256, 1024]⟩
abbrev S1x32x1x1024 : Shape := ⟨4, ![1, 32, 1, 1024]⟩
abbrev S8x32x1x1024 : Shape := ⟨4, ![8, 32, 1, 1024]⟩
abbrev S256x1024 : Shape := ⟨2, ![256, 1024]⟩
abbrev S128x128 : Shape := ⟨2, ![128, 128]⟩
abbrev S_ : Shape := ⟨0, ![]⟩
abbrev S1x4x128x256 : Shape := ⟨4, ![1, 4, 128, 256]⟩
abbrev S1x512x256 : Shape := ⟨3, ![1, 512, 256]⟩
abbrev S1x256x512 : Shape := ⟨3, ![1, 256, 512]⟩
abbrev S256x2560 : Shape := ⟨2, ![256, 2560]⟩
abbrev S256x512 : Shape := ⟨2, ![256, 512]⟩
abbrev S512x256 : Shape := ⟨2, ![512, 256]⟩
abbrev S4x128x256 : Shape := ⟨3, ![4, 128, 256]⟩
abbrev S30x32x512 : Shape := ⟨3, ![30, 32, 512]⟩
abbrev S1x960x512 : Shape := ⟨3, ![1, 960, 512]⟩
abbrev S1x1216x512 : Shape := ⟨3, ![1, 1216, 512]⟩
abbrev S8x64x8x32 : Shape := ⟨4, ![8, 64, 8, 32]⟩
abbrev S32x8x8x64 : Shape := ⟨4, ![32, 8, 8, 64]⟩

abbrev nBuf : Space → Nat
  | .hbm => 80
  | .vmem => 9
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1024x2560, .f32⟩
  | .hbm, ⟨4, _⟩ => ⟨S32x30x512, .f32⟩
  | .hbm, ⟨5, _⟩ => ⟨S8x32x1024, .f32⟩
  | .hbm, ⟨6, _⟩ => ⟨S1x256x1024, .f32⟩
  | .hbm, ⟨7, _⟩ => ⟨S1x32x1x1024, .f32⟩
  | .hbm, ⟨8, _⟩ => ⟨S8x32x1x1024, .f32⟩
  | .hbm, ⟨9, _⟩ => ⟨S256x1024, .f32⟩
  | .hbm, ⟨10, _⟩ => ⟨S1x256x1024, .f32⟩
  | .hbm, ⟨11, _⟩ => ⟨S1x32x1x1024, .f32⟩
  | .hbm, ⟨12, _⟩ => ⟨S8x32x1x1024, .f32⟩
  | .hbm, ⟨13, _⟩ => ⟨S256x1024, .f32⟩
  | .hbm, ⟨14, _⟩ => ⟨S1x256x1024, .f32⟩
  | .hbm, ⟨15, _⟩ => ⟨S1024x2560, .bf16⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S128x128, .i32⟩
  | .hbm, ⟨25, _⟩ => ⟨S128x128, .i32⟩
  | .hbm, ⟨26, _⟩ => ⟨S_, .i32⟩
  | .hbm, ⟨27, _⟩ => ⟨S128x128, .i32⟩
  | .hbm, ⟨28, _⟩ => ⟨S128x128, .i1⟩
  | .hbm, ⟨29, _⟩ => ⟨S_, .i32⟩
  | .hbm, ⟨30, _⟩ => ⟨S128x128, .i32⟩
  | .hbm, ⟨31, _⟩ => ⟨S128x128, .i1⟩
  | .hbm, ⟨32, _⟩ => ⟨S_, .i32⟩
  | .hbm, ⟨33, _⟩ => ⟨S_, .i1⟩
  | .hbm, ⟨34, _⟩ => ⟨S128x128, .i1⟩
  | .hbm, ⟨35, _⟩ => ⟨S128x128, .i1⟩
  | .hbm, ⟨36, _⟩ => ⟨S128x128, .i1⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S_, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i1⟩
  | .hbm, ⟨51, _⟩ => ⟨S128x128, .i32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i1⟩
  | .hbm, ⟨56, _⟩ => ⟨S128x128, .i1⟩
  | .hbm, ⟨57, _⟩ => ⟨S_, .i32⟩
  | .hbm, ⟨58, _⟩ => ⟨S128x128, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S128x128, .bf16⟩
  | .hbm, ⟨64, _⟩ => ⟨S1x4x128x256, .bf16⟩
  | .hbm, ⟨65, _⟩ => ⟨S1x512x256, .f32⟩
  | .hbm, ⟨66, _⟩ => ⟨S1x512x256, .f32⟩
  | .hbm, ⟨67, _⟩ => ⟨S1x256x512, .f32⟩
  | .hbm, ⟨68, _⟩ => ⟨S30x32x512, .f32⟩
  | .hbm, ⟨69, _⟩ => ⟨S1x960x512, .f32⟩
  | .hbm, ⟨70, _⟩ => ⟨S1x1216x512, .f32⟩
  | .hbm, ⟨71, _⟩ => ⟨S8x64x8x32, .bf16⟩
  | .hbm, ⟨72, _⟩ => ⟨S32x8x8x64, .bf16⟩
  | .hbm, ⟨73, _⟩ => ⟨S8x64x8x32, .f32⟩
  | .hbm, ⟨74, _⟩ => ⟨S32x8x8x64, .f32⟩
  | .hbm, ⟨75, _⟩ => ⟨S8x64x8x32, .f32⟩
  | .hbm, ⟨76, _⟩ => ⟨S32x8x8x64, .f32⟩
  | .hbm, ⟨77, _⟩ => ⟨S1x960x512, .f32⟩
  | .hbm, ⟨78, _⟩ => ⟨S30x32x512, .f32⟩
  | .hbm, ⟨79, _⟩ => ⟨S32x30x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1024x2560, .bf16⟩
  | .local _ .vmem, ⟨4, _⟩ => ⟨S128x128, .bf16⟩
  | .local _ .vmem, ⟨5, _⟩ => ⟨S1x4x128x256, .bf16⟩
  | .local _ .vmem, ⟨6, _⟩ => ⟨S1x512x256, .f32⟩
  | .local _ .vmem, ⟨7, _⟩ => ⟨S1x512x256, .f32⟩
  | .local _ .vmem, ⟨8, _⟩ => ⟨S1x256x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v13 : Ref sig .tc := ⟨.hbm, 39, rfl⟩
abbrev main_c_0 : Ref sig .tc := ⟨.hbm, 40, rfl⟩
abbrev main_v14 : Ref sig .tc := ⟨.hbm, 41, rfl⟩
abbrev main_v15 : Ref sig .tc := ⟨.hbm, 42, rfl⟩
abbrev main_c_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20_0 : Ref sig .tc := ⟨.hbm, 64, rfl⟩
abbrev main_v20_1 : Ref sig .tc := ⟨.hbm, 65, rfl⟩
abbrev main_v20_2 : Ref sig .tc := ⟨.hbm, 66, rfl⟩
abbrev main_v20_3 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference3Ideal.lean ====
abbrev S32x8x1024 : Shape := ⟨3, ![32, 8, 1024]⟩
abbrev S32x1024 : Shape := ⟨2, ![32, 1024]⟩
abbrev S1024x2560 : Shape := ⟨2, ![1024, 2560]⟩
abbrev S32x30x512 : Shape := ⟨3, ![32, 30, 512]⟩
abbrev S32x1x1024 : Shape := ⟨3, ![32, 1, 1024]⟩
abbrev S_ : Shape := ⟨0, ![]⟩
abbrev S32x8x2560 : Shape := ⟨3, ![32, 8, 2560]⟩
abbrev S32x8x512 : Shape := ⟨3, ![32, 8, 512]⟩
abbrev S32x8x8x64 : Shape := ⟨4, ![32, 8, 8, 64]⟩
abbrev S32x38x512 : Shape := ⟨3, ![32, 38, 512]⟩

abbrev nBuf : Space → Nat
  | .hbm => 39
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1024x2560, .f32⟩
  | .hbm, ⟨4, _⟩ => ⟨S32x30x512, .f32⟩
  | .hbm, ⟨5, _⟩ => ⟨S32x1x1024, .f32⟩
  | .hbm, ⟨6, _⟩ => ⟨S_, .f32⟩
  | .hbm, ⟨7, _⟩ => ⟨S32x1x1024, .f32⟩
  | .hbm, ⟨8, _⟩ => ⟨S32x1x1024, .f32⟩
  | .hbm, ⟨9, _⟩ => ⟨S32x8x1024, .f32⟩
  | .hbm, ⟨10, _⟩ => ⟨S32x8x1024, .f32⟩
  | .hbm, ⟨11, _⟩ => ⟨S32x1x1024, .f32⟩
  | .hbm, ⟨12, _⟩ => ⟨S32x8x1024, .f32⟩
  | .hbm, ⟨13, _⟩ => ⟨S32x8x1024, .f32⟩
  | .hbm, ⟨14, _⟩ => ⟨S32x8x2560, .f32⟩
  | .hbm, ⟨15, _⟩ => ⟨S32x8x512, .f32⟩
  | .hbm, ⟨16, _⟩ => ⟨S32x8x512, .f32⟩
  | .hbm, ⟨17, _⟩ => ⟨S32x8x512, .f32⟩
  | .hbm, ⟨18, _⟩ => ⟨S32x8x512, .f32⟩
  | .hbm, ⟨19, _⟩ => ⟨S32x8x512, .f32⟩
  | .hbm, ⟨20, _⟩ => ⟨S32x8x512, .f32⟩
  | .hbm, ⟨21, _⟩ => ⟨S32x8x512, .f32⟩
  | .hbm, ⟨22, _⟩ => ⟨S_, .f32⟩
  | .hbm, ⟨23, _⟩ => ⟨S32x8x512, .f32⟩
  | .hbm, ⟨24, _⟩ => ⟨S32x8x512, .f32⟩
  | .hbm, ⟨25, _⟩ => ⟨S_, .f32⟩
  | .hbm, ⟨26, _⟩ => ⟨S32x8x512, .f32⟩
  | .hbm, ⟨27, _⟩ => ⟨S32x8x512, .f32⟩
  | .hbm, ⟨28, _⟩ => ⟨S32x8x512, .f32⟩
  | .hbm, ⟨29, _⟩ => ⟨S_, .f32⟩
  | .hbm, ⟨30, _⟩ => ⟨S32x8x512, .f32⟩
  | .hbm, ⟨31, _⟩ => ⟨S32x8x512, .f32⟩
  | .hbm, ⟨32, _⟩ => ⟨S32x8x8x64, .f32⟩
  | .hbm, ⟨33, _⟩ => ⟨S32x8x8x64, .f32⟩
  | .hbm, ⟨34, _⟩ => ⟨S32x8x8x64, .bf16⟩
  | .hbm, ⟨35, _⟩ => ⟨S32x8x8x64, .f32⟩
  | .hbm, ⟨36, _⟩ => ⟨S32x8x8x64, .f32⟩
  | .hbm, ⟨37, _⟩ => ⟨S32x38x512, .f32⟩
  | .hbm, ⟨38, _⟩ => ⟨S32x30x512, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel4.lean ====
abbrev S1x256x1024 : Shape := ⟨3, ![1, 256, 1024]⟩
abbrev S32x1024 : Shape := ⟨2, ![32, 1024]⟩
abbrev S32x2x2816 : Shape := ⟨3, ![32, 2, 2816]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S1x1024 : Shape := ⟨2, ![1, 1024]⟩
abbrev S1x32x1x1024 : Shape := ⟨4, ![1, 32, 1, 1024]⟩
abbrev S8x32x1x1024 : Shape := ⟨4, ![8, 32, 1, 1024]⟩
abbrev S256x1024 : Shape := ⟨2, ![256, 1024]⟩
abbrev S2x32x2816 : Shape := ⟨3, ![2, 32, 2816]⟩
abbrev S1x64x2816 : Shape := ⟨3, ![1, 64, 2816]⟩
abbrev S320x2816 : Shape := ⟨2, ![320, 2816]⟩
abbrev S256x2816 : Shape := ⟨2, ![256, 2816]⟩
abbrev S64x2816 : Shape := ⟨2, ![64, 2816]⟩
abbrev S1024x256 : Shape := ⟨2, ![1024, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S8x32x1024 : Shape := ⟨3, ![8, 32, 1024]⟩
abbrev S32x8x1024 : Shape := ⟨3, ![32, 8, 1024]⟩

abbrev nBuf : Space → Nat
  | .hbm => 36
  | .vmem => 15
  | .smem => 0
  | _ => 0

abbrev bufTy : (tb : Table) → Fin (tcTables nBuf tb) → BufTy
  | .hbm, ⟨0, _⟩ => ⟨S1x256x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x2x2816, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S1024x5632, .bf16⟩
  | .hbm, ⟨12, _⟩ => ⟨S1x2816, .f32⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S1x32x1x1024, .f32⟩
  | .hbm, ⟨17, _⟩ => ⟨S8x32x1x1024, .f32⟩
  | .hbm, ⟨18, _⟩ => ⟨S256x1024, .f32⟩
  | .hbm, ⟨19, _⟩ => ⟨S1x256x1024, .f32⟩
  | .hbm, ⟨20, _⟩ => ⟨S1x32x1x1024, .f32⟩
  | .hbm, ⟨21, _⟩ => ⟨S8x32x1x1024, .f32⟩
  | .hbm, ⟨22, _⟩ => ⟨S256x1024, .f32⟩
  | .hbm, ⟨23, _⟩ => ⟨S1x256x1024, .f32⟩
  | .hbm, ⟨24, _⟩ => ⟨S1x32x1x1024, .f32⟩
  | .hbm, ⟨25, _⟩ => ⟨S8x32x1x1024, .f32⟩
  | .hbm, ⟨26, _⟩ => ⟨S256x1024, .f32⟩
  | .hbm, ⟨27, _⟩ => ⟨S1x256x1024, .f32⟩
  | .hbm, ⟨28, _⟩ => ⟨S2x32x2816, .f32⟩
  | .hbm, ⟨29, _⟩ => ⟨S1x64x2816, .f32⟩
  | .hbm, ⟨30, _⟩ => ⟨S1x256x1024, .f32⟩
  | .hbm, ⟨31, _⟩ => ⟨S1x64x2816, .f32⟩
  | .hbm, ⟨32, _⟩ => ⟨S8x32x1024, .f32⟩
  | .hbm, ⟨33, _⟩ => ⟨S32x8x1024, .f32⟩
  | .hbm, ⟨34, _⟩ => ⟨S2x32x2816, .f32⟩
  | .hbm, ⟨35, _⟩ => ⟨S32x2x2816, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x64x2816, .f32⟩
  | .local _ .vmem, ⟨5, _⟩ => ⟨S1024x5632, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S1x256x1024, .f32⟩
  | .local _ .vmem, ⟨12, _⟩ => ⟨S1x64x2816, .f32⟩
  | .local _ .vmem, ⟨13, _⟩ => ⟨S320x2816, .f32⟩
  | .local _ .vmem, ⟨14, _⟩ => ⟨S256x2816, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x64x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x64x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== Reference4Ideal.lean ====
abbrev S1x256x1024 : Shape := ⟨3, ![1, 256, 1024]⟩
abbrev S32x1024 : Shape := ⟨2, ![32, 1024]⟩
abbrev S32x2x2816 : Shape := ⟨3, ![32, 2, 2816]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S8x32x1024 : Shape := ⟨3, ![8, 32, 1024]⟩
abbrev S32x8x1024 : Shape := ⟨3, ![32, 8, 1024]⟩
abbrev S32x1x1024 : Shape := ⟨3, ![32, 1, 1024]⟩
abbrev S_ : Shape := ⟨0, ![]⟩
abbrev S32x8x5632 : Shape := ⟨3, ![32, 8, 5632]⟩
abbrev S32x8x2816 : Shape := ⟨3, ![32, 8, 2816]⟩
abbrev S32x10x2816 : Shape := ⟨3, ![32, 10, 2816]⟩
abbrev S1x2816 : Shape := ⟨2, ![1, 2816]⟩
abbrev S1x1x2816 : Shape := ⟨3, ![1, 1, 2816]⟩
abbrev S32x8 : Shape := ⟨2, ![32, 8]⟩
abbrev S32x8x1 : Shape := ⟨3, ![32, 8, 1]⟩
abbrev S1x1x1024 : Shape := ⟨3, ![1, 1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x2x2816, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S8x32x1024, .f32⟩
  | .hbm, ⟨12, _⟩ => ⟨S32x8x1024, .f32⟩
  | .hbm, ⟨13, _⟩ => ⟨S32x1x1024, .f32⟩
  | .hbm, ⟨14, _⟩ => ⟨S_, .f32⟩
  | .hbm, ⟨15, _⟩ => ⟨S32x1x1024, .f32⟩
  | .hbm, ⟨16, _⟩ => ⟨S32x1x1024, .f32⟩
  | .hbm, ⟨17, _⟩ => ⟨S32x8x1024, .f32⟩
  | .hbm, ⟨18, _⟩ => ⟨S32x8x1024, .f32⟩
  | .hbm, ⟨19, _⟩ => ⟨S32x1x1024, .f32⟩
  | .hbm, ⟨20, _⟩ => ⟨S32x8x1024, .f32⟩
  | .hbm, ⟨21, _⟩ => ⟨S32x8x1024, .f32⟩
  | .hbm, ⟨22, _⟩ => ⟨S32x8x5632, .f32⟩
  | .hbm, ⟨23, _⟩ => ⟨S32x8x2816, .f32⟩
  | .hbm, ⟨24, _⟩ => ⟨S32x8x2816, .f32⟩
  | .hbm, ⟨25, _⟩ => ⟨S32x10x2816, .f32⟩
  | .hbm, ⟨26, _⟩ => ⟨S32x8x2816, .f32⟩
  | .hbm, ⟨27, _⟩ => ⟨S1x2816, .f32⟩
  | .hbm, ⟨28, _⟩ => ⟨S2816, .f32⟩
  | .hbm, ⟨29, _⟩ => ⟨S1x1x2816, .f32⟩
  | .hbm, ⟨30, _⟩ => ⟨S32x8x2816, .f32⟩
  | .hbm, ⟨31, _⟩ => ⟨S32x8x2816, .f32⟩
  | .hbm, ⟨32, _⟩ => ⟨S_, .f32⟩
  | .hbm, ⟨33, _⟩ => ⟨S32x8x2816, .f32⟩
  | .hbm, ⟨34, _⟩ => ⟨S32x8x2816, .f32⟩
  | .hbm, ⟨35, _⟩ => ⟨S32x8x2816, .f32⟩
  | .hbm, ⟨36, _⟩ => ⟨S1x2816, .f32⟩
  | .hbm, ⟨37, _⟩ => ⟨S2816, .f32⟩
  | .hbm, ⟨38, _⟩ => ⟨S1x1x2816, .f32⟩
  | .hbm, ⟨39, _⟩ => ⟨S32x8x2816, .f32⟩
  | .hbm, ⟨40, _⟩ => ⟨S32x8x2816, .f32⟩
  | .hbm, ⟨41, _⟩ => ⟨S32x8x2816, .f32⟩
  | .hbm, ⟨42, _⟩ => ⟨S32x8x2816, .f32⟩
  | .hbm, ⟨43, _⟩ => ⟨S1x2816, .f32⟩
  | .hbm, ⟨44, _⟩ => ⟨S2816, .f32⟩
  | .hbm, ⟨45, _⟩ => ⟨S1x1x2816, .f32⟩
  | .hbm, ⟨46, _⟩ => ⟨S32x8x2816, .f32⟩
  | .hbm, ⟨47, _⟩ => ⟨S32x8x2816, .f32⟩
  | .hbm, ⟨48, _⟩ => ⟨S32x8x2816, .f32⟩
  | .hbm, ⟨49, _⟩ => ⟨S1x1x2816, .f32⟩
  | .hbm, ⟨50, _⟩ => ⟨S32x8x2816, .f32⟩
  | .hbm, ⟨51, _⟩ => ⟨S32x8x2816, .f32⟩
  | .hbm, ⟨52, _⟩ => ⟨S_, .f32⟩
  | .hbm, ⟨53, _⟩ => ⟨S32x8x2816, .f32⟩
  | .hbm, ⟨54, _⟩ => ⟨S32x8x2816, .f32⟩
  | .hbm, ⟨55, _⟩ => ⟨S32x8x2816, .f32⟩
  | .hbm, ⟨56, _⟩ => ⟨S_, .f32⟩
  | .hbm, ⟨57, _⟩ => ⟨S32x8x2816, .f32⟩
  | .hbm, ⟨58, _⟩ => ⟨S32x8x2816, .f32⟩
  | .hbm, ⟨59, _⟩ => ⟨S32x8x2816, .f32⟩
  | .hbm, ⟨60, _⟩ => ⟨S32x8x2816, .f32⟩
  | .hbm, ⟨61, _⟩ => ⟨S32x8x2816, .f32⟩
  | .hbm, ⟨62, _⟩ => ⟨S32x8x1024, .f32⟩
  | .hbm, ⟨63, _⟩ => ⟨S_, .f32⟩
  | .hbm, ⟨64, _⟩ => ⟨S32x8x1024, .f32⟩
  | .hbm, ⟨65, _⟩ => ⟨S32x8x1024, .f32⟩
  | .hbm, ⟨66, _⟩ => ⟨S32x1x1024, .f32⟩
  | .hbm, ⟨67, _⟩ => ⟨S_, .f32⟩
  | .hbm, ⟨68, _⟩ => ⟨S32x1x1024, .f32⟩
  | .hbm, ⟨69, _⟩ => ⟨S32x1x1024, .f32⟩
  | .hbm, ⟨70, _⟩ => ⟨S32x8x1024, .f32⟩
  | .hbm, ⟨71, _⟩ => ⟨S32x8x1024, .f32⟩
  | .hbm, ⟨72, _⟩ => ⟨S32x8x1024, .f32⟩
  | .hbm, ⟨73, _⟩ => ⟨S_, .f32⟩
  | .hbm, ⟨74, _⟩ => ⟨S32x8, .f32⟩
  | .hbm, ⟨75, _⟩ => ⟨S32x8x1, .f32⟩
  | .hbm, ⟨76, _⟩ => ⟨S_, .f32⟩
  | .hbm, ⟨77, _⟩ => ⟨S32x8x1, .f32⟩
  | .hbm, ⟨78, _⟩ => ⟨S32x8x1, .f32⟩
  | .hbm, ⟨79, _⟩ => ⟨S32x8x1024, .f32⟩
  | .hbm, ⟨80, _⟩ => ⟨S32x8x1024, .f32⟩
  | .hbm, ⟨81, _⟩ => ⟨S32x8x1024, .f32⟩
  | .hbm, ⟨82, _⟩ => ⟨S_, .f32⟩
  | .hbm, ⟨83, _⟩ => ⟨S32x8, .f32⟩
  | .hbm, ⟨84, _⟩ => ⟨S32x8x1, .f32⟩
  | .hbm, ⟨85, _⟩ => ⟨S_, .f32⟩
  | .hbm, ⟨86, _⟩ => ⟨S32x8x1, .f32⟩
  | .hbm, ⟨87, _⟩ => ⟨S32x8x1, .f32⟩
  | .hbm, ⟨88, _⟩ => ⟨S32x8x1024, .f32⟩
  | .hbm, ⟨89, _⟩ => ⟨S32x8x1024, .f32⟩
  | .hbm, ⟨90, _⟩ => ⟨S_, .f32⟩
  | .hbm, ⟨91, _⟩ => ⟨S32x8x1, .f32⟩
  | .hbm, ⟨92, _⟩ => ⟨S32x8x1, .f32⟩
  | .hbm, ⟨93, _⟩ => ⟨S32x8x1, .f32⟩
  | .hbm, ⟨94, _⟩ => ⟨S32x8x1024, .f32⟩
  | .hbm, ⟨95, _⟩ => ⟨S32x8x1024, .f32⟩
  | .hbm, ⟨96, _⟩ => ⟨S1x1x1024, .f32⟩
  | .hbm, ⟨97, _⟩ => ⟨S32x8x1024, .f32⟩
  | .hbm, ⟨98, _⟩ => ⟨S32x8x1024, .f32⟩
  | .hbm, ⟨99, _⟩ => ⟨S1x1x1024, .f32⟩
  | .hbm, ⟨100, _⟩ => ⟨S32x8x1024, .f32⟩
  | .hbm, ⟨101, _⟩ => ⟨S32x8x1024, .f32⟩
  | .hbm, ⟨102, _⟩ => ⟨S32x2x2816, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_1 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_5 : Ref sig .tc := ⟨.hbm, 73, rfl⟩
abbrev main_v56 : Ref sig .tc := ⟨.hbm, 74, rfl⟩
abbrev main_v57 : Ref sig .tc := ⟨.hbm, 75, rfl⟩
abbrev main_cst_6 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_9 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x8192x512 : Shape := ⟨3, ![2, 8192, 512]⟩
abbrev S2x1x1024 : Shape := ⟨3, ![2, 1, 1024]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S1x32x512 : Shape := ⟨3, ![1, 32, 512]⟩
abbrev S1x1x1024 : Shape := ⟨3, ![1, 1, 1024]⟩
abbrev S544x512 : Shape := ⟨2, ![544, 512]⟩
abbrev S7x544x512 : Shape := ⟨3, ![7, 544, 512]⟩
abbrev S32x512 : Shape := ⟨2, ![32, 512]⟩
abbrev S512x512 : Shape := ⟨2, ![512, 512]⟩
abbrev S536x512 : Shape := ⟨2, ![536, 512]⟩
abbrev S1x536x512 : Shape := ⟨3, ![1, 536, 512]⟩
abbrev S512x1 : Shape := ⟨2, ![512, 1]⟩
abbrev S512x1024 : Shape := ⟨2, ![512, 1024]⟩

abbrev nBuf : Space → Nat
  | .hbm => 22
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x1x1024, .f32⟩
  | .hbm, ⟨4, _⟩ => ⟨S31x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x32x512, .f32⟩
  | .local _ .vmem, ⟨5, _⟩ => ⟨S1x32x512, .f32⟩
  | .local _ .vmem, ⟨6, _⟩ => ⟨S1x512x512, .f32⟩
  | .local _ .vmem, ⟨7, _⟩ => ⟨S1x512x512, .f32⟩
  | .local _ .vmem, ⟨8, _⟩ => ⟨S1x1x1024, .f32⟩
  | .local _ .vmem, ⟨9, _⟩ => ⟨S1x1x1024, .f32⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S544x512, .f32⟩
  | .local _ .vmem, ⟨22, _⟩ => ⟨S7x544x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference5Ideal.lean ====
abbrev S2x8192x1024 : Shape := ⟨3, ![2, 8192, 1024]⟩
abbrev S2x8192x512 : Shape := ⟨3, ![2, 8192, 512]⟩
abbrev S2x1x1024 : Shape := ⟨3, ![2, 1, 1024]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S_ : Shape := ⟨0, ![]⟩
abbrev S2x8222x512 : Shape := ⟨3, ![2, 8222, 512]⟩
abbrev S1x512 : Shape := ⟨2, ![1, 512]⟩
abbrev S1x1x512 : Shape := ⟨3, ![1, 1, 512]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 335
  | .vmem => 0
  | .smem => 0
  | _ => 0

abbrev hbmTy0_0 (i : Nat) : BufTy := match i % 128 with
  | 0 => ⟨S2x8192x1024, .f32⟩
  | 1 => ⟨S2x8192x512, .f32⟩
  | 2 => ⟨S2x8192x512, .f32⟩
  | 3 => ⟨S2x1x1024, .f32⟩
  | 4 => ⟨S31x512, .f32⟩
  | 5 => ⟨S512, .f32⟩
  | 6 => ⟨S512, .f32⟩
  | 7 => ⟨S512, .f32⟩
  | 8 => ⟨S512, .f32⟩
  | 9 => ⟨S512, .f32⟩
  | 10 => ⟨S1024x1024, .f32⟩
  | 11 => ⟨S1024, .f32⟩
  | 12 => ⟨S1024, .f32⟩
  | 13 => ⟨S_, .i32⟩
  | 14 => ⟨S_, .f32⟩
  | 15 => ⟨S2x8222x512, .f32⟩
  | 16 => ⟨S2x8192x512, .f32⟩
  | 17 => ⟨S1x512, .f32⟩
  | 18 => ⟨S512, .f32⟩
  | 19 => ⟨S1x1x512, .f32⟩
  | 20 => ⟨S2x8192x512, .f32⟩
  | 21 => ⟨S2x8192x512, .f32⟩
  | 22 => ⟨S_, .f32⟩
  | 23 => ⟨S2x8192x512, .f32⟩
  | 24 => ⟨S2x8192x512, .f32⟩
  | 25 => ⟨S2x8192x512, .f32⟩
  | 26 => ⟨S1x512, .f32⟩
  | 27 => ⟨S512, .f32⟩
  | 28 => ⟨S1x1x512, .f32⟩
  | 29 => ⟨S2x8192x512, .f32⟩
  | 30 => ⟨S2x8192x512, .f32⟩
  | 31 => ⟨S2x8192x512, .f32⟩
  | 32 => ⟨S2x8192x512, .f32⟩
  | 33 => ⟨S1x512, .f32⟩
  | 34 => ⟨S512, .f32⟩
  | 35 => ⟨S1x1x512, .f32⟩
  | 36 => ⟨S2x8192x512, .f32⟩
  | 37 => ⟨S2x8192x512, .f32⟩
  | 38 => ⟨S2x8192x512, .f32⟩
  | 39 => ⟨S2x8192x512, .f32⟩
  | 40 => ⟨S1x512, .f32⟩
  | 41 => ⟨S512, .f32⟩
  | 42 => ⟨S1x1x512, .f32⟩
  | 43 => ⟨S2x8192x512, .f32⟩
  | 44 => ⟨S2x8192x512, .f32⟩
  | 45 => ⟨S2x8192x512, .f32⟩
  | 46 => ⟨S2x8192x512, .f32⟩
  | 47 => ⟨S1x512, .f32⟩
  | 48 => ⟨S512, .f32⟩
  | 49 => ⟨S1x1x512, .f32⟩
  | 50 => ⟨S2x8192x512, .f32⟩
  | 51 => ⟨S2x8192x512, .f32⟩
  | 52 => ⟨S2x8192x512, .f32⟩
  | 53 => ⟨S2x8192x512, .f32⟩
  | 54 => ⟨S1x512, .f32⟩
  | 55 => ⟨S512, .f32⟩
  | 56 => ⟨S1x1x512, .f32⟩
  | 57 => ⟨S2x8192x512, .f32⟩
  | 58 => ⟨S2x8192x512, .f32⟩
  | 59 => ⟨S2x8192x512, .f32⟩
  | 60 => ⟨S2x8192x512, .f32⟩
  | 61 => ⟨S1x512, .f32⟩
  | 62 => ⟨S512, .f32⟩
  | 63 => ⟨S1x1x512, .f32⟩
  | 64 => ⟨S2x8192x512, .f32⟩
  | 65 => ⟨S2x8192x512, .f32⟩
  | 66 => ⟨S2x8192x512, .f32⟩
  | 67 => ⟨S2x8192x512, .f32⟩
  | 68 => ⟨S1x512, .f32⟩
  | 69 => ⟨S512, .f32⟩
  | 70 => ⟨S1x1x512, .f32⟩
  | 71 => ⟨S2x8192x512, .f32⟩
  | 72 => ⟨S2x8192x512, .f32⟩
  | 73 => ⟨S2x8192x512, .f32⟩
  | 74 => ⟨S2x8192x512, .f32⟩
  | 75 => ⟨S1x512, .f32⟩
  | 76 => ⟨S512, .f32⟩
  | 77 => ⟨S1x1x512, .f32⟩
  | 78 => ⟨S2x8192x512, .f32⟩
  | 79 => ⟨S2x8192x512, .f32⟩
  | 80 => ⟨S2x8192x512, .f32⟩
  | 81 => ⟨S2x8192x512, .f32⟩
  | 82 => ⟨S1x512, .f32⟩
  | 83 => ⟨S512, .f32⟩
  | 84 => ⟨S1x1x512, .f32⟩
  | 85 => ⟨S2x8192x512, .f32⟩
  | 86 => ⟨S2x8192x512, .f32⟩
  | 87 => ⟨S2x8192x512, .f32⟩
  | 88 => ⟨S2x8192x512, .f32⟩
  | 89 => ⟨S1x512, .f32⟩
  | 90 => ⟨S512, .f32⟩
  | 91 => ⟨S1x1x512, .f32⟩
  | 92 => ⟨S2x8192x512, .f32⟩
  | 93 => ⟨S2x8192x512, .f32⟩
  | 94 => ⟨S2x8192x512, .f32⟩
  | 95 => ⟨S2x8192x512, .f32⟩
  | 96 => ⟨S1x512, .f32⟩
  | 97 => ⟨S512, .f32⟩
  | 98 => ⟨S1x1x512, .f32⟩
  | 99 => ⟨S2x8192x512, .f32⟩
  | 100 => ⟨S2x8192x512, .f32⟩
  | 101 => ⟨S2x8192x512, .f32⟩
  | 102 => ⟨S2x8192x512, .f32⟩
  | 103 => ⟨S1x512, .f32⟩
  | 104 => ⟨S512, .f32⟩
  | 105 => ⟨S1x1x512, .f32⟩
  | 106 => ⟨S2x8192x512, .f32⟩
  | 107 => ⟨S2x8192x512, .f32⟩
  | 108 => ⟨S2x8192x512, .f32⟩
  | 109 => ⟨S2x8192x512, .f32⟩
  | 110 => ⟨S1x512, .f32⟩
  | 111 => ⟨S512, .f32⟩
  | 112 => ⟨S1x1x512, .f32⟩
  | 113 => ⟨S2x8192x512, .f32⟩
  | 114 => ⟨S2x8192x512, .f32⟩
  | 115 => ⟨S2x8192x512, .f32⟩
  | 116 => ⟨S2x8192x512, .f32⟩
  | 117 => ⟨S1x512, .f32⟩
  | 118 => ⟨S512, .f32⟩
  | 119 => ⟨S1x1x512, .f32⟩
  | 120 => ⟨S2x8192x512, .f32⟩
  | 121 => ⟨S2x8192x512, .f32⟩
  | 122 => ⟨S2x8192x512, .f32⟩
  | 123 => ⟨S2x8192x512, .f32⟩
  | 124 => ⟨S1x512, .f32⟩
  | 125 => ⟨S512, .f32⟩
  | 126 => ⟨S1x1x512, .f32⟩
  | 127 => ⟨S2x8192x512, .f32⟩
  | _ => ⟨S2x8192x1024, .f32⟩

abbrev hbmTy0_1 (i : Nat) : BufTy := match i % 128 with
  | 0 => ⟨S2x8192x512, .f32⟩
  | 1 => ⟨S2x8192x512, .f32⟩
  | 2 => ⟨S2x8192x512, .f32⟩
  | 3 => ⟨S1x512, .f32⟩
  | 4 => ⟨S512, .f32⟩
  | 5 => ⟨S1x1x512, .f32⟩
  | 6 => ⟨S2x8192x512, .f32⟩
  | 7 => ⟨S2x8192x512, .f32⟩
  | 8 => ⟨S2x8192x512, .f32⟩
  | 9 => ⟨S2x8192x512, .f32⟩
  | 10 => ⟨S1x512, .f32⟩
  | 11 => ⟨S512, .f32⟩
  | 12 => ⟨S1x1x512, .f32⟩
  | 13 => ⟨S2x8192x512, .f32⟩
  | 14 => ⟨S2x8192x512, .f32⟩
  | 15 => ⟨S2x8192x512, .f32⟩
  | 16 => ⟨S2x8192x512, .f32⟩
  | 17 => ⟨S1x512, .f32⟩
  | 18 => ⟨S512, .f32⟩
  | 19 => ⟨S1x1x512, .f32⟩
  | 20 => ⟨S2x8192x512, .f32⟩
  | 21 => ⟨S2x8192x512, .f32⟩
  | 22 => ⟨S2x8192x512, .f32⟩
  | 23 => ⟨S2x8192x512, .f32⟩
  | 24 => ⟨S1x512, .f32⟩
  | 25 => ⟨S512, .f32⟩
  | 26 => ⟨S1x1x512, .f32⟩
  | 27 => ⟨S2x8192x512, .f32⟩
  | 28 => ⟨S2x8192x512, .f32⟩
  | 29 => ⟨S2x8192x512, .f32⟩
  | 30 => ⟨S2x8192x512, .f32⟩
  | 31 => ⟨S1x512, .f32⟩
  | 32 => ⟨S512, .f32⟩
  | 33 => ⟨S1x1x512, .f32⟩
  | 34 => ⟨S2x8192x512, .f32⟩
  | 35 => ⟨S2x8192x512, .f32⟩
  | 36 => ⟨S2x8192x512, .f32⟩
  | 37 => ⟨S2x8192x512, .f32⟩
  | 38 => ⟨S1x512, .f32⟩
  | 39 => ⟨S512, .f32⟩
  | 40 => ⟨S1x1x512, .f32⟩
  | 41 => ⟨S2x8192x512, .f32⟩
  | 42 => ⟨S2x8192x512, .f32⟩
  | 43 => ⟨S2x8192x512, .f32⟩
  | 44 => ⟨S2x8192x512, .f32⟩
  | 45 => ⟨S1x512, .f32⟩
  | 46 => ⟨S512, .f32⟩
  | 47 => ⟨S1x1x512, .f32⟩
  | 48 => ⟨S2x8192x512, .f32⟩
  | 49 => ⟨S2x8192x512, .f32⟩
  | 50 => ⟨S2x8192x512, .f32⟩
  | 51 => ⟨S2x8192x512, .f32⟩
  | 52 => ⟨S1x512, .f32⟩
  | 53 => ⟨S512, .f32⟩
  | 54 => ⟨S1x1x512, .f32⟩
  | 55 => ⟨S2x8192x512, .f32⟩
  | 56 => ⟨S2x8192x512, .f32⟩
  | 57 => ⟨S2x8192x512, .f32⟩
  | 58 => ⟨S2x8192x512, .f32⟩
  | 59 => ⟨S1x512, .f32⟩
  | 60 => ⟨S512, .f32⟩
  | 61 => ⟨S1x1x512, .f32⟩
  | 62 => ⟨S2x8192x512, .f32⟩
  | 63 => ⟨S2x8192x512, .f32⟩
  | 64 => ⟨S2x8192x512, .f32⟩
  | 65 => ⟨S2x8192x512, .f32⟩
  | 66 => ⟨S1x512, .f32⟩
  | 67 => ⟨S512, .f32⟩
  | 68 => ⟨S1x1x512, .f32⟩
  | 69 => ⟨S2x8192x512, .f32⟩
  | 70 => ⟨S2x8192x512, .f32⟩
  | 71 => ⟨S2x8192x512, .f32⟩
  | 72 => ⟨S2x8192x512, .f32⟩
  | 73 => ⟨S1x512, .f32⟩
  | 74 => ⟨S512, .f32⟩
  | 75 => ⟨S1x1x512, .f32⟩
  | 76 => ⟨S2x8192x512, .f32⟩
  | 77 => ⟨S2x8192x512, .f32⟩
  | 78 => ⟨S2x8192x512, .f32⟩
  | 79 => ⟨S2x8192x512, .f32⟩
  | 80 => ⟨S1x512, .f32⟩
  | 81 => ⟨S512, .f32⟩
  | 82 => ⟨S1x1x512, .f32⟩
  | 83 => ⟨S2x8192x512, .f32⟩
  | 84 => ⟨S2x8192x512, .f32⟩
  | 85 => ⟨S2x8192x512, .f32⟩
  | 86 => ⟨S2x8192x512, .f32⟩
  | 87 => ⟨S1x512, .f32⟩
  | 88 => ⟨S512, .f32⟩
  | 89 => ⟨S1x1x512, .f32⟩
  | 90 => ⟨S2x8192x512, .f32⟩
  | 91 => ⟨S2x8192x512, .f32⟩
  | 92 => ⟨S2x8192x512, .f32⟩
  | 93 => ⟨S2x8192x512, .f32⟩
  | 94 => ⟨S1x512, .f32⟩
  | 95 => ⟨S512, .f32⟩
  | 96 => ⟨S1x1x512, .f32⟩
  | 97 => ⟨S2x8192x512, .f32⟩
  | 98 => ⟨S2x8192x512, .f32⟩
  | 99 => ⟨S2x8192x512, .f32⟩
  | 100 => ⟨S2x8192x512, .f32⟩
  | 101 => ⟨S1x512, .f32⟩
  | 102 => ⟨S512, .f32⟩
  | 103 => ⟨S1x1x512, .f32⟩
  | 104 => ⟨S2x8192x512, .f32⟩
  | 105 => ⟨S2x8192x512, .f32⟩
  | 106 => ⟨S2x8192x512, .f32⟩
  | 107 => ⟨S1x1x512, .f32⟩
  | 108 => ⟨S2x8192x512, .f32⟩
  | 109 => ⟨S2x8192x512, .f32⟩
  | 110 => ⟨S_, .f32⟩
  | 111 => ⟨S2x8192, .f32⟩
  | 112 => ⟨S2x8192x1, .f32⟩
  | 113 => ⟨S_, .f32⟩
  | 114 => ⟨S2x8192x1, .f32⟩
  | 115 => ⟨S2x8192x1, .f32⟩
  | 116 => ⟨S2x8192x512, .f32⟩
  | 117 => ⟨S2x8192x512, .f32⟩
  | 118 => ⟨S2x8192x512, .f32⟩
  | 119 => ⟨S_, .f32⟩
  | 120 => ⟨S2x8192, .f32⟩
  | 121 => ⟨S2x8192x1, .f32⟩
  | 122 => ⟨S_, .f32⟩
  | 123 => ⟨S2x8192x1, .f32⟩
  | 124 => ⟨S2x8192x1, .f32⟩
  | 125 => ⟨S2x8192x512, .f32⟩
  | 126 => ⟨S2x8192x512, .f32⟩
  | 127 => ⟨S_, .f32⟩
  | _ => ⟨S2x8192x1024, .f32⟩

abbrev hbmTy0_2 (i : Nat) : BufTy := match i % 128 with
  | 0 => ⟨S2x8192x1, .f32⟩
  | 1 => ⟨S2x8192x1, .f32⟩
  | 2 => ⟨S2x8192x1, .f32⟩
  | 3 => ⟨S2x8192x512, .f32⟩
  | 4 => ⟨S2x8192x512, .f32⟩
  | 5 => ⟨S1x1x512, .f32⟩
  | 6 => ⟨S2x8192x512, .f32⟩
  | 7 => ⟨S2x8192x512, .f32⟩
  | 8 => ⟨S1x1x512, .f32⟩
  | 9 => ⟨S2x8192x512, .f32⟩
  | 10 => ⟨S2x8192x512, .f32⟩
  | 11 => ⟨S2x8192x512, .f32⟩
  | 12 => ⟨S2x8192x512, .f32⟩
  | 13 => ⟨S_, .f32⟩
  | 14 => ⟨S2x8192x512, .f32⟩
  | 15 => ⟨S2x8192x512, .f32⟩
  | 16 => ⟨S_, .f32⟩
  | 17 => ⟨S2x8192x512, .f32⟩
  | 18 => ⟨S2x8192x512, .f32⟩
  | 19 => ⟨S2x8192x512, .f32⟩
  | 20 => ⟨S2x8192x512, .f32⟩
  | 21 => ⟨S_, .f32⟩
  | 22 => ⟨S2x8192, .f32⟩
  | 23 => ⟨S2x8192x1, .f32⟩
  | 24 => ⟨S_, .f32⟩
  | 25 => ⟨S2x8192x1, .f32⟩
  | 26 => ⟨S2x8192x1, .f32⟩
  | 27 => ⟨S_, .f32⟩
  | 28 => ⟨S2x8192x1, .f32⟩
  | 29 => ⟨S2x8192x1, .f32⟩
  | 30 => ⟨S2x8192x1, .f32⟩
  | 31 => ⟨S2x8192x512, .f32⟩
  | 32 => ⟨S2x8192x512, .f32⟩
  | 33 => ⟨S1x1x512, .f32⟩
  | 34 => ⟨S2x8192x512, .f32⟩
  | 35 => ⟨S2x8192x512, .f32⟩
  | 36 => ⟨S1x1x512, .f32⟩
  | 37 => ⟨S2x8192x512, .f32⟩
  | 38 => ⟨S2x8192x512, .f32⟩
  | 39 => ⟨S2x8192x1024, .f32⟩
  | 40 => ⟨S2x8192x1024, .f32⟩
  | 41 => ⟨S_, .f32⟩
  | 42 => ⟨S2x8192x1024, .f32⟩
  | 43 => ⟨S2x8192x1024, .f32⟩
  | 44 => ⟨S_, .f32⟩
  | 45 => ⟨S2x1x1024, .f32⟩
  | 46 => ⟨S2x1x1024, .f32⟩
  | 47 => ⟨S2x8192x1024, .f32⟩
  | 48 => ⟨S2x8192x1024, .f32⟩
  | 49 => ⟨S2x8192x1024, .f32⟩
  | 50 => ⟨S_, .f32⟩
  | 51 => ⟨S2x8192, .f32⟩
  | 52 => ⟨S2x8192x1, .f32⟩
  | 53 => ⟨S_, .f32⟩
  | 54 => ⟨S2x8192x1, .f32⟩
  | 55 => ⟨S2x8192x1, .f32⟩
  | 56 => ⟨S2x8192x1024, .f32⟩
  | 57 => ⟨S2x8192x1024, .f32⟩
  | 58 => ⟨S2x8192x1024, .f32⟩
  | 59 => ⟨S_, .f32⟩
  | 60 => ⟨S2x8192, .f32⟩
  | 61 => ⟨S2x8192x1, .f32⟩
  | 62 => ⟨S_, .f32⟩
  | 63 => ⟨S2x8192x1, .f32⟩
  | 64 => ⟨S2x8192x1, .f32⟩
  | 65 => ⟨S2x8192x1024, .f32⟩
  | 66 => ⟨S2x8192x1024, .f32⟩
  | 67 => ⟨S_, .f32⟩
  | 68 => ⟨S2x8192x1, .f32⟩
  | 69 => ⟨S2x8192x1, .f32⟩
  | 70 => ⟨S2x8192x1, .f32⟩
  | 71 => ⟨S2x8192x1024, .f32⟩
  | 72 => ⟨S2x8192x1024, .f32⟩
  | 73 => ⟨S1x1x1024, .f32⟩
  | 74 => ⟨S2x8192x1024, .f32⟩
  | 75 => ⟨S2x8192x1024, .f32⟩
  | 76 => ⟨S1x1x1024, .f32⟩
  | 77 => ⟨S2x8192x1024, .f32⟩
  | 78 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_cst_0 : Ref sig .tc := ⟨.hbm, 238, rfl⟩
abbrev main_v222 : Ref sig .tc := ⟨.hbm, 239, rfl⟩
abbrev main_v223 : Ref sig .tc := ⟨.hbm, 240, rfl⟩
abbrev main_cst_1 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_cst_2 : Ref sig .tc := ⟨.hbm, 247, rfl⟩
abbrev main_v229 : Ref sig .tc := ⟨.hbm, 248, rfl⟩
abbrev main_v230 : Ref sig .tc := ⟨.hbm, 249, rfl⟩
abbrev main_cst_3 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_cst_4 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_cst_5 : Ref sig .tc := ⟨.hbm, 269, rfl⟩
abbrev main_v248 : Ref sig .tc := ⟨.hbm, 270, rfl⟩
abbrev main_v249 : Ref sig .tc := ⟨.hbm, 271, rfl⟩
abbrev main_cst_6 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_cst_7 : Ref sig .tc := ⟨.hbm, 277, rfl⟩
abbrev main_v254 : Ref sig .tc := ⟨.hbm, 278, rfl⟩
abbrev main_v255 : Ref sig .tc := ⟨.hbm, 279, rfl⟩
abbrev main_cst_8 : Ref sig .tc := ⟨.hbm, 280, rfl⟩
abbrev main_v256 : Ref sig .tc := ⟨.hbm, 281, rfl⟩
abbrev main_v257 : Ref sig .tc := ⟨.hbm, 282, rfl⟩
abbrev main_cst_9 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_cst_10 : Ref sig .tc := ⟨.hbm, 297, rfl⟩
abbrev main_v271 : Ref sig .tc := ⟨.hbm, 298, rfl⟩
abbrev main_v272 : Ref sig .tc := ⟨.hbm, 299, rfl⟩
abbrev main_cst_11 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_cst_12 : Ref sig .tc := ⟨.hbm, 306, rfl⟩
abbrev main_v278 : Ref sig .tc := ⟨.hbm, 307, rfl⟩
abbrev main_v279 : Ref sig .tc := ⟨.hbm, 308, rfl⟩
abbrev main_cst_13 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_cst_14 : Ref sig .tc := ⟨.hbm, 315, rfl⟩
abbrev main_v285 : Ref sig .tc := ⟨.hbm, 316, rfl⟩
abbrev main_v286 : Ref sig .tc := ⟨.hbm, 317, rfl⟩
abbrev main_cst_15 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_v290 : Ref sig .tc := ⟨.hbm, 322, rfl⟩
abbrev main_cst_16 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩

abbrev nD : Nat := 1
abbrev τ : Topo := Topo.v7x

variable {F : FTy → Type} [FloatOps F]
-- ==== Kernel6.lean ====
abbrev S32x8x1024 : Shape := ⟨3, ![32, 8, 1024]⟩
abbrev S1x256x512 : Shape := ⟨3, ![1, 256, 512]⟩
abbrev S32x8x512 : Shape := ⟨3, ![32, 8, 512]⟩
abbrev S32x1024 : Shape := ⟨2, ![32, 1024]⟩
abbrev S32x30x512 : Shape := ⟨3, ![32, 30, 512]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S8x32x1024 : Shape := ⟨3, ![8, 32, 1024]⟩
abbrev S1x256x1024 : Shape := ⟨3, ![1, 256, 1024]⟩
abbrev S30x32x512 : Shape := ⟨3, ![30, 32, 512]⟩
abbrev S1x960x512 : Shape := ⟨3, ![1, 960, 512]⟩
abbrev S8x32x512 : Shape := ⟨3, ![8, 32, 512]⟩
abbrev S1x32x1x1024 : Shape := ⟨4, ![1, 32, 1, 1024]⟩
abbrev S8x32x1x1024 : Shape := ⟨4, ![8, 32, 1, 1024]⟩
abbrev S256x1024 : Shape := ⟨2, ![256, 1024]⟩
abbrev S1216x512 : Shape := ⟨2, ![1216, 512]⟩
abbrev S1x1216x512 : Shape := ⟨3, ![1, 1216, 512]⟩
abbrev S960x512 : Shape := ⟨2, ![960, 512]⟩
abbrev S256x512 : Shape := ⟨2, ![256, 512]⟩
abbrev S256 : Shape := ⟨1, ![256]⟩
abbrev S256x1 : Shape := ⟨2, ![256, 1]⟩
abbrev S512x1024 : Shape := ⟨2, ![512, 1024]⟩

abbrev nBuf : Space → Nat
  | .hbm => 33
  | .vmem => 17
  | .smem => 0
  | _ => 0

abbrev bufTy : (tb : Table) → Fin (tcTables nBuf tb) → BufTy
  | .hbm, ⟨0, _⟩ => ⟨S32x8x1024, .f32⟩
  | .hbm, ⟨1, _⟩ => ⟨S1x256x512, .f32⟩
  | .hbm, ⟨2, _⟩ => ⟨S32x8x512, .f32⟩
  | .hbm, ⟨3, _⟩ => ⟨S32x1024, .f32⟩
  | .hbm, ⟨4, _⟩ => ⟨S32x30x512, .f32⟩
  | .hbm, ⟨5, _⟩ => ⟨S31x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S8x32x1024, .f32⟩
  | .hbm, ⟨23, _⟩ => ⟨S1x256x1024, .f32⟩
  | .hbm, ⟨24, _⟩ => ⟨S30x32x512, .f32⟩
  | .hbm, ⟨25, _⟩ => ⟨S1x960x512, .f32⟩
  | .hbm, ⟨26, _⟩ => ⟨S8x32x512, .f32⟩
  | .hbm, ⟨27, _⟩ => ⟨S1x256x512, .f32⟩
  | .hbm, ⟨28, _⟩ => ⟨S1x32x1x1024, .f32⟩
  | .hbm, ⟨29, _⟩ => ⟨S8x32x1x1024, .f32⟩
  | .hbm, ⟨30, _⟩ => ⟨S256x1024, .f32⟩
  | .hbm, ⟨31, _⟩ => ⟨S1x256x1024, .f32⟩
  | .hbm, ⟨32, _⟩ => ⟨S1x256x1024, .f32⟩
  | .local _ .vmem, ⟨0, _⟩ => ⟨S1x256x1024, .f32⟩
  | .local _ .vmem, ⟨1, _⟩ => ⟨S1x256x512, .f32⟩
  | .local _ .vmem, ⟨2, _⟩ => ⟨S1x960x512, .f32⟩
  | .local _ .vmem, ⟨3, _⟩ => ⟨S1x256x512, .f32⟩
  | .local _ .vmem, ⟨4, _⟩ => ⟨S1x256x1024, .f32⟩
  | .local _ .vmem, ⟨5, _⟩ => ⟨S31x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x256x1024, .f32⟩
  | .local _ .vmem, ⟨15, _⟩ => ⟨S1216x512, .f32⟩
  | .local _ .vmem, ⟨16, _⟩ => ⟨S1x1216x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x960x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]
-- ==== Reference6Ideal.lean ====
abbrev S32x8x1024 : Shape := ⟨3, ![32, 8, 1024]⟩
abbrev S1x256x512 : Shape := ⟨3, ![1, 256, 512]⟩
abbrev S32x8x512 : Shape := ⟨3, ![32, 8, 512]⟩
abbrev S32x1024 : Shape := ⟨2, ![32, 1024]⟩
abbrev S32x30x512 : Shape := ⟨3, ![32, 30, 512]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S8x32x512 : Shape := ⟨3, ![8, 32, 512]⟩
abbrev S32x38x512 : Shape := ⟨3, ![32, 38, 512]⟩
abbrev S1x512 : Shape := ⟨2, ![1, 512]⟩
abbrev S1x1x512 : Shape := ⟨3, ![1, 1, 512]⟩
abbrev S_ : Shape := ⟨0, ![]⟩
abbrev S32x8 : Shape := ⟨2, ![32, 8]⟩
abbrev S32x8x1 : Shape := ⟨3, ![32, 8, 1]⟩
abbrev S32x1x1024 : Shape := ⟨3, ![32, 1, 1024]⟩
abbrev S1x1x1024 : Shape := ⟨3, ![1, 1, 1024]⟩
abbrev S8x32x1024 : Shape := ⟨3, ![8, 32, 1024]⟩
abbrev S1x256x1024 : Shape := ⟨3, ![1, 256, 1024]⟩

abbrev nBuf : Space → Nat
  | .hbm => 339
  | .vmem => 0
  | .smem => 0
  | _ => 0

abbrev hbmTy0_0 (i : Nat) : BufTy := match i % 128 with
  | 0 => ⟨S32x8x1024, .f32⟩
  | 1 => ⟨S1x256x512, .f32⟩
  | 2 => ⟨S32x8x512, .f32⟩
  | 3 => ⟨S32x1024, .f32⟩
  | 4 => ⟨S32x30x512, .f32⟩
  | 5 => ⟨S31x512, .f32⟩
  | 6 => ⟨S512, .f32⟩
  | 7 => ⟨S512, .f32⟩
  | 8 => ⟨S512, .f32⟩
  | 9 => ⟨S512, .f32⟩
  | 10 => ⟨S512, .f32⟩
  | 11 => ⟨S1024x1024, .f32⟩
  | 12 => ⟨S1024, .f32⟩
  | 13 => ⟨S1024, .f32⟩
  | 14 => ⟨S8x32x512, .f32⟩
  | 15 => ⟨S32x8x512, .f32⟩
  | 16 => ⟨S32x38x512, .f32⟩
  | 17 => ⟨S32x8x512, .f32⟩
  | 18 => ⟨S1x512, .f32⟩
  | 19 => ⟨S512, .f32⟩
  | 20 => ⟨S1x1x512, .f32⟩
  | 21 => ⟨S32x8x512, .f32⟩
  | 22 => ⟨S32x8x512, .f32⟩
  | 23 => ⟨S_, .f32⟩
  | 24 => ⟨S32x8x512, .f32⟩
  | 25 => ⟨S32x8x512, .f32⟩
  | 26 => ⟨S32x8x512, .f32⟩
  | 27 => ⟨S1x512, .f32⟩
  | 28 => ⟨S512, .f32⟩
  | 29 => ⟨S1x1x512, .f32⟩
  | 30 => ⟨S32x8x512, .f32⟩
  | 31 => ⟨S32x8x512, .f32⟩
  | 32 => ⟨S32x8x512, .f32⟩
  | 33 => ⟨S32x8x512, .f32⟩
  | 34 => ⟨S1x512, .f32⟩
  | 35 => ⟨S512, .f32⟩
  | 36 => ⟨S1x1x512, .f32⟩
  | 37 => ⟨S32x8x512, .f32⟩
  | 38 => ⟨S32x8x512, .f32⟩
  | 39 => ⟨S32x8x512, .f32⟩
  | 40 => ⟨S32x8x512, .f32⟩
  | 41 => ⟨S1x512, .f32⟩
  | 42 => ⟨S512, .f32⟩
  | 43 => ⟨S1x1x512, .f32⟩
  | 44 => ⟨S32x8x512, .f32⟩
  | 45 => ⟨S32x8x512, .f32⟩
  | 46 => ⟨S32x8x512, .f32⟩
  | 47 => ⟨S32x8x512, .f32⟩
  | 48 => ⟨S1x512, .f32⟩
  | 49 => ⟨S512, .f32⟩
  | 50 => ⟨S1x1x512, .f32⟩
  | 51 => ⟨S32x8x512, .f32⟩
  | 52 => ⟨S32x8x512, .f32⟩
  | 53 => ⟨S32x8x512, .f32⟩
  | 54 => ⟨S32x8x512, .f32⟩
  | 55 => ⟨S1x512, .f32⟩
  | 56 => ⟨S512, .f32⟩
  | 57 => ⟨S1x1x512, .f32⟩
  | 58 => ⟨S32x8x512, .f32⟩
  | 59 => ⟨S32x8x512, .f32⟩
  | 60 => ⟨S32x8x512, .f32⟩
  | 61 => ⟨S32x8x512, .f32⟩
  | 62 => ⟨S1x512, .f32⟩
  | 63 => ⟨S512, .f32⟩
  | 64 => ⟨S1x1x512, .f32⟩
  | 65 => ⟨S32x8x512, .f32⟩
  | 66 => ⟨S32x8x512, .f32⟩
  | 67 => ⟨S32x8x512, .f32⟩
  | 68 => ⟨S32x8x512, .f32⟩
  | 69 => ⟨S1x512, .f32⟩
  | 70 => ⟨S512, .f32⟩
  | 71 => ⟨S1x1x512, .f32⟩
  | 72 => ⟨S32x8x512, .f32⟩
  | 73 => ⟨S32x8x512, .f32⟩
  | 74 => ⟨S32x8x512, .f32⟩
  | 75 => ⟨S32x8x512, .f32⟩
  | 76 => ⟨S1x512, .f32⟩
  | 77 => ⟨S512, .f32⟩
  | 78 => ⟨S1x1x512, .f32⟩
  | 79 => ⟨S32x8x512, .f32⟩
  | 80 => ⟨S32x8x512, .f32⟩
  | 81 => ⟨S32x8x512, .f32⟩
  | 82 => ⟨S32x8x512, .f32⟩
  | 83 => ⟨S1x512, .f32⟩
  | 84 => ⟨S512, .f32⟩
  | 85 => ⟨S1x1x512, .f32⟩
  | 86 => ⟨S32x8x512, .f32⟩
  | 87 => ⟨S32x8x512, .f32⟩
  | 88 => ⟨S32x8x512, .f32⟩
  | 89 => ⟨S32x8x512, .f32⟩
  | 90 => ⟨S1x512, .f32⟩
  | 91 => ⟨S512, .f32⟩
  | 92 => ⟨S1x1x512, .f32⟩
  | 93 => ⟨S32x8x512, .f32⟩
  | 94 => ⟨S32x8x512, .f32⟩
  | 95 => ⟨S32x8x512, .f32⟩
  | 96 => ⟨S32x8x512, .f32⟩
  | 97 => ⟨S1x512, .f32⟩
  | 98 => ⟨S512, .f32⟩
  | 99 => ⟨S1x1x512, .f32⟩
  | 100 => ⟨S32x8x512, .f32⟩
  | 101 => ⟨S32x8x512, .f32⟩
  | 102 => ⟨S32x8x512, .f32⟩
  | 103 => ⟨S32x8x512, .f32⟩
  | 104 => ⟨S1x512, .f32⟩
  | 105 => ⟨S512, .f32⟩
  | 106 => ⟨S1x1x512, .f32⟩
  | 107 => ⟨S32x8x512, .f32⟩
  | 108 => ⟨S32x8x512, .f32⟩
  | 109 => ⟨S32x8x512, .f32⟩
  | 110 => ⟨S32x8x512, .f32⟩
  | 111 => ⟨S1x512, .f32⟩
  | 112 => ⟨S512, .f32⟩
  | 113 => ⟨S1x1x512, .f32⟩
  | 114 => ⟨S32x8x512, .f32⟩
  | 115 => ⟨S32x8x512, .f32⟩
  | 116 => ⟨S32x8x512, .f32⟩
  | 117 => ⟨S32x8x512, .f32⟩
  | 118 => ⟨S1x512, .f32⟩
  | 119 => ⟨S512, .f32⟩
  | 120 => ⟨S1x1x512, .f32⟩
  | 121 => ⟨S32x8x512, .f32⟩
  | 122 => ⟨S32x8x512, .f32⟩
  | 123 => ⟨S32x8x512, .f32⟩
  | 124 => ⟨S32x8x512, .f32⟩
  | 125 => ⟨S1x512, .f32⟩
  | 126 => ⟨S512, .f32⟩
  | 127 => ⟨S1x1x512, .f32⟩
  | _ => ⟨S32x8x1024, .f32⟩

abbrev hbmTy0_1 (i : Nat) : BufTy := match i % 128 with
  | 0 => ⟨S32x8x512, .f32⟩
  | 1 => ⟨S32x8x512, .f32⟩
  | 2 => ⟨S32x8x512, .f32⟩
  | 3 => ⟨S32x8x512, .f32⟩
  | 4 => ⟨S1x512, .f32⟩
  | 5 => ⟨S512, .f32⟩
  | 6 => ⟨S1x1x512, .f32⟩
  | 7 => ⟨S32x8x512, .f32⟩
  | 8 => ⟨S32x8x512, .f32⟩
  | 9 => ⟨S32x8x512, .f32⟩
  | 10 => ⟨S32x8x512, .f32⟩
  | 11 => ⟨S1x512, .f32⟩
  | 12 => ⟨S512, .f32⟩
  | 13 => ⟨S1x1x512, .f32⟩
  | 14 => ⟨S32x8x512, .f32⟩
  | 15 => ⟨S32x8x512, .f32⟩
  | 16 => ⟨S32x8x512, .f32⟩
  | 17 => ⟨S32x8x512, .f32⟩
  | 18 => ⟨S1x512, .f32⟩
  | 19 => ⟨S512, .f32⟩
  | 20 => ⟨S1x1x512, .f32⟩
  | 21 => ⟨S32x8x512, .f32⟩
  | 22 => ⟨S32x8x512, .f32⟩
  | 23 => ⟨S32x8x512, .f32⟩
  | 24 => ⟨S32x8x512, .f32⟩
  | 25 => ⟨S1x512, .f32⟩
  | 26 => ⟨S512, .f32⟩
  | 27 => ⟨S1x1x512, .f32⟩
  | 28 => ⟨S32x8x512, .f32⟩
  | 29 => ⟨S32x8x512, .f32⟩
  | 30 => ⟨S32x8x512, .f32⟩
  | 31 => ⟨S32x8x512, .f32⟩
  | 32 => ⟨S1x512, .f32⟩
  | 33 => ⟨S512, .f32⟩
  | 34 => ⟨S1x1x512, .f32⟩
  | 35 => ⟨S32x8x512, .f32⟩
  | 36 => ⟨S32x8x512, .f32⟩
  | 37 => ⟨S32x8x512, .f32⟩
  | 38 => ⟨S32x8x512, .f32⟩
  | 39 => ⟨S1x512, .f32⟩
  | 40 => ⟨S512, .f32⟩
  | 41 => ⟨S1x1x512, .f32⟩
  | 42 => ⟨S32x8x512, .f32⟩
  | 43 => ⟨S32x8x512, .f32⟩
  | 44 => ⟨S32x8x512, .f32⟩
  | 45 => ⟨S32x8x512, .f32⟩
  | 46 => ⟨S1x512, .f32⟩
  | 47 => ⟨S512, .f32⟩
  | 48 => ⟨S1x1x512, .f32⟩
  | 49 => ⟨S32x8x512, .f32⟩
  | 50 => ⟨S32x8x512, .f32⟩
  | 51 => ⟨S32x8x512, .f32⟩
  | 52 => ⟨S32x8x512, .f32⟩
  | 53 => ⟨S1x512, .f32⟩
  | 54 => ⟨S512, .f32⟩
  | 55 => ⟨S1x1x512, .f32⟩
  | 56 => ⟨S32x8x512, .f32⟩
  | 57 => ⟨S32x8x512, .f32⟩
  | 58 => ⟨S32x8x512, .f32⟩
  | 59 => ⟨S32x8x512, .f32⟩
  | 60 => ⟨S1x512, .f32⟩
  | 61 => ⟨S512, .f32⟩
  | 62 => ⟨S1x1x512, .f32⟩
  | 63 => ⟨S32x8x512, .f32⟩
  | 64 => ⟨S32x8x512, .f32⟩
  | 65 => ⟨S32x8x512, .f32⟩
  | 66 => ⟨S32x8x512, .f32⟩
  | 67 => ⟨S1x512, .f32⟩
  | 68 => ⟨S512, .f32⟩
  | 69 => ⟨S1x1x512, .f32⟩
  | 70 => ⟨S32x8x512, .f32⟩
  | 71 => ⟨S32x8x512, .f32⟩
  | 72 => ⟨S32x8x512, .f32⟩
  | 73 => ⟨S32x8x512, .f32⟩
  | 74 => ⟨S1x512, .f32⟩
  | 75 => ⟨S512, .f32⟩
  | 76 => ⟨S1x1x512, .f32⟩
  | 77 => ⟨S32x8x512, .f32⟩
  | 78 => ⟨S32x8x512, .f32⟩
  | 79 => ⟨S32x8x512, .f32⟩
  | 80 => ⟨S32x8x512, .f32⟩
  | 81 => ⟨S1x512, .f32⟩
  | 82 => ⟨S512, .f32⟩
  | 83 => ⟨S1x1x512, .f32⟩
  | 84 => ⟨S32x8x512, .f32⟩
  | 85 => ⟨S32x8x512, .f32⟩
  | 86 => ⟨S32x8x512, .f32⟩
  | 87 => ⟨S32x8x512, .f32⟩
  | 88 => ⟨S1x512, .f32⟩
  | 89 => ⟨S512, .f32⟩
  | 90 => ⟨S1x1x512, .f32⟩
  | 91 => ⟨S32x8x512, .f32⟩
  | 92 => ⟨S32x8x512, .f32⟩
  | 93 => ⟨S32x8x512, .f32⟩
  | 94 => ⟨S32x8x512, .f32⟩
  | 95 => ⟨S1x512, .f32⟩
  | 96 => ⟨S512, .f32⟩
  | 97 => ⟨S1x1x512, .f32⟩
  | 98 => ⟨S32x8x512, .f32⟩
  | 99 => ⟨S32x8x512, .f32⟩
  | 100 => ⟨S32x8x512, .f32⟩
  | 101 => ⟨S32x8x512, .f32⟩
  | 102 => ⟨S1x512, .f32⟩
  | 103 => ⟨S512, .f32⟩
  | 104 => ⟨S1x1x512, .f32⟩
  | 105 => ⟨S32x8x512, .f32⟩
  | 106 => ⟨S32x8x512, .f32⟩
  | 107 => ⟨S32x8x512, .f32⟩
  | 108 => ⟨S1x1x512, .f32⟩
  | 109 => ⟨S32x8x512, .f32⟩
  | 110 => ⟨S32x8x512, .f32⟩
  | 111 => ⟨S_, .f32⟩
  | 112 => ⟨S32x8, .f32⟩
  | 113 => ⟨S32x8x1, .f32⟩
  | 114 => ⟨S_, .f32⟩
  | 115 => ⟨S32x8x1, .f32⟩
  | 116 => ⟨S32x8x1, .f32⟩
  | 117 => ⟨S32x8x512, .f32⟩
  | 118 => ⟨S32x8x512, .f32⟩
  | 119 => ⟨S32x8x512, .f32⟩
  | 120 => ⟨S_, .f32⟩
  | 121 => ⟨S32x8, .f32⟩
  | 122 => ⟨S32x8x1, .f32⟩
  | 123 => ⟨S_, .f32⟩
  | 124 => ⟨S32x8x1, .f32⟩
  | 125 => ⟨S32x8x1, .f32⟩
  | 126 => ⟨S32x8x512, .f32⟩
  | 127 => ⟨S32x8x512, .f32⟩
  | _ => ⟨S32x8x1024, .f32⟩

abbrev hbmTy0_2 (i : Nat) : BufTy := match i % 128 with
  | 0 => ⟨S_, .f32⟩
  | 1 => ⟨S32x8x1, .f32⟩
  | 2 => ⟨S32x8x1, .f32⟩
  | 3 => ⟨S32x8x1, .f32⟩
  | 4 => ⟨S32x8x512, .f32⟩
  | 5 => ⟨S32x8x512, .f32⟩
  | 6 => ⟨S1x1x512, .f32⟩
  | 7 => ⟨S32x8x512, .f32⟩
  | 8 => ⟨S32x8x512, .f32⟩
  | 9 => ⟨S1x1x512, .f32⟩
  | 10 => ⟨S32x8x512, .f32⟩
  | 11 => ⟨S32x8x512, .f32⟩
  | 12 => ⟨S32x8x512, .f32⟩
  | 13 => ⟨S32x8x512, .f32⟩
  | 14 => ⟨S_, .f32⟩
  | 15 => ⟨S32x8x512, .f32⟩
  | 16 => ⟨S32x8x512, .f32⟩
  | 17 => ⟨S_, .f32⟩
  | 18 => ⟨S32x8x512, .f32⟩
  | 19 => ⟨S32x8x512, .f32⟩
  | 20 => ⟨S32x8x512, .f32⟩
  | 21 => ⟨S32x8x512, .f32⟩
  | 22 => ⟨S_, .f32⟩
  | 23 => ⟨S32x8, .f32⟩
  | 24 => ⟨S32x8x1, .f32⟩
  | 25 => ⟨S_, .f32⟩
  | 26 => ⟨S32x8x1, .f32⟩
  | 27 => ⟨S32x8x1, .f32⟩
  | 28 => ⟨S_, .f32⟩
  | 29 => ⟨S32x8x1, .f32⟩
  | 30 => ⟨S32x8x1, .f32⟩
  | 31 => ⟨S32x8x1, .f32⟩
  | 32 => ⟨S32x8x512, .f32⟩
  | 33 => ⟨S32x8x512, .f32⟩
  | 34 => ⟨S1x1x512, .f32⟩
  | 35 => ⟨S32x8x512, .f32⟩
  | 36 => ⟨S32x8x512, .f32⟩
  | 37 => ⟨S1x1x512, .f32⟩
  | 38 => ⟨S32x8x512, .f32⟩
  | 39 => ⟨S32x8x512, .f32⟩
  | 40 => ⟨S32x8x1024, .f32⟩
  | 41 => ⟨S32x8x1024, .f32⟩
  | 42 => ⟨S_, .f32⟩
  | 43 => ⟨S32x8x1024, .f32⟩
  | 44 => ⟨S32x8x1024, .f32⟩
  | 45 => ⟨S32x1x1024, .f32⟩
  | 46 => ⟨S_, .f32⟩
  | 47 => ⟨S32x1x1024, .f32⟩
  | 48 => ⟨S32x1x1024, .f32⟩
  | 49 => ⟨S32x8x1024, .f32⟩
  | 50 => ⟨S32x8x1024, .f32⟩
  | 51 => ⟨S32x8x1024, .f32⟩
  | 52 => ⟨S_, .f32⟩
  | 53 => ⟨S32x8, .f32⟩
  | 54 => ⟨S32x8x1, .f32⟩
  | 55 => ⟨S_, .f32⟩
  | 56 => ⟨S32x8x1, .f32⟩
  | 57 => ⟨S32x8x1, .f32⟩
  | 58 => ⟨S32x8x1024, .f32⟩
  | 59 => ⟨S32x8x1024, .f32⟩
  | 60 => ⟨S32x8x1024, .f32⟩
  | 61 => ⟨S_, .f32⟩
  | 62 => ⟨S32x8, .f32⟩
  | 63 => ⟨S32x8x1, .f32⟩
  | 64 => ⟨S_, .f32⟩
  | 65 => ⟨S32x8x1, .f32⟩
  | 66 => ⟨S32x8x1, .f32⟩
  | 67 => ⟨S32x8x1024, .f32⟩
  | 68 => ⟨S32x8x1024, .f32⟩
  | 69 => ⟨S_, .f32⟩
  | 70 => ⟨S32x8x1, .f32⟩
  | 71 => ⟨S32x8x1, .f32⟩
  | 72 => ⟨S32x8x1, .f32⟩
  | 73 => ⟨S32x8x1024, .f32⟩
  | 74 => ⟨S32x8x1024, .f32⟩
  | 75 => ⟨S1x1x1024, .f32⟩
  | 76 => ⟨S32x8x1024, .f32⟩
  | 77 => ⟨S32x8x1024, .f32⟩
  | 78 => ⟨S1x1x1024, .f32⟩
  | 79 => ⟨S32x8x1024, .f32⟩
  | 80 => ⟨S32x8x1024, .f32⟩
  | 81 => ⟨S8x32x1024, .f32⟩
  | 82 => ⟨S1x256x1024, .f32⟩
  | _ => ⟨S32x8x1024, .f32⟩

abbrev hbmTy (i : Nat) : BufTy := match i / 128 with
  | 0 => hbmTy0_0 i
  | 1 => hbmTy0_1 i
  | 2 => hbmTy0_2 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_cst_0 : Ref sig .tc := ⟨.hbm, 239, rfl⟩
abbrev main_v224 : Ref sig .tc := ⟨.hbm, 240, rfl⟩
abbrev main_v225 : Ref sig .tc := ⟨.hbm, 241, rfl⟩
abbrev main_cst_1 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_cst_2 : Ref sig .tc := ⟨.hbm, 248, rfl⟩
abbrev main_v231 : Ref sig .tc := ⟨.hbm, 249, rfl⟩
abbrev main_v232 : Ref sig .tc := ⟨.hbm, 250, rfl⟩
abbrev main_cst_3 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_cst_4 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_cst_5 : Ref sig .tc := ⟨.hbm, 270, rfl⟩
abbrev main_v250 : Ref sig .tc := ⟨.hbm, 271, rfl⟩
abbrev main_v251 : Ref sig .tc := ⟨.hbm, 272, rfl⟩
abbrev main_cst_6 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_cst_7 : Ref sig .tc := ⟨.hbm, 278, rfl⟩
abbrev main_v256 : Ref sig .tc := ⟨.hbm, 279, rfl⟩
abbrev main_v257 : Ref sig .tc := ⟨.hbm, 280, rfl⟩
abbrev main_cst_8 : Ref sig .tc := ⟨.hbm, 281, rfl⟩
abbrev main_v258 : Ref sig .tc := ⟨.hbm, 282, rfl⟩
abbrev main_v259 : Ref sig .tc := ⟨.hbm, 283, rfl⟩
abbrev main_cst_9 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_cst_10 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_cst_11 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_cst_12 : Ref sig .tc := ⟨.hbm, 308, rfl⟩
abbrev main_v281 : Ref sig .tc := ⟨.hbm, 309, rfl⟩
abbrev main_v282 : Ref sig .tc := ⟨.hbm, 310, rfl⟩
abbrev main_cst_13 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_cst_14 : Ref sig .tc := ⟨.hbm, 317, rfl⟩
abbrev main_v288 : Ref sig .tc := ⟨.hbm, 318, rfl⟩
abbrev main_v289 : Ref sig .tc := ⟨.hbm, 319, rfl⟩
abbrev main_cst_15 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_cst_16 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_v298 : Ref sig .tc := ⟨.hbm, 330, rfl⟩
abbrev main_v299 : Ref sig .tc := ⟨.hbm, 331, rfl⟩
abbrev main_v300 : Ref sig .tc := ⟨.hbm, 332, rfl⟩
abbrev main_v301 : Ref sig .tc := ⟨.hbm, 333, rfl⟩
abbrev main_v302 : Ref sig .tc := ⟨.hbm, 334, rfl⟩
abbrev main_v303 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩

abbrev nD : Nat := 1
abbrev τ : Topo := Topo.v7x

variable {F : FTy → Type} [FloatOps F]
-- ==== Proof.Point.lean ====
module

public import proofs.«01_k».proof.Proof.Gen.KernelIdeal.Value
public import Idealize.ShloMosaic.Lib.Pipeline.ValueKit
public import Idealize.ShloMosaic.Lib.Pointwise

/-! The eleven column chunks of one grid point of the feed-forward call. Each chunk of the up-projection that the body stores is the
    matching rectangle of one whole block `rows` (the gate rows under the eight rows that come before them), and each chunk of the
    gated product is the matching rectangle of one whole block `act`. -/

@[expose] public section
set_option maxRecDepth 16384
noncomputable section
open Idealize.ShloMosaic Idealize.ShloMosaic.TcCoe Idealize.SL.Sem
open Idealize.ShloMosaic.Pipeline (Dat)
namespace Cert.KernelIdeal.Ffn
open Cert.KernelIdeal Cert.KernelIdeal.Gen

/-- One entry of the up-projection: a row of the modulated block against a column of the weights. -/
def proj (H : FVec Ideal S512x1024 .bf16) (w : Vec Ideal S1024x5632 .bf16) (r : Fin 512) (j : Fin 5632) : EReal :=
  ∑ k : Fin 1024, H (ix2 r k) * w (ix2 k j)

/-- The gate rows with the eight rows that come before the block on top. -/
def rows (H : FVec Ideal S512x1024 .bf16) (w : Vec Ideal S1024x5632 .bf16) (p : Vec Ideal S8x2816 .f32) : Vec Ideal S520x2816 .f32 :=
  fun y => if h : (y 0).val < 8 then p (ix2 ⟨(y 0).val, h⟩ ⟨(y 1).val, (y 1).isLt⟩)
    else proj H w ⟨(y 0).val - 8, by have := (y 0).isLt; change _ < 520 at this; omega⟩
      ⟨2816 + (y 1).val, by have := (y 1).isLt; change _ < 2816 at this; omega⟩

/-- The convolved gate at one entry. -/
def conv (X : Vec Ideal S520x2816 .f32) (f : Vec Ideal S3x2816 .f32) (b : Vec Ideal S1x2816 .f32) (r : Fin 512) (j : Fin 2816) : EReal :=
  f (ix2 0 j) * X (ix2 ⟨r.val + 6, by omega⟩ j) + f (ix2 1 j) * X (ix2 ⟨r.val + 7, by omega⟩ j)
    + f (ix2 2 j) * X (ix2 ⟨r.val + 8, by omega⟩ j) + b (ix2 0 j)

/-- The gated value at one entry. -/
def gated (c v : EReal) : EReal :=
  Ideal.ofBits .f32 0x3F000000#32 * c * (1 + Ideal.erf (c * Ideal.ofBits .f32 0x3F3504F3#32)) * v

/-- The gated block. -/
def act (H : FVec Ideal S512x1024 .bf16) (w : Vec Ideal S1024x5632 .bf16) (X : Vec Ideal S520x2816 .f32) (f : Vec Ideal S3x2816 .f32)
    (b : Vec Ideal S1x2816 .f32) : Vec Ideal S512x2816 .bf16 :=
  fun y => gated (conv X f b (y 0) (y 1)) (proj H w (y 0) ⟨(y 1).val, by have := (y 1).isLt; change _ < 2816 at this; omega⟩)

variable (H : FVec Ideal S512x1024 .bf16) (w : Vec Ideal S1024x5632 .bf16) (p : Vec Ideal S8x2816 .f32) (f : Vec Ideal S3x2816 .f32)
    (b : Vec Ideal S1x2816 .f32)

/-- Below the eight rows the block holds the projection. -/
theorem rows_low (r : Fin 512) (n : Fin 520) (j : Fin 2816) (g : Fin 5632) (hn : n.val = 8 + r.val) (hg : g.val = 2816 + j.val) :
    rows H w p (ix2 n j) = proj H w r g := by
  obtain ⟨n, hn'⟩ := n
  obtain ⟨g, hg'⟩ := g
  simp only at hn hg
  subst hn hg
  have e : rows H w p (ix2 ⟨8 + r.val, hn'⟩ j) = if h : 8 + r.val < 8 then p (ix2 ⟨8 + r.val, h⟩ j)
      else proj H w ⟨8 + r.val - 8, by omega⟩ ⟨2816 + j.val, by omega⟩ := rfl
  rw [e, dif_neg (by omega)]
  congr 1
  exact Fin.ext (by simp only; omega)

theorem gate_at (r : Fin 512) (n : Fin 520) (j : Fin 2816) {g : Fin 5632} (hn : n.val = 8 + r.val) (hg : g.val = 2816 + j.val) :
    (∑ x : Fin 1024, H (ix2 r x) * w (ix2 x g)) = rows H w p (ix2 n j) :=
  (rows_low H w p r n j g hn hg).symm

theorem act_at (r : Fin 512) (j j' : Fin 2816) (r6 r7 : Fin 520) (g v : Fin 5632) (hj : j' = j) (h6 : r6.val = 6 + r.val) (h7 : r7.val = 7 + r.val)
    (hg : g.val = 2816 + j.val) (hv : v.val = j.val) :
    Ideal.ofBits .f32 0x3F000000#32 *
          (f (ix2 0 j) * rows H w p (ix2 r6 j) + f (ix2 1 j) * rows H w p (ix2 r7 j) + f (ix2 2 j) * (∑ x : Fin 1024, H (ix2 r x) * w (ix2 x g))
            + b (ix2 0 j)) *
        (1 + FloatOps.erf (F := Ideal) (φ := .f32)
            ((f (ix2 0 j) * rows H w p (ix2 r6 j) + f (ix2 1 j) * rows H w p (ix2 r7 j) + f (ix2 2 j) * (∑ x : Fin 1024, H (ix2 r x) * w (ix2 x g))
              + b (ix2 0 j)) * Ideal.ofBits .f32 0x3F3504F3#32)) *
      (∑ x : Fin 1024, H (ix2 r x) * w (ix2 x v))
    = act H w (rows H w p) f b (ix2 r j') := by
  subst hj
  obtain rfl : r6 = ⟨r.val + 6, Nat.lt_of_lt_of_le (Nat.add_lt_add_right r.isLt 6) (by decide)⟩ := Fin.ext (by dsimp only; omega)
  obtain rfl : r7 = ⟨r.val + 7, Nat.lt_of_lt_of_le (Nat.add_lt_add_right r.isLt 7) (by decide)⟩ := Fin.ext (by dsimp only; omega)
  obtain rfl : v = ⟨j'.val, Nat.lt_trans j'.isLt (by decide)⟩ := Fin.ext hv
  rw [gate_at H w p r ⟨r.val + 8, by omega⟩ j' (by dsimp only; omega) hg]
  rfl

theorem gate0 (x0 : Vec Ideal S1x512x1024 .f32) (x1 x2 : Vec Ideal S1x1x1024 .f32) : k0_pay8 x0 x2 x1 (View.ld (w) (Rect.unit ![0, 2816] ![1024, 256] inb_S1024x5632_S1024x256_0_2816))
    = View.ld (rows (k0_pay5 x0 x2 x1) w p) (Rect.unit ![8, 0] ![512, 256] inb_S520x2816_S512x256_8_0) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨0 + j.val, by omega⟩) (by intro a; fin_cases a <;> rfl)]
  pointwise [k0_pay8, k0_pay7]
  exact gate_at _ w p _ _ _ (by first | rfl | (dsimp only; omega)) (by first | rfl | (dsimp only; omega))

theorem act0 (x0 : Vec Ideal S1x512x1024 .f32) (x1 x2 : Vec Ideal S1x1x1024 .f32) :
    k0_pay10 (k0_pay6 x0 x2 x1 (View.ld (w) (Rect.unit ![0, 0] ![1024, 256] inb_S1024x5632_S1024x256_0_0))) (k0_pay7 x0 x2 x1 (View.ld (w) (Rect.unit ![0, 2816] ![1024, 256] inb_S1024x5632_S1024x256_0_2816))) (k0_pay9 (View.ld (f) (Rect.unit ![0, 0] ![1, 256] inb_S3x2816_S1x256_0_0)) (View.ld (rows (k0_pay5 x0 x2 x1) w p) (Rect.unit ![6, 0] ![512, 256] inb_S520x2816_S512x256_6_0))) (View.ld (f) (Rect.unit ![1, 0] ![1, 256] inb_S3x2816_S1x256_1_0)) (View.ld (rows (k0_pay5 x0 x2 x1) w p) (Rect.unit ![7, 0] ![512, 256] inb_S520x2816_S512x256_7_0)) (View.ld (f) (Rect.unit ![2, 0] ![1, 256] inb_S3x2816_S1x256_2_0)) (View.ld (b) (Rect.unit ![0, 0] ![1, 256] inb_S1x2816_S1x256_0_0))
    = View.ld (act (k0_pay5 x0 x2 x1) w (rows (k0_pay5 x0 x2 x1) w p) f b) (Rect.unit ![0, 0] ![512, 256] inb_S512x2816_S512x256_0_0) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨0 + j.val, by omega⟩) (by intro a; fin_cases a <;> simp <;> rfl)]
  pointwise [k0_pay10, k0_pay6, k0_pay7, k0_pay9]
  refine act_at _ w p f b _ _ _ _ _ _ _ ?_ ?_ ?_ ?_ ?_ <;> first | rfl | (apply Fin.ext; dsimp only; omega) | (dsimp only; omega)

theorem gate1 : k0_pay13 H (View.ld (w) (Rect.unit ![0, 3072] ![1024, 256] inb_S1024x5632_S1024x256_0_3072))
    = View.ld (rows H w p) (Rect.unit ![8, 256] ![512, 256] inb_S520x2816_S512x256_8_256) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨256 + j.val, by omega⟩) (by intro a; fin_cases a <;> rfl)]
  pointwise [k0_pay13, k0_pay12]
  exact gate_at _ w p _ _ _ (by first | rfl | (dsimp only; omega)) (by first | rfl | (dsimp only; omega))

theorem act1 :
    k0_pay14 (k0_pay11 H (View.ld (w) (Rect.unit ![0, 256] ![1024, 256] inb_S1024x5632_S1024x256_0_256))) (k0_pay12 H (View.ld (w) (Rect.unit ![0, 3072] ![1024, 256] inb_S1024x5632_S1024x256_0_3072))) (View.ld (f) (Rect.unit ![0, 256] ![1, 256] inb_S3x2816_S1x256_0_256)) (View.ld (rows H w p) (Rect.unit ![6, 256] ![512, 256] inb_S520x2816_S512x256_6_256)) (View.ld (f) (Rect.unit ![1, 256] ![1, 256] inb_S3x2816_S1x256_1_256)) (View.ld (rows H w p) (Rect.unit ![7, 256] ![512, 256] inb_S520x2816_S512x256_7_256)) (View.ld (f) (Rect.unit ![2, 256] ![1, 256] inb_S3x2816_S1x256_2_256)) (View.ld (b) (Rect.unit ![0, 256] ![1, 256] inb_S1x2816_S1x256_0_256))
    = View.ld (act H w (rows H w p) f b) (Rect.unit ![0, 256] ![512, 256] inb_S512x2816_S512x256_0_256) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨256 + j.val, by omega⟩) (by intro a; fin_cases a <;> simp <;> rfl)]
  pointwise [k0_pay14, k0_pay11, k0_pay12]
  refine act_at _ w p f b _ _ _ _ _ _ _ ?_ ?_ ?_ ?_ ?_ <;> first | rfl | (apply Fin.ext; dsimp only; omega) | (dsimp only; omega)

theorem gate2 : k0_pay17 H (View.ld (w) (Rect.unit ![0, 3328] ![1024, 256] inb_S1024x5632_S1024x256_0_3328))
    = View.ld (rows H w p) (Rect.unit ![8, 512] ![512, 256] inb_S520x2816_S512x256_8_512) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨512 + j.val, by omega⟩) (by intro a; fin_cases a <;> rfl)]
  pointwise [k0_pay17, k0_pay16]
  exact gate_at _ w p _ _ _ (by first | rfl | (dsimp only; omega)) (by first | rfl | (dsimp only; omega))

theorem act2 :
    k0_pay18 (k0_pay15 H (View.ld (w) (Rect.unit ![0, 512] ![1024, 256] inb_S1024x5632_S1024x256_0_512))) (k0_pay16 H (View.ld (w) (Rect.unit ![0, 3328] ![1024, 256] inb_S1024x5632_S1024x256_0_3328))) (View.ld (f) (Rect.unit ![0, 512] ![1, 256] inb_S3x2816_S1x256_0_512)) (View.ld (rows H w p) (Rect.unit ![6, 512] ![512, 256] inb_S520x2816_S512x256_6_512)) (View.ld (f) (Rect.unit ![1, 512] ![1, 256] inb_S3x2816_S1x256_1_512)) (View.ld (rows H w p) (Rect.unit ![7, 512] ![512, 256] inb_S520x2816_S512x256_7_512)) (View.ld (f) (Rect.unit ![2, 512] ![1, 256] inb_S3x2816_S1x256_2_512)) (View.ld (b) (Rect.unit ![0, 512] ![1, 256] inb_S1x2816_S1x256_0_512))
    = View.ld (act H w (rows H w p) f b) (Rect.unit ![0, 512] ![512, 256] inb_S512x2816_S512x256_0_512) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨512 + j.val, by omega⟩) (by intro a; fin_cases a <;> simp <;> rfl)]
  pointwise [k0_pay18, k0_pay15, k0_pay16]
  refine act_at _ w p f b _ _ _ _ _ _ _ ?_ ?_ ?_ ?_ ?_ <;> first | rfl | (apply Fin.ext; dsimp only; omega) | (dsimp only; omega)

theorem gate3 : k0_pay22 H (k0_pay20 (View.ld (w) (Rect.unit ![0, 3584] ![1024, 256] inb_S1024x5632_S1024x256_0_3584))) (constant S512x256 FTy.f32 0#32)
    = View.ld (rows H w p) (Rect.unit ![8, 768] ![512, 256] inb_S520x2816_S512x256_8_768) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨768 + j.val, by omega⟩) (by intro a; fin_cases a <;> rfl)]
  pointwise [k0_pay22, k0_pay20, k0_pay21]
  exact gate_at _ w p _ _ _ (by first | rfl | (dsimp only; omega)) (by first | rfl | (dsimp only; omega))

theorem act3 :
    k0_pay23 H (k0_pay19 H (View.ld (w) (Rect.unit ![0, 768] ![1024, 256] inb_S1024x5632_S1024x256_0_768))) (k0_pay20 (View.ld (w) (Rect.unit ![0, 3584] ![1024, 256] inb_S1024x5632_S1024x256_0_3584))) (constant S512x256 FTy.f32 0#32) (View.ld (f) (Rect.unit ![0, 768] ![1, 256] inb_S3x2816_S1x256_0_768)) (View.ld (rows H w p) (Rect.unit ![6, 768] ![512, 256] inb_S520x2816_S512x256_6_768)) (View.ld (f) (Rect.unit ![1, 768] ![1, 256] inb_S3x2816_S1x256_1_768)) (View.ld (rows H w p) (Rect.unit ![7, 768] ![512, 256] inb_S520x2816_S512x256_7_768)) (View.ld (f) (Rect.unit ![2, 768] ![1, 256] inb_S3x2816_S1x256_2_768)) (View.ld (b) (Rect.unit ![0, 768] ![1, 256] inb_S1x2816_S1x256_0_768))
    = View.ld (act H w (rows H w p) f b) (Rect.unit ![0, 768] ![512, 256] inb_S512x2816_S512x256_0_768) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨768 + j.val, by omega⟩) (by intro a; fin_cases a <;> simp <;> rfl)]
  pointwise [k0_pay23, k0_pay19, k0_pay20, k0_pay21]
  refine act_at _ w p f b _ _ _ _ _ _ _ ?_ ?_ ?_ ?_ ?_ <;> first | rfl | (apply Fin.ext; dsimp only; omega) | (dsimp only; omega)

theorem gate4 : k0_pay26 H (View.ld (w) (Rect.unit ![0, 3840] ![1024, 256] inb_S1024x5632_S1024x256_0_3840))
    = View.ld (rows H w p) (Rect.unit ![8, 1024] ![512, 256] inb_S520x2816_S512x256_8_1024) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨1024 + j.val, by omega⟩) (by intro a; fin_cases a <;> rfl)]
  pointwise [k0_pay26, k0_pay25]
  exact gate_at _ w p _ _ _ (by first | rfl | (dsimp only; omega)) (by first | rfl | (dsimp only; omega))

theorem act4 :
    k0_pay27 H (k0_pay24 (View.ld (w) (Rect.unit ![0, 1024] ![1024, 256] inb_S1024x5632_S1024x256_0_1024))) (constant S512x256 FTy.f32 0#32) (View.ld (w) (Rect.unit ![0, 3840] ![1024, 256] inb_S1024x5632_S1024x256_0_3840)) (View.ld (f) (Rect.unit ![0, 1024] ![1, 256] inb_S3x2816_S1x256_0_1024)) (View.ld (rows H w p) (Rect.unit ![6, 1024] ![512, 256] inb_S520x2816_S512x256_6_1024)) (View.ld (f) (Rect.unit ![1, 1024] ![1, 256] inb_S3x2816_S1x256_1_1024)) (View.ld (rows H w p) (Rect.unit ![7, 1024] ![512, 256] inb_S520x2816_S512x256_7_1024)) (View.ld (f) (Rect.unit ![2, 1024] ![1, 256] inb_S3x2816_S1x256_2_1024)) (View.ld (b) (Rect.unit ![0, 1024] ![1, 256] inb_S1x2816_S1x256_0_1024))
    = View.ld (act H w (rows H w p) f b) (Rect.unit ![0, 1024] ![512, 256] inb_S512x2816_S512x256_0_1024) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨1024 + j.val, by omega⟩) (by intro a; fin_cases a <;> simp <;> rfl)]
  pointwise [k0_pay27, k0_pay24, k0_pay25]
  refine act_at _ w p f b _ _ _ _ _ _ _ ?_ ?_ ?_ ?_ ?_ <;> first | rfl | (apply Fin.ext; dsimp only; omega) | (dsimp only; omega)

theorem gate5 : k0_pay29 H (View.ld (w) (Rect.unit ![0, 4096] ![1024, 256] inb_S1024x5632_S1024x256_0_4096))
    = View.ld (rows H w p) (Rect.unit ![8, 1280] ![512, 256] inb_S520x2816_S512x256_8_1280) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨1280 + j.val, by omega⟩) (by intro a; fin_cases a <;> rfl)]
  pointwise [k0_pay29, k0_pay28]
  exact gate_at _ w p _ _ _ (by first | rfl | (dsimp only; omega)) (by first | rfl | (dsimp only; omega))

theorem act5 :
    k0_pay31 (k0_pay30 H (View.ld (w) (Rect.unit ![0, 1280] ![1024, 256] inb_S1024x5632_S1024x256_0_1280)) (View.ld (w) (Rect.unit ![0, 4096] ![1024, 256] inb_S1024x5632_S1024x256_0_4096)) (View.ld (f) (Rect.unit ![0, 1280] ![1, 256] inb_S3x2816_S1x256_0_1280)) (View.ld (rows H w p) (Rect.unit ![6, 1280] ![512, 256] inb_S520x2816_S512x256_6_1280)) (View.ld (f) (Rect.unit ![1, 1280] ![1, 256] inb_S3x2816_S1x256_1_1280)) (View.ld (rows H w p) (Rect.unit ![7, 1280] ![512, 256] inb_S520x2816_S512x256_7_1280)) (View.ld (f) (Rect.unit ![2, 1280] ![1, 256] inb_S3x2816_S1x256_2_1280)) (View.ld (b) (Rect.unit ![0, 1280] ![1, 256] inb_S1x2816_S1x256_0_1280)))
    = View.ld (act H w (rows H w p) f b) (Rect.unit ![0, 1280] ![512, 256] inb_S512x2816_S512x256_0_1280) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨1280 + j.val, by omega⟩) (by intro a; fin_cases a <;> simp <;> rfl)]
  pointwise [k0_pay31, k0_pay30, k0_pay28]
  refine act_at _ w p f b _ _ _ _ _ _ _ ?_ ?_ ?_ ?_ ?_ <;> first | rfl | (apply Fin.ext; dsimp only; omega) | (dsimp only; omega)

theorem gate6 : k0_pay34 H (View.ld (w) (Rect.unit ![0, 4352] ![1024, 256] inb_S1024x5632_S1024x256_0_4352))
    = View.ld (rows H w p) (Rect.unit ![8, 1536] ![512, 256] inb_S520x2816_S512x256_8_1536) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨1536 + j.val, by omega⟩) (by intro a; fin_cases a <;> rfl)]
  pointwise [k0_pay34, k0_pay33]
  exact gate_at _ w p _ _ _ (by first | rfl | (dsimp only; omega)) (by first | rfl | (dsimp only; omega))

theorem act6 :
    k0_pay38 (k0_pay32 H (View.ld (w) (Rect.unit ![0, 1536] ![1024, 256] inb_S1024x5632_S1024x256_0_1536))) (k0_pay36 H (View.ld (w) (Rect.unit ![0, 4352] ![1024, 256] inb_S1024x5632_S1024x256_0_4352)) (View.ld (f) (Rect.unit ![0, 1536] ![1, 256] inb_S3x2816_S1x256_0_1536)) (View.ld (rows H w p) (Rect.unit ![6, 1536] ![512, 256] inb_S520x2816_S512x256_6_1536)) (View.ld (f) (Rect.unit ![1, 1536] ![1, 256] inb_S3x2816_S1x256_1_1536)) (View.ld (rows H w p) (Rect.unit ![7, 1536] ![512, 256] inb_S520x2816_S512x256_7_1536)) (View.ld (f) (Rect.unit ![2, 1536] ![1, 256] inb_S3x2816_S1x256_2_1536)) (View.ld (b) (Rect.unit ![0, 1536] ![1, 256] inb_S1x2816_S1x256_0_1536))) (k0_pay37 H (View.ld (w) (Rect.unit ![0, 4352] ![1024, 256] inb_S1024x5632_S1024x256_0_4352)) (View.ld (f) (Rect.unit ![0, 1536] ![1, 256] inb_S3x2816_S1x256_0_1536)) (View.ld (rows H w p) (Rect.unit ![6, 1536] ![512, 256] inb_S520x2816_S512x256_6_1536)) (View.ld (f) (Rect.unit ![1, 1536] ![1, 256] inb_S3x2816_S1x256_1_1536)) (View.ld (rows H w p) (Rect.unit ![7, 1536] ![512, 256] inb_S520x2816_S512x256_7_1536)) (View.ld (f) (Rect.unit ![2, 1536] ![1, 256] inb_S3x2816_S1x256_2_1536)) (View.ld (b) (Rect.unit ![0, 1536] ![1, 256] inb_S1x2816_S1x256_0_1536)))
    = View.ld (act H w (rows H w p) f b) (Rect.unit ![0, 1536] ![512, 256] inb_S512x2816_S512x256_0_1536) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨1536 + j.val, by omega⟩) (by intro a; fin_cases a <;> simp <;> rfl)]
  pointwise [k0_pay38, k0_pay32, k0_pay36, k0_pay37, k0_pay35, k0_pay33]
  refine act_at _ w p f b _ _ _ _ _ _ _ ?_ ?_ ?_ ?_ ?_ <;> first | rfl | (apply Fin.ext; dsimp only; omega) | (dsimp only; omega)

theorem gate7 : k0_pay41 H (View.ld (w) (Rect.unit ![0, 4608] ![1024, 256] inb_S1024x5632_S1024x256_0_4608))
    = View.ld (rows H w p) (Rect.unit ![8, 1792] ![512, 256] inb_S520x2816_S512x256_8_1792) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨1792 + j.val, by omega⟩) (by intro a; fin_cases a <;> rfl)]
  pointwise [k0_pay41, k0_pay40]
  exact gate_at _ w p _ _ _ (by first | rfl | (dsimp only; omega)) (by first | rfl | (dsimp only; omega))

theorem act7 :
    k0_pay43 (k0_pay39 H (View.ld (w) (Rect.unit ![0, 1792] ![1024, 256] inb_S1024x5632_S1024x256_0_1792))) (k0_pay42 H (View.ld (w) (Rect.unit ![0, 4608] ![1024, 256] inb_S1024x5632_S1024x256_0_4608)) (View.ld (f) (Rect.unit ![0, 1792] ![1, 256] inb_S3x2816_S1x256_0_1792)) (View.ld (rows H w p) (Rect.unit ![6, 1792] ![512, 256] inb_S520x2816_S512x256_6_1792)) (View.ld (f) (Rect.unit ![1, 1792] ![1, 256] inb_S3x2816_S1x256_1_1792)) (View.ld (rows H w p) (Rect.unit ![7, 1792] ![512, 256] inb_S520x2816_S512x256_7_1792)) (View.ld (f) (Rect.unit ![2, 1792] ![1, 256] inb_S3x2816_S1x256_2_1792)) (View.ld (b) (Rect.unit ![0, 1792] ![1, 256] inb_S1x2816_S1x256_0_1792)))
    = View.ld (act H w (rows H w p) f b) (Rect.unit ![0, 1792] ![512, 256] inb_S512x2816_S512x256_0_1792) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨1792 + j.val, by omega⟩) (by intro a; fin_cases a <;> simp <;> rfl)]
  pointwise [k0_pay43, k0_pay39, k0_pay42, k0_pay40]
  refine act_at _ w p f b _ _ _ _ _ _ _ ?_ ?_ ?_ ?_ ?_ <;> first | rfl | (apply Fin.ext; dsimp only; omega) | (dsimp only; omega)

theorem gate8 : k0_pay46 H (View.ld (w) (Rect.unit ![0, 4864] ![1024, 256] inb_S1024x5632_S1024x256_0_4864))
    = View.ld (rows H w p) (Rect.unit ![8, 2048] ![512, 256] inb_S520x2816_S512x256_8_2048) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨2048 + j.val, by omega⟩) (by intro a; fin_cases a <;> rfl)]
  pointwise [k0_pay46, k0_pay45]
  exact gate_at _ w p _ _ _ (by first | rfl | (dsimp only; omega)) (by first | rfl | (dsimp only; omega))

theorem act8 :
    k0_pay48 (k0_pay44 H (View.ld (w) (Rect.unit ![0, 2048] ![1024, 256] inb_S1024x5632_S1024x256_0_2048))) (k0_pay47 H (View.ld (w) (Rect.unit ![0, 4864] ![1024, 256] inb_S1024x5632_S1024x256_0_4864)) (View.ld (f) (Rect.unit ![0, 2048] ![1, 256] inb_S3x2816_S1x256_0_2048)) (View.ld (rows H w p) (Rect.unit ![6, 2048] ![512, 256] inb_S520x2816_S512x256_6_2048)) (View.ld (f) (Rect.unit ![1, 2048] ![1, 256] inb_S3x2816_S1x256_1_2048)) (View.ld (rows H w p) (Rect.unit ![7, 2048] ![512, 256] inb_S520x2816_S512x256_7_2048)) (View.ld (f) (Rect.unit ![2, 2048] ![1, 256] inb_S3x2816_S1x256_2_2048))) (View.ld (b) (Rect.unit ![0, 2048] ![1, 256] inb_S1x2816_S1x256_0_2048))
    = View.ld (act H w (rows H w p) f b) (Rect.unit ![0, 2048] ![512, 256] inb_S512x2816_S512x256_0_2048) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨2048 + j.val, by omega⟩) (by intro a; fin_cases a <;> simp <;> rfl)]
  pointwise [k0_pay48, k0_pay44, k0_pay47, k0_pay45]
  refine act_at _ w p f b _ _ _ _ _ _ _ ?_ ?_ ?_ ?_ ?_ <;> first | rfl | (apply Fin.ext; dsimp only; omega) | (dsimp only; omega)

theorem gate9 : k0_pay51 H (View.ld (w) (Rect.unit ![0, 5120] ![1024, 256] inb_S1024x5632_S1024x256_0_5120))
    = View.ld (rows H w p) (Rect.unit ![8, 2304] ![512, 256] inb_S520x2816_S512x256_8_2304) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨2304 + j.val, by omega⟩) (by intro a; fin_cases a <;> rfl)]
  pointwise [k0_pay51, k0_pay50]
  exact gate_at _ w p _ _ _ (by first | rfl | (dsimp only; omega)) (by first | rfl | (dsimp only; omega))

theorem act9 :
    k0_pay53 (k0_pay49 H (View.ld (w) (Rect.unit ![0, 2304] ![1024, 256] inb_S1024x5632_S1024x256_0_2304))) (k0_pay50 H (View.ld (w) (Rect.unit ![0, 5120] ![1024, 256] inb_S1024x5632_S1024x256_0_5120))) (k0_pay52 (View.ld (f) (Rect.unit ![0, 2304] ![1, 256] inb_S3x2816_S1x256_0_2304)) (View.ld (rows H w p) (Rect.unit ![6, 2304] ![512, 256] inb_S520x2816_S512x256_6_2304)) (View.ld (f) (Rect.unit ![1, 2304] ![1, 256] inb_S3x2816_S1x256_1_2304)) (View.ld (rows H w p) (Rect.unit ![7, 2304] ![512, 256] inb_S520x2816_S512x256_7_2304))) (View.ld (f) (Rect.unit ![2, 2304] ![1, 256] inb_S3x2816_S1x256_2_2304)) (View.ld (b) (Rect.unit ![0, 2304] ![1, 256] inb_S1x2816_S1x256_0_2304))
    = View.ld (act H w (rows H w p) f b) (Rect.unit ![0, 2304] ![512, 256] inb_S512x2816_S512x256_0_2304) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨2304 + j.val, by omega⟩) (by intro a; fin_cases a <;> simp <;> rfl)]
  pointwise [k0_pay53, k0_pay49, k0_pay50, k0_pay52]
  refine act_at _ w p f b _ _ _ _ _ _ _ ?_ ?_ ?_ ?_ ?_ <;> first | rfl | (apply Fin.ext; dsimp only; omega) | (dsimp only; omega)

theorem gate10 : k0_pay56 H (View.ld (w) (Rect.unit ![0, 5376] ![1024, 256] inb_S1024x5632_S1024x256_0_5376))
    = View.ld (rows H w p) (Rect.unit ![8, 2560] ![512, 256] inb_S520x2816_S512x256_8_2560) := by
  funext x
  obtain ⟨r, j, rfl⟩ : ∃ (r : Fin 512) (j : Fin 256), x = ix2 r j := ⟨x 0, x 1, eq_ix2 x⟩
  rw [View.ld_unit_apply_of _ _ _ _ _ (ix2 (n0 := 520) (n1 := 2816) ⟨8 + r.val, by omega⟩ ⟨2560 + j.val, by omega⟩) (by intro a; fin_cases a <;> rfl)]
  pointwise [k0_pay56, k0_pay55]
  exact gate_at _ w p _ _ _ (by first | rfl | (dsimp only; omega)) (by first | rfl | (dsimp only; omega))

theorem act10 :
    k0_pay58 (k0_pay54 H (View.ld (w) (Rect.unit ![0, 2560] ![1024, 256] inb_S1024x5632_S1024x256_0_2560))) (k0_pay55 H (View.ld (w) (Rect.unit ![0, 5376] ![1024, 256] inb_S1024x5632_S1024x256_0_5376))) (k0_pay57 (View.ld (f) (Rect.unit ![0, 2560] ![1, 256] inb_S3x2816_S1x256_0_2560)) (View.ld (rows H w p) (Rect.unit ![6, 2560] ![512, 256] inb_S520x2816_S512x256_6_2560))) (View.ld (f) (Rect.unit ![1, 2560] ![1, 256] inb_S3x2816_S1x256_1_2560)) (View.ld (rows H w p) (Rect.unit ![7, 2560] ![512, 256] inb_S520x2816_S512x256_7_2560)) (View.ld (f) (Rect.unit ![2, 2560] ![1, 256] inb_S3x2816_S1x256_2_2560)) (View.ld (b) (Rect.unit ![0, 2560] ![1, 256] inb_S1x2816_S1x256_0_2560))
    = View.ld (act H w (rows H w p) f b) (Rect.unit ![0, 2560] ![512, 256] inb_S512x2816_S512x256_0_2560) := by
  funext x
  obtain ⟨r, j, rfl⟩ : ∃ (r : Fin 512) (j : Fin 256), x = ix2 r j := ⟨x 0, x 1, eq_ix2 x⟩
  rw [View.ld_unit_apply_of _ _ _ _ _ (ix2 (n0 := 512) (n1 := 2816) ⟨r.val, by omega⟩ ⟨2560 + j.val, by omega⟩) (by intro a; fin_cases a <;> simp <;> rfl)]
  pointwise [k0_pay58, k0_pay54, k0_pay55, k0_pay57]
  refine act_at _ w p f b _ _ _ _ _ _ _ ?_ ?_ ?_ ?_ ?_ <;> first | rfl | (apply Fin.ext; dsimp only; omega) | (dsimp only; omega)

end Cert.KernelIdeal.Ffn
end
-- ==== Proof.Reads.lean ====
module

public import Idealize.ShloMosaic.Lib.Pipeline.ValueKit
public import Idealize.ShloMosaic.Lib.Pointwise

/-! Reading back a buffer that was filled by stores. Each store holds a rectangle of one block `G`; a later load of a rectangle that
    the stores cover is then the same rectangle of `G`. -/

@[expose] public section
noncomputable section
open Idealize.ShloMosaic Idealize.ShloMosaic.TcCoe Idealize.SL.Sem
namespace Cert.Reads
open View

variable {sig : RefSig} {κ : Kind} {sp : Space} {S : Shape} {e : EltTy} {Val : EltTy → Type}

/-- Every store of the list holds its rectangle of `G`. -/
def Agree (G : S.Idx → Val e) (L : List (Piece Val S e)) : Prop := ∀ q ∈ L, ∀ x : q.1.shape.Idx, q.2 x = G (q.1.emb x)

theorem agree_nil (G : S.Idx → Val e) : Agree G ([] : List (Piece Val S e)) := fun _ h => absurd h List.not_mem_nil

theorem agree_cons (G : S.Idx → Val e) (R : Rect S) (L : List (Piece Val S e)) (h : Agree G L) :
    Agree G ((⟨R, View.ld (Val := Val) (e' := e) G R⟩ : Piece Val S e) :: L) := by
  intro q hq
  rcases List.mem_cons.mp hq with rfl | hq
  · intro x; rfl
  · exact h q hq

/-- The list holds a store of the rectangle `R`. -/
def Has (R : Rect S) (L : List (Piece Val S e)) : Prop := ∃ q ∈ L, q.1 = R

theorem has_here (R : Rect S) (g : R.shape.Idx → Val e) (L : List (Piece Val S e)) : Has R ((⟨R, g⟩ : Piece Val S e) :: L) :=
  ⟨_, List.mem_cons_self, rfl⟩

theorem has_there (R : Rect S) (q : Piece Val S e) (L : List (Piece Val S e)) (h : Has R L) : Has R (q :: L) :=
  let ⟨p, hp, hr⟩ := h; ⟨p, List.mem_cons_of_mem _ hp, hr⟩

theorem Has.cover {R : Rect S} {L : List (Piece Val S e)} (h : Has R L) {y : S.Idx} (hy : y ∈ R.set) : ∃ q ∈ L, y ∈ q.1.set :=
  let ⟨p, hp, hr⟩ := h; ⟨p, hp, hr ▸ hy⟩

/-- A load of covered places reads `G`. -/
theorem readCov_eq [∀ e, Nonempty (Val e)] (v : View sig κ sp S e) (G : S.Idx → Val e) (L : List (Piece Val S e)) (R : Rect S)
    (hL : Agree G L) (hc : ∀ x : R.shape.Idx, ∃ q ∈ L, R.emb x ∈ q.1.set) :
    v.readCov L R.toLoadRect = View.ld (Val := Val) (e' := e) G R := by
  funext x
  exact read_writes_apply_of_pieces v v.junk G L hL (R.emb x) (hc x)

/-- A place reads `G` where the stores cover it or what lay there before is `G` already. -/
theorem read_writes_eq (v : View sig κ sp S e) (f : v.ty.Contents Val) (G : S.Idx → Val e) (L : List (Piece Val S e))
    (hL : Agree G L) (y : S.Idx) (h : v.read Val f y = G y ∨ ∃ q ∈ L, y ∈ q.1.set) : v.read Val (v.writes Val f L) y = G y := by
  by_cases hc : ∃ q ∈ L, y ∈ q.1.set
  · exact read_writes_apply_of_pieces v f G L hL y hc
  · rw [read_writes_apply_of_forall_not_mem v f y L fun q hq hy => hc ⟨q, hq, hy⟩]
    exact h.resolve_right hc

/-- The same for a load of a whole rectangle. -/
theorem ld_writes_eq (v : View sig κ sp S e) (f : v.ty.Contents Val) (G : S.Idx → Val e) (L : List (Piece Val S e)) (R : Rect S)
    (hL : Agree G L) (h : ∀ x : R.shape.Idx, v.read Val f (R.emb x) = G (R.emb x) ∨ ∃ q ∈ L, R.emb x ∈ q.1.set) :
    View.ld (Val := Val) (e' := e) (v.read Val (v.writes Val f L)) R = View.ld (Val := Val) (e' := e) G R :=
  funext fun x => read_writes_eq v f G L hL (R.emb x) (h x)

end Cert.Reads
end
-- ==== Proof.Block.lean ====
module

public import proofs.«01_k».proof.Proof.Point
public import proofs.«01_k».proof.Proof.Reads
public import Idealize.ShloMosaic.Lib.Pipeline.ReadBack

/-! What one grid point of the feed-forward call leaves in its two result blocks and in the carried scratch rows, as functions of the
    point's blocks. -/

@[expose] public section
set_option maxRecDepth 16384
noncomputable section
open Idealize.ShloMosaic Idealize.ShloMosaic.TcCoe Idealize.SL.Sem
open Idealize.ShloMosaic.Pipeline (Dat)
open Cert.Reads
namespace Cert.KernelIdeal.Ffn
open Cert.KernelIdeal Cert.KernelIdeal.Gen

section Loads
variable {κ : Kind} {sp : Space}

/-- A load of a chunk moved up by a few rows, after the chunk itself and the eight rows on top were stored. -/
theorem load_cov (v : View sig κ sp S520x2816 .f32) (G : Vec Ideal S520x2816 .f32) (o a : ℕ) (ha : a ≤ 8)
    (i1 : ∀ d, (![8, o] : Fin 2 → ℕ) d + (![512, 256] : Fin 2 → ℕ) d ≤ S520x2816.size d) (L : List (View.Piece (Elt Ideal) S520x2816 .f32))
    (i2 : ∀ d, (![a, o] : Fin 2 → ℕ) d + (![512, 256] : Fin 2 → ℕ) d ≤ S520x2816.size d)
    (hL : Agree G L) (hh : Has (Rect.unit ![0, 0] ![8, 2816] inb_S520x2816_S8x2816_0_0) L) :
    v.readCov (⟨Rect.unit ![8, o] ![512, 256] i1, View.ld (Val := Elt Ideal) (e' := .f32) G _⟩ :: L) (Rect.unit ![a, o] ![512, 256] i2).toLoadRect
      = View.ld (Val := Elt Ideal) (e' := .f32) G (Rect.unit ![a, o] ![512, 256] i2) := by
  refine readCov_eq v G _ _ (agree_cons _ _ _ hL) fun x => ?_
  have e0 : ((Rect.unit (s := S520x2816) ![a, o] ![512, 256] i2).emb x 0).val = a + (x 0).val := Rect.idx_unit_val _ _ _ x 0
  have e1 : ((Rect.unit (s := S520x2816) ![a, o] ![512, 256] i2).emb x 1).val = o + (x 1).val := Rect.idx_unit_val _ _ _ x 1
  have l0 : (x 0).val < 512 := (x 0).isLt
  have l1 : (x 1).val < 256 := (x 1).isLt
  have b1 : o + 256 ≤ 2816 := i1 1
  by_cases h : a + (x 0).val < 8
  · refine (has_there _ _ _ hh).cover (Rect.mem_set_unit.mpr (Fin.forall_fin_two.mpr ⟨⟨Nat.zero_le _, ?_⟩, ⟨Nat.zero_le _, ?_⟩⟩))
    · rw [e0]; change _ < 0 + 8; omega
    · rw [e1]; change _ < 0 + 2816; omega
  · refine (has_here _ _ _).cover (Rect.mem_set_unit.mpr (Fin.forall_fin_two.mpr ⟨⟨?_, ?_⟩, ⟨?_, ?_⟩⟩))
    · rw [e0]; change 8 ≤ _; omega
    · rw [e0]; change _ < 8 + 512; omega
    · rw [e1]; change o ≤ _; omega
    · rw [e1]; change _ < o + 256; omega

/-- The same load where the eight rows on top were there before. -/
theorem load_over (v : View sig κ sp S520x2816 .f32) (g : v.ty.Contents (Elt Ideal)) (G : Vec Ideal S520x2816 .f32) (o a : ℕ) (ha : a ≤ 8)
    (i1 : ∀ d, (![8, o] : Fin 2 → ℕ) d + (![512, 256] : Fin 2 → ℕ) d ≤ S520x2816.size d) (L : List (View.Piece (Elt Ideal) S520x2816 .f32))
    (i2 : ∀ d, (![a, o] : Fin 2 → ℕ) d + (![512, 256] : Fin 2 → ℕ) d ≤ S520x2816.size d)
    (hL : Agree G L) (hg : ∀ y : S520x2816.Idx, (y 0).val < 8 → v.read (Elt Ideal) g y = G y) :
    View.ld (Val := Elt Ideal) (e' := .f32)
        (v.read (Elt Ideal) (v.writes (Elt Ideal) g (⟨Rect.unit ![8, o] ![512, 256] i1, View.ld (Val := Elt Ideal) (e' := .f32) G _⟩ :: L)))
        (Rect.unit ![a, o] ![512, 256] i2)
      = View.ld (Val := Elt Ideal) (e' := .f32) G (Rect.unit ![a, o] ![512, 256] i2) := by
  refine ld_writes_eq v g G _ _ (agree_cons _ _ _ hL) fun x => ?_
  have e0 : ((Rect.unit (s := S520x2816) ![a, o] ![512, 256] i2).emb x 0).val = a + (x 0).val := Rect.idx_unit_val _ _ _ x 0
  have e1 : ((Rect.unit (s := S520x2816) ![a, o] ![512, 256] i2).emb x 1).val = o + (x 1).val := Rect.idx_unit_val _ _ _ x 1
  have l0 : (x 0).val < 512 := (x 0).isLt
  have l1 : (x 1).val < 256 := (x 1).isLt
  have b1 : o + 256 ≤ 2816 := i1 1
  by_cases h : a + (x 0).val < 8
  · exact .inl (hg _ (by rw [e0]; exact h))
  · refine .inr ((has_here _ _ _).cover (Rect.mem_set_unit.mpr (Fin.forall_fin_two.mpr ⟨⟨?_, ?_⟩, ⟨?_, ?_⟩⟩)))
    · rw [e0]; change 8 ≤ _; omega
    · rw [e0]; change _ < 8 + 512; omega
    · rw [e1]; change o ≤ _; omega
    · rw [e1]; change _ < o + 256; omega

/-- The last eight rows, read after all eleven chunks were stored. -/
theorem load_last (v : View sig κ sp S520x2816 .f32) (G : Vec Ideal S520x2816 .f32) (L : List (View.Piece (Elt Ideal) S520x2816 .f32))
    (hL : Agree G L) :
    v.readCov ((⟨Rect.unit ![8, 2560] ![512, 256] inb_S520x2816_S512x256_8_2560, View.ld (Val := Elt Ideal) (e' := .f32) G _⟩ : View.Piece (Elt Ideal) S520x2816 .f32) :: (⟨Rect.unit ![8, 2304] ![512, 256] inb_S520x2816_S512x256_8_2304, View.ld (Val := Elt Ideal) (e' := .f32) G _⟩ : View.Piece (Elt Ideal) S520x2816 .f32) :: (⟨Rect.unit ![8, 2048] ![512, 256] inb_S520x2816_S512x256_8_2048, View.ld (Val := Elt Ideal) (e' := .f32) G _⟩ : View.Piece (Elt Ideal) S520x2816 .f32) :: (⟨Rect.unit ![8, 1792] ![512, 256] inb_S520x2816_S512x256_8_1792, View.ld (Val := Elt Ideal) (e' := .f32) G _⟩ : View.Piece (Elt Ideal) S520x2816 .f32) :: (⟨Rect.unit ![8, 1536] ![512, 256] inb_S520x2816_S512x256_8_1536, View.ld (Val := Elt Ideal) (e' := .f32) G _⟩ : View.Piece (Elt Ideal) S520x2816 .f32) :: (⟨Rect.unit ![8, 1280] ![512, 256] inb_S520x2816_S512x256_8_1280, View.ld (Val := Elt Ideal) (e' := .f32) G _⟩ : View.Piece (Elt Ideal) S520x2816 .f32) :: (⟨Rect.unit ![8, 1024] ![512, 256] inb_S520x2816_S512x256_8_1024, View.ld (Val := Elt Ideal) (e' := .f32) G _⟩ : View.Piece (Elt Ideal) S520x2816 .f32) :: (⟨Rect.unit ![8, 768] ![512, 256] inb_S520x2816_S512x256_8_768, View.ld (Val := Elt Ideal) (e' := .f32) G _⟩ : View.Piece (Elt Ideal) S520x2816 .f32) :: (⟨Rect.unit ![8, 512] ![512, 256] inb_S520x2816_S512x256_8_512, View.ld (Val := Elt Ideal) (e' := .f32) G _⟩ : View.Piece (Elt Ideal) S520x2816 .f32) :: (⟨Rect.unit ![8, 256] ![512, 256] inb_S520x2816_S512x256_8_256, View.ld (Val := Elt Ideal) (e' := .f32) G _⟩ : View.Piece (Elt Ideal) S520x2816 .f32) :: (⟨Rect.unit ![8, 0] ![512, 256] inb_S520x2816_S512x256_8_0, View.ld (Val := Elt Ideal) (e' := .f32) G _⟩ : View.Piece (Elt Ideal) S520x2816 .f32) :: L)
        (Rect.unit ![512, 0] ![8, 2816] inb_S520x2816_S8x2816_512_0).toLoadRect
      = View.ld (Val := Elt Ideal) (e' := .f32) G (Rect.unit ![512, 0] ![8, 2816] inb_S520x2816_S8x2816_512_0) := by
  refine readCov_eq v G _ _ (by repeat' (first | exact hL | apply agree_cons)) fun x => ?_
  have e0 : ((Rect.unit (s := S520x2816) ![512, 0] ![8, 2816] inb_S520x2816_S8x2816_512_0).emb x 0).val = 512 + (x 0).val := Rect.idx_unit_val _ _ _ x 0
  have e1 : ((Rect.unit (s := S520x2816) ![512, 0] ![8, 2816] inb_S520x2816_S8x2816_512_0).emb x 1).val = 0 + (x 1).val := Rect.idx_unit_val _ _ _ x 1
  have l0 : (x 0).val < 8 := (x 0).isLt
  have l1 : (x 1).val < 2816 := (x 1).isLt
  generalize (Rect.unit (s := S520x2816) ![512, 0] ![8, 2816] inb_S520x2816_S8x2816_512_0).emb x = y at e0 e1 ⊢
  by_cases h10 : 2560 ≤ (x 1).val
  · exact (has_here _ _ _).cover (Rect.mem_set_unit.mpr (Fin.forall_fin_two.mpr ⟨⟨by simp <;> omega, by simp <;> omega⟩, ⟨by simp <;> omega, by simp <;> omega⟩⟩))
  by_cases h9 : 2304 ≤ (x 1).val
  · exact (has_there _ _ _ (has_here _ _ _)).cover (Rect.mem_set_unit.mpr (Fin.forall_fin_two.mpr ⟨⟨by simp <;> omega, by simp <;> omega⟩, ⟨by simp <;> omega, by simp <;> omega⟩⟩))
  by_cases h8 : 2048 ≤ (x 1).val
  · exact (has_there _ _ _ (has_there _ _ _ (has_here _ _ _))).cover (Rect.mem_set_unit.mpr (Fin.forall_fin_two.mpr ⟨⟨by simp <;> omega, by simp <;> omega⟩, ⟨by simp <;> omega, by simp <;> omega⟩⟩))
  by_cases h7 : 1792 ≤ (x 1).val
  · exact (has_there _ _ _ (has_there _ _ _ (has_there _ _ _ (has_here _ _ _)))).cover (Rect.mem_set_unit.mpr (Fin.forall_fin_two.mpr ⟨⟨by simp <;> omega, by simp <;> omega⟩, ⟨by simp <;> omega, by simp <;> omega⟩⟩))
  by_cases h6 : 1536 ≤ (x 1).val
  · exact (has_there _ _ _ (has_there _ _ _ (has_there _ _ _ (has_there _ _ _ (has_here _ _ _))))).cover (Rect.mem_set_unit.mpr (Fin.forall_fin_two.mpr ⟨⟨by simp <;> omega, by simp <;> omega⟩, ⟨by simp <;> omega, by simp <;> omega⟩⟩))
  by_cases h5 : 1280 ≤ (x 1).val
  · exact (has_there _ _ _ (has_there _ _ _ (has_there _ _ _ (has_there _ _ _ (has_there _ _ _ (has_here _ _ _)))))).cover (Rect.mem_set_unit.mpr (Fin.forall_fin_two.mpr ⟨⟨by simp <;> omega, by simp <;> omega⟩, ⟨by simp <;> omega, by simp <;> omega⟩⟩))
  by_cases h4 : 1024 ≤ (x 1).val
  · exact (has_there _ _ _ (has_there _ _ _ (has_there _ _ _ (has_there _ _ _ (has_there _ _ _ (has_there _ _ _ (has_here _ _ _))))))).cover (Rect.mem_set_unit.mpr (Fin.forall_fin_two.mpr ⟨⟨by simp <;> omega, by simp <;> omega⟩, ⟨by simp <;> omega, by simp <;> omega⟩⟩))
  by_cases h3 : 768 ≤ (x 1).val
  · exact (has_there _ _ _ (has_there _ _ _ (has_there _ _ _ (has_there _ _ _ (has_there _ _ _ (has_there _ _ _ (has_there _ _ _ (has_here _ _ _)))))))).cover (Rect.mem_set_unit.mpr (Fin.forall_fin_two.mpr ⟨⟨by simp <;> omega, by simp <;> omega⟩, ⟨by simp <;> omega, by simp <;> omega⟩⟩))
  by_cases h2 : 512 ≤ (x 1).val
  · exact (has_there _ _ _ (has_there _ _ _ (has_there _ _ _ (has_there _ _ _ (has_there _ _ _ (has_there _ _ _ (has_there _ _ _ (has_there _ _ _ (has_here _ _ _))))))))).cover (Rect.mem_set_unit.mpr (Fin.forall_fin_two.mpr ⟨⟨by simp <;> omega, by simp <;> omega⟩, ⟨by simp <;> omega, by simp <;> omega⟩⟩))
  by_cases h1 : 256 ≤ (x 1).val
  · exact (has_there _ _ _ (has_there _ _ _ (has_there _ _ _ (has_there _ _ _ (has_there _ _ _ (has_there _ _ _ (has_there _ _ _ (has_there _ _ _ (has_there _ _ _ (has_here _ _ _)))))))))).cover (Rect.mem_set_unit.mpr (Fin.forall_fin_two.mpr ⟨⟨by simp <;> omega, by simp <;> omega⟩, ⟨by simp <;> omega, by simp <;> omega⟩⟩))
  · exact (has_there _ _ _ (has_there _ _ _ (has_there _ _ _ (has_there _ _ _ (has_there _ _ _ (has_there _ _ _ (has_there _ _ _ (has_there _ _ _ (has_there _ _ _ (has_there _ _ _ (has_here _ _ _))))))))))).cover (Rect.mem_set_unit.mpr (Fin.forall_fin_two.mpr ⟨⟨by simp <;> omega, by simp <;> omega⟩, ⟨by simp <;> omega, by simp <;> omega⟩⟩))

/-- The whole gated block, read after its eleven chunks were stored. -/
theorem load_act (v : View sig κ sp S512x2816 .bf16) (G : Vec Ideal S512x2816 .bf16) :
    v.readCov [⟨Rect.unit ![0, 2560] ![512, 256] inb_S512x2816_S512x256_0_2560, View.ld (Val := Elt Ideal) (e' := .bf16) G _⟩, ⟨Rect.unit ![0, 2304] ![512, 256] inb_S512x2816_S512x256_0_2304, View.ld (Val := Elt Ideal) (e' := .bf16) G _⟩, ⟨Rect.unit ![0, 2048] ![512, 256] inb_S512x2816_S512x256_0_2048, View.ld (Val := Elt Ideal) (e' := .bf16) G _⟩, ⟨Rect.unit ![0, 1792] ![512, 256] inb_S512x2816_S512x256_0_1792, View.ld (Val := Elt Ideal) (e' := .bf16) G _⟩, ⟨Rect.unit ![0, 1536] ![512, 256] inb_S512x2816_S512x256_0_1536, View.ld (Val := Elt Ideal) (e' := .bf16) G _⟩, ⟨Rect.unit ![0, 1280] ![512, 256] inb_S512x2816_S512x256_0_1280, View.ld (Val := Elt Ideal) (e' := .bf16) G _⟩, ⟨Rect.unit ![0, 1024] ![512, 256] inb_S512x2816_S512x256_0_1024, View.ld (Val := Elt Ideal) (e' := .bf16) G _⟩, ⟨Rect.unit ![0, 768] ![512, 256] inb_S512x2816_S512x256_0_768, View.ld (Val := Elt Ideal) (e' := .bf16) G _⟩, ⟨Rect.unit ![0, 512] ![512, 256] inb_S512x2816_S512x256_0_512, View.ld (Val := Elt Ideal) (e' := .bf16) G _⟩, ⟨Rect.unit ![0, 256] ![512, 256] inb_S512x2816_S512x256_0_256, View.ld (Val := Elt Ideal) (e' := .bf16) G _⟩, ⟨Rect.unit ![0, 0] ![512, 256] inb_S512x2816_S512x256_0_0, View.ld (Val := Elt Ideal) (e' := .bf16) G _⟩]
        (Rect.unit ![0, 0] ![512, 2816] inb_S512x2816_S512x2816_0_0).toLoadRect = G := by
  rw [readCov_eq v G _ _ (by repeat' (first | exact agree_nil _ | apply agree_cons))]
  · exact View.ld_unit_lit inb_S512x2816_S512x2816_0_0 G (by intro a; fin_cases a <;> rfl)
  intro x
  have e0 : ((Rect.unit (s := S512x2816) ![0, 0] ![512, 2816] inb_S512x2816_S512x2816_0_0).emb x 0).val = 0 + (x 0).val := Rect.idx_unit_val _ _ _ x 0
  have e1 : ((Rect.unit (s := S512x2816) ![0, 0] ![512, 2816] inb_S512x2816_S512x2816_0_0).emb x 1).val = 0 + (x 1).val := Rect.idx_unit_val _ _ _ x 1
  have l0 : (x 0).val < 512 := (x 0).isLt
  have l1 : (x 1).val < 2816 := (x 1).isLt
  generalize (Rect.unit (s := S512x2816) ![0, 0] ![512, 2816] inb_S512x2816_S512x2816_0_0).emb x = y at e0 e1 ⊢
  by_cases h10 : 2560 ≤ (x 1).val
  · exact (has_here _ _ _).cover (Rect.mem_set_unit.mpr (Fin.forall_fin_two.mpr ⟨⟨by simp <;> omega, by simp <;> omega⟩, ⟨by simp <;> omega, by simp <;> omega⟩⟩))
  by_cases h9 : 2304 ≤ (x 1).val
  · exact (has_there _ _ _ (has_here _ _ _)).cover (Rect.mem_set_unit.mpr (Fin.forall_fin_two.mpr ⟨⟨by simp <;> omega, by simp <;> omega⟩, ⟨by simp <;> omega, by simp <;> omega⟩⟩))
  by_cases h8 : 2048 ≤ (x 1).val
  · exact (has_there _ _ _ (has_there _ _ _ (has_here _ _ _))).cover (Rect.mem_set_unit.mpr (Fin.forall_fin_two.mpr ⟨⟨by simp <;> omega, by simp <;> omega⟩, ⟨by simp <;> omega, by simp <;> omega⟩⟩))
  by_cases h7 : 1792 ≤ (x 1).val
  · exact (has_there _ _ _ (has_there _ _ _ (has_there _ _ _ (has_here _ _ _)))).cover (Rect.mem_set_unit.mpr (Fin.forall_fin_two.mpr ⟨⟨by simp <;> omega, by simp <;> omega⟩, ⟨by simp <;> omega, by simp <;> omega⟩⟩))
  by_cases h6 : 1536 ≤ (x 1).val
  · exact (has_there _ _ _ (has_there _ _ _ (has_there _ _ _ (has_there _ _ _ (has_here _ _ _))))).cover (Rect.mem_set_unit.mpr (Fin.forall_fin_two.mpr ⟨⟨by simp <;> omega, by simp <;> omega⟩, ⟨by simp <;> omega, by simp <;> omega⟩⟩))
  by_cases h5 : 1280 ≤ (x 1).val
  · exact (has_there _ _ _ (has_there _ _ _ (has_there _ _ _ (has_there _ _ _ (has_there _ _ _ (has_here _ _ _)))))).cover (Rect.mem_set_unit.mpr (Fin.forall_fin_two.mpr ⟨⟨by simp <;> omega, by simp <;> omega⟩, ⟨by simp <;> omega, by simp <;> omega⟩⟩))
  by_cases h4 : 1024 ≤ (x 1).val
  · exact (has_there _ _ _ (has_there _ _ _ (has_there _ _ _ (has_there _ _ _ (has_there _ _ _ (has_there _ _ _ (has_here _ _ _))))))).cover (Rect.mem_set_unit.mpr (Fin.forall_fin_two.mpr ⟨⟨by simp <;> omega, by simp <;> omega⟩, ⟨by simp <;> omega, by simp <;> omega⟩⟩))
  by_cases h3 : 768 ≤ (x 1).val
  · exact (has_there _ _ _ (has_there _ _ _ (has_there _ _ _ (has_there _ _ _ (has_there _ _ _ (has_there _ _ _ (has_there _ _ _ (has_here _ _ _)))))))).cover (Rect.mem_set_unit.mpr (Fin.forall_fin_two.mpr ⟨⟨by simp <;> omega, by simp <;> omega⟩, ⟨by simp <;> omega, by simp <;> omega⟩⟩))
  by_cases h2 : 512 ≤ (x 1).val
  · exact (has_there _ _ _ (has_there _ _ _ (has_there _ _ _ (has_there _ _ _ (has_there _ _ _ (has_there _ _ _ (has_there _ _ _ (has_there _ _ _ (has_here _ _ _))))))))).cover (Rect.mem_set_unit.mpr (Fin.forall_fin_two.mpr ⟨⟨by simp <;> omega, by simp <;> omega⟩, ⟨by simp <;> omega, by simp <;> omega⟩⟩))
  by_cases h1 : 256 ≤ (x 1).val
  · exact (has_there _ _ _ (has_there _ _ _ (has_there _ _ _ (has_there _ _ _ (has_there _ _ _ (has_there _ _ _ (has_there _ _ _ (has_there _ _ _ (has_there _ _ _ (has_here _ _ _)))))))))).cover (Rect.mem_set_unit.mpr (Fin.forall_fin_two.mpr ⟨⟨by simp <;> omega, by simp <;> omega⟩, ⟨by simp <;> omega, by simp <;> omega⟩⟩))
  · exact (has_there _ _ _ (has_there _ _ _ (has_there _ _ _ (has_there _ _ _ (has_there _ _ _ (has_there _ _ _ (has_there _ _ _ (has_there _ _ _ (has_there _ _ _ (has_there _ _ _ (has_here _ _ _))))))))))).cover (Rect.mem_set_unit.mpr (Fin.forall_fin_two.mpr ⟨⟨by simp <;> omega, by simp <;> omega⟩, ⟨by simp <;> omega, by simp <;> omega⟩⟩))

end Loads

variable (m : (ℓ : Loc nD τ sig) → Buf (Elt Ideal) ℓ)

/-- The modulated block of point `t`. -/
def mod (c : Dev nD) (t : Fin cfg0.N) : FVec Ideal S512x1024 .bf16 := k0_pay5 (iblk m c 0 t) (iblk m c 2 t) (iblk m c 1 t)

/-- The result block of point `t` over the eight rows `p` on top of its gate rows. -/
def outY (c : Dev nD) (t : Fin cfg0.N) (p : Vec Ideal S8x2816 .f32) : Vec Ideal S1x512x1024 .f32 :=
  k0_pay60 (k0_pay59 (k0_pay4 (iblk m c 0 t))
    (act (mod m c t) (iblk m c 5 t) (rows (mod m c t) (iblk m c 5 t) p) (iblk m c 6 t) (iblk m c 7 t)) (iblk m c 8 t) (iblk m c 3 t))
    (iblk m c 9 t) (iblk m c 10 t)

/-- The first eight rows of a scratch block. -/
def top (X : Vec Ideal S520x2816 .f32) : Vec Ideal S8x2816 .f32 :=
  fun y => X (ix2 ⟨(y 0).val, by have := (y 0).isLt; change _ < 8 at this; omega⟩ (y 1))

theorem rows_top (H : FVec Ideal S512x1024 .bf16) (w : Vec Ideal S1024x5632 .bf16) (p : Vec Ideal S8x2816 .f32) (y : S520x2816.Idx)
    (hy : (y 0).val < 8) : rows H w p y = p (ix2 ⟨(y 0).val, hy⟩ ⟨(y 1).val, (y 1).isLt⟩) := dif_pos hy

/-- Eight rows are the top of the block they stand on. -/
theorem top_piece (H : FVec Ideal S512x1024 .bf16) (w : Vec Ideal S1024x5632 .bf16) (p : Vec Ideal S8x2816 .f32) :
    (⟨Rect.unit ![0, 0] ![8, 2816] inb_S520x2816_S8x2816_0_0, p⟩ : View.Piece (Elt Ideal) S520x2816 .f32)
      = ⟨Rect.unit ![0, 0] ![8, 2816] inb_S520x2816_S8x2816_0_0, View.ld (Val := Elt Ideal) (e' := .f32) (rows H w p) _⟩ := by
  congr 1
  funext x
  obtain ⟨r, j, rfl⟩ : ∃ (r : Fin 8) (j : Fin 2816), x = ix2 r j := ⟨x 0, x 1, eq_ix2 x⟩
  rw [View.ld_unit_apply_of _ _ _ _ _ (ix2 (n0 := 520) (n1 := 2816) ⟨r.val, by omega⟩ j) (by intro a; fin_cases a <;> simp <;> rfl)]
  exact (rows_top H w p (ix2 (n0 := 520) (n1 := 2816) ⟨r.val, by omega⟩ j) r.isLt).symm

theorem point_A (c : Dev nD) (t : Fin cfg0.N) (h0 : t.val % 16 = 0) :
    (outsAt0 m c t.val t.isLt).1 = outY m c t (k0_pay3 (iblk m c 4 t)) := by
  rw [outsAt0_A m c t h0]
  frame_out
  unfold outY mod
  set x0 := iblk m c 0 t
  set x1 := iblk m c 1 t
  set x2 := iblk m c 2 t
  set w := iblk m c 5 t
  set f := iblk m c 6 t
  set b := iblk m c 7 t
  set q := k0_pay3 (iblk m c 4 t) with hq
  have hA := top_piece (k0_pay5 x0 x2 x1) w q
  simp only [gate0 w q x0 x1 x2, gate1 (k0_pay5 x0 x2 x1) w q, gate2 (k0_pay5 x0 x2 x1) w q, gate3 (k0_pay5 x0 x2 x1) w q, gate4 (k0_pay5 x0 x2 x1) w q, gate5 (k0_pay5 x0 x2 x1) w q, gate6 (k0_pay5 x0 x2 x1) w q, gate7 (k0_pay5 x0 x2 x1) w q, gate8 (k0_pay5 x0 x2 x1) w q, gate9 (k0_pay5 x0 x2 x1) w q, gate10 (k0_pay5 x0 x2 x1) w q, hA]
  simp (disch := (repeat' (first | exact agree_nil _ | apply agree_cons | exact has_here _ _ _ | apply has_there | decide))) only [load_cov _ (rows (k0_pay5 x0 x2 x1) w q)]
  simp only [act0 w q f b x0 x1 x2, act1 (k0_pay5 x0 x2 x1) w q f b, act2 (k0_pay5 x0 x2 x1) w q f b, act3 (k0_pay5 x0 x2 x1) w q f b, act4 (k0_pay5 x0 x2 x1) w q f b, act5 (k0_pay5 x0 x2 x1) w q f b, act6 (k0_pay5 x0 x2 x1) w q f b, act7 (k0_pay5 x0 x2 x1) w q f b, act8 (k0_pay5 x0 x2 x1) w q f b, act9 (k0_pay5 x0 x2 x1) w q f b, act10 (k0_pay5 x0 x2 x1) w q f b]
  rw [load_act]

theorem point_B (c : Dev nD) (t : Fin cfg0.N) (h0 : ¬ t.val % 16 = 0) :
    (outsAt0 m c t.val t.isLt).1 = outY m c t (top (outsAt0 m c (t.val - 1) (by have := t.isLt; omega)).2.2) := by
  rw [outsAt0_B m c t h0]
  frame_out
  unfold outY mod
  set x0 := iblk m c 0 t
  set x1 := iblk m c 1 t
  set x2 := iblk m c 2 t
  set w := iblk m c 5 t
  set f := iblk m c 6 t
  set b := iblk m c 7 t
  set q := top (outsAt0 m c (t.val - 1) (by have := t.isLt; omega)).2.2 with hq
  have hq8 : ∀ g, (View.whole cc0_scratch0).read (Elt Ideal) g = (outsAt0 m c (t.val - 1) (by have := t.isLt; omega)).2.2 →
      ∀ y : S520x2816.Idx, (y 0).val < 8 → (View.whole cc0_scratch0).read (Elt Ideal) g y = rows (k0_pay5 x0 x2 x1) w q y := by
    intro g hg y hy
    rw [hg, rows_top _ _ _ y hy, hq]
    unfold top
    exact congrArg _ (eq_ix2 (n0 := 520) (n1 := 2816) y)
  simp only [gate0 w q x0 x1 x2, gate1 (k0_pay5 x0 x2 x1) w q, gate2 (k0_pay5 x0 x2 x1) w q, gate3 (k0_pay5 x0 x2 x1) w q, gate4 (k0_pay5 x0 x2 x1) w q, gate5 (k0_pay5 x0 x2 x1) w q, gate6 (k0_pay5 x0 x2 x1) w q, gate7 (k0_pay5 x0 x2 x1) w q, gate8 (k0_pay5 x0 x2 x1) w q, gate9 (k0_pay5 x0 x2 x1) w q, gate10 (k0_pay5 x0 x2 x1) w q]
  simp (disch := (first | exact hq8 _ (read_unread_whole _ _ _) | (repeat' (first | exact agree_nil _ | apply agree_cons | decide)))) only [load_over _ _ (rows (k0_pay5 x0 x2 x1) w q)]
  simp only [act0 w q f b x0 x1 x2, act1 (k0_pay5 x0 x2 x1) w q f b, act2 (k0_pay5 x0 x2 x1) w q f b, act3 (k0_pay5 x0 x2 x1) w q f b, act4 (k0_pay5 x0 x2 x1) w q f b, act5 (k0_pay5 x0 x2 x1) w q f b, act6 (k0_pay5 x0 x2 x1) w q f b, act7 (k0_pay5 x0 x2 x1) w q f b, act8 (k0_pay5 x0 x2 x1) w q f b, act9 (k0_pay5 x0 x2 x1) w q f b, act10 (k0_pay5 x0 x2 x1) w q f b]
  rw [load_act]

/-- The newest store, of the eight rows on top, is what the buffer holds there. -/
theorem canon_top (g : FVec Ideal S8x2816 .f32) (L : List (View.Piece (Elt Ideal) S520x2816 .f32)) (a : Fin 520) (r : Fin 8) (j : Fin 2816) (ha : a.val = r.val) :
    View.canon (Val := Elt Ideal) ((⟨Rect.unit ![0, 0] ![8, 2816] inb_S520x2816_S8x2816_0_0, g⟩ : View.Piece (Elt Ideal) S520x2816 .f32) :: L) (ix2 a j) = g (ix2 r j) := by
  have e : (Rect.unit (s := S520x2816) ![0, 0] ![8, 2816] inb_S520x2816_S8x2816_0_0).emb (ix2 r j) = ix2 a j := by
    refine Rect.emb_eq_of_coords _ _ _ (Fin.forall_fin_two.mpr ⟨?_, ?_⟩)
    · change a.val = 0 + 1 * r.val; omega
    · change j.val = 0 + 1 * j.val; omega
  exact (congrArg _ e.symm).trans (View.canon_cons_emb _ _ _ _)

/-- The rows kept for the next point are the last eight rows of the point's gate. -/
theorem kept (c : Dev nD) (t : Fin cfg0.N) (r : Fin 8) (j : Fin 2816) :
    top (outsAt0 m c t.val t.isLt).2.2 (ix2 r j) = proj (mod m c t) (iblk m c 5 t) ⟨504 + r.val, by omega⟩
      ⟨2816 + j.val, by omega⟩ := by
  have e : (ix2 (n0 := 520) (n1 := 2816) ⟨512 + r.val, by omega⟩ j) = ix2 ⟨8 + (504 + r.val), by omega⟩ j := by
    congr 1; exact Fin.ext (by dsimp only; omega)
  unfold mod
  by_cases h0 : t.val % 16 = 0
  · rw [outsAt0_A m c t h0]
    unfold top
    frame_out
    refine (canon_top _ _ _ r j rfl).trans ?_
    set x0 := iblk m c 0 t
    set x1 := iblk m c 1 t
    set x2 := iblk m c 2 t
    set w := iblk m c 5 t
    set f := iblk m c 6 t
    set b := iblk m c 7 t
    have hA := top_piece (k0_pay5 x0 x2 x1) w (k0_pay3 (iblk m c 4 t))
    simp only [gate0 w (k0_pay3 (iblk m c 4 t)) x0 x1 x2, gate1 (k0_pay5 x0 x2 x1) w (k0_pay3 (iblk m c 4 t)), gate2 (k0_pay5 x0 x2 x1) w (k0_pay3 (iblk m c 4 t)), gate3 (k0_pay5 x0 x2 x1) w (k0_pay3 (iblk m c 4 t)), gate4 (k0_pay5 x0 x2 x1) w (k0_pay3 (iblk m c 4 t)), gate5 (k0_pay5 x0 x2 x1) w (k0_pay3 (iblk m c 4 t)), gate6 (k0_pay5 x0 x2 x1) w (k0_pay3 (iblk m c 4 t)), gate7 (k0_pay5 x0 x2 x1) w (k0_pay3 (iblk m c 4 t)), gate8 (k0_pay5 x0 x2 x1) w (k0_pay3 (iblk m c 4 t)), gate9 (k0_pay5 x0 x2 x1) w (k0_pay3 (iblk m c 4 t)), gate10 (k0_pay5 x0 x2 x1) w (k0_pay3 (iblk m c 4 t)), hA]
    rw [load_last _ (rows (k0_pay5 x0 x2 x1) w (k0_pay3 (iblk m c 4 t))) _ (agree_cons _ _ _ (agree_nil _))]
    unfold k0_pay2
    rw [shapeCast_self, View.ld_unit_apply_of _ _ _ _ _ (ix2 (n0 := 520) (n1 := 2816) ⟨512 + r.val, by omega⟩ j) (by intro a; fin_cases a <;> simp <;> rfl), e]
    exact rows_low _ _ _ _ _ _ _ rfl rfl
  · rw [outsAt0_B m c t h0]
    unfold top
    frame_out
    refine (canon_top _ _ _ r j rfl).trans ?_
    set x0 := iblk m c 0 t
    set x1 := iblk m c 1 t
    set x2 := iblk m c 2 t
    set w := iblk m c 5 t
    set f := iblk m c 6 t
    set b := iblk m c 7 t
    simp only [gate0 w (k0_pay3 (iblk m c 4 t)) x0 x1 x2, gate1 (k0_pay5 x0 x2 x1) w (k0_pay3 (iblk m c 4 t)), gate2 (k0_pay5 x0 x2 x1) w (k0_pay3 (iblk m c 4 t)), gate3 (k0_pay5 x0 x2 x1) w (k0_pay3 (iblk m c 4 t)), gate4 (k0_pay5 x0 x2 x1) w (k0_pay3 (iblk m c 4 t)), gate5 (k0_pay5 x0 x2 x1) w (k0_pay3 (iblk m c 4 t)), gate6 (k0_pay5 x0 x2 x1) w (k0_pay3 (iblk m c 4 t)), gate7 (k0_pay5 x0 x2 x1) w (k0_pay3 (iblk m c 4 t)), gate8 (k0_pay5 x0 x2 x1) w (k0_pay3 (iblk m c 4 t)), gate9 (k0_pay5 x0 x2 x1) w (k0_pay3 (iblk m c 4 t)), gate10 (k0_pay5 x0 x2 x1) w (k0_pay3 (iblk m c 4 t))]
    rw [load_last _ (rows (k0_pay5 x0 x2 x1) w (k0_pay3 (iblk m c 4 t))) _ (agree_nil _)]
    unfold k0_pay2
    rw [shapeCast_self, View.ld_unit_apply_of _ _ _ _ _ (ix2 (n0 := 520) (n1 := 2816) ⟨512 + r.val, by omega⟩ j) (by intro a; fin_cases a <;> simp <;> rfl), e]
    exact rows_low _ _ _ _ _ _ _ rfl rfl

/-- The second result block of a point holds the last eight rows of the point's gate. -/
theorem point_state (c : Dev nD) (t : Fin cfg0.N) (r : Fin 8) (j : Fin 2816) :
    (outsAt0 m c t.val t.isLt).2.1 (ix3 0 r j) = proj (mod m c t) (iblk m c 5 t) ⟨504 + r.val, by omega⟩ ⟨2816 + j.val, by omega⟩ := by
  have e : (ix2 (n0 := 520) (n1 := 2816) ⟨512 + r.val, by omega⟩ j) = ix2 ⟨8 + (504 + r.val), by omega⟩ j := by
    congr 1; exact Fin.ext (by dsimp only; omega)
  unfold mod
  by_cases h0 : t.val % 16 = 0
  · rw [outsAt0_A m c t h0]
    frame_out
    set x0 := iblk m c 0 t
    set x1 := iblk m c 1 t
    set x2 := iblk m c 2 t
    set w := iblk m c 5 t
    set f := iblk m c 6 t
    set b := iblk m c 7 t
    have hA := top_piece (k0_pay5 x0 x2 x1) w (k0_pay3 (iblk m c 4 t))
    simp only [gate0 w (k0_pay3 (iblk m c 4 t)) x0 x1 x2, gate1 (k0_pay5 x0 x2 x1) w (k0_pay3 (iblk m c 4 t)), gate2 (k0_pay5 x0 x2 x1) w (k0_pay3 (iblk m c 4 t)), gate3 (k0_pay5 x0 x2 x1) w (k0_pay3 (iblk m c 4 t)), gate4 (k0_pay5 x0 x2 x1) w (k0_pay3 (iblk m c 4 t)), gate5 (k0_pay5 x0 x2 x1) w (k0_pay3 (iblk m c 4 t)), gate6 (k0_pay5 x0 x2 x1) w (k0_pay3 (iblk m c 4 t)), gate7 (k0_pay5 x0 x2 x1) w (k0_pay3 (iblk m c 4 t)), gate8 (k0_pay5 x0 x2 x1) w (k0_pay3 (iblk m c 4 t)), gate9 (k0_pay5 x0 x2 x1) w (k0_pay3 (iblk m c 4 t)), gate10 (k0_pay5 x0 x2 x1) w (k0_pay3 (iblk m c 4 t)), hA]
    rw [load_last _ (rows (k0_pay5 x0 x2 x1) w (k0_pay3 (iblk m c 4 t))) _ (agree_cons _ _ _ (agree_nil _))]
    pointwise [k0_pay1]
    rw [e]
    exact rows_low _ _ _ _ _ _ _ rfl rfl
  · rw [outsAt0_B m c t h0]
    frame_out
    set x0 := iblk m c 0 t
    set x1 := iblk m c 1 t
    set x2 := iblk m c 2 t
    set w := iblk m c 5 t
    set f := iblk m c 6 t
    set b := iblk m c 7 t
    simp only [gate0 w (k0_pay3 (iblk m c 4 t)) x0 x1 x2, gate1 (k0_pay5 x0 x2 x1) w (k0_pay3 (iblk m c 4 t)), gate2 (k0_pay5 x0 x2 x1) w (k0_pay3 (iblk m c 4 t)), gate3 (k0_pay5 x0 x2 x1) w (k0_pay3 (iblk m c 4 t)), gate4 (k0_pay5 x0 x2 x1) w (k0_pay3 (iblk m c 4 t)), gate5 (k0_pay5 x0 x2 x1) w (k0_pay3 (iblk m c 4 t)), gate6 (k0_pay5 x0 x2 x1) w (k0_pay3 (iblk m c 4 t)), gate7 (k0_pay5 x0 x2 x1) w (k0_pay3 (iblk m c 4 t)), gate8 (k0_pay5 x0 x2 x1) w (k0_pay3 (iblk m c 4 t)), gate9 (k0_pay5 x0 x2 x1) w (k0_pay3 (iblk m c 4 t)), gate10 (k0_pay5 x0 x2 x1) w (k0_pay3 (iblk m c 4 t))]
    rw [load_last _ (rows (k0_pay5 x0 x2 x1) w (k0_pay3 (iblk m c 4 t))) _ (agree_nil _)]
    pointwise [k0_pay1]
    rw [e]
    exact rows_low _ _ _ _ _ _ _ rfl rfl

end Cert.KernelIdeal.Ffn
end
-- ==== Proof.Operands.lean ====
module

public import proofs.«01_k».proof.Proof.Block
public import Idealize.ShloMosaic.Lib.Pipeline.ValueKit
public import Idealize.ShloMosaic.Lib.Claim

/-! The blocks of a grid point, read off the argument arrays. -/

@[expose] public section
set_option maxRecDepth 16384
noncomputable section
open Idealize.ShloMosaic Idealize.ShloMosaic.TcCoe Idealize.SL.Sem
open Idealize.ShloMosaic.Pipeline (Dat)
namespace Cert.KernelIdeal.Ffn
open Cert.KernelIdeal Cert.KernelIdeal.Gen

variable (m : (ℓ : Loc nD τ sig) → Buf (Elt Ideal) ℓ) (c : Dev nD) (t : Fin cfg0.N)

/-- Where each window's block sits at point `t = 16 b + i`. -/
theorem idx : ∀ t : Fin cfg0.N, win0_0.index t = ![t.val / 16, t.val % 16, 0] ∧ win0_1.index t = ![t.val / 16, 0, 0]
    ∧ win0_2.index t = ![t.val / 16, 0, 0] ∧ win0_3.index t = ![t.val / 16, 0, 0] ∧ win0_4.index t = ![t.val / 16, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

theorem lt_points : t.val < 32 := lt_of_lt_of_eq t.isLt (show cfg0.N = 32 from N_0)

theorem x_at (r : Fin 512) (k : Fin 1024) : iblk m c 0 t (ix3 0 r k)
    = m ((c : Thread nD τ).loc main_arg0) (ix3 ⟨t.val / 16, by have := lt_points t; omega⟩ ⟨512 * (t.val % 16) + r.val, by omega⟩ k) := by
  have hN := lt_points t
  blk_point [iblk, V, idx t]

theorem sh_at (k : Fin 1024) : iblk m c 1 t (ix3 0 0 k)
    = m ((c : Thread nD τ).loc main_arg1) (ix3 ⟨t.val / 16, by have := lt_points t; omega⟩ 0 k) := by
  have hN := lt_points t
  blk_point [iblk, V, idx t]

theorem sc_at (k : Fin 1024) : iblk m c 2 t (ix3 0 0 k)
    = m ((c : Thread nD τ).loc main_arg2) (ix3 ⟨t.val / 16, by have := lt_points t; omega⟩ 0 k) := by
  have hN := lt_points t
  blk_point [iblk, V, idx t]

theorem g2_at (k : Fin 1024) : iblk m c 3 t (ix3 0 0 k)
    = m ((c : Thread nD τ).loc main_arg3) (ix3 ⟨t.val / 16, by have := lt_points t; omega⟩ 0 k) := by
  have hN := lt_points t
  blk_point [iblk, V, idx t]

theorem halo_at (r : Fin 8) (j : Fin 2816) : iblk m c 4 t (ix3 0 r j) = (0 : EReal) := by
  have hN := lt_points t
  blk_point [iblk, idx t]

theorem up_at (k : Fin 1024) (j : Fin 5632) : iblk m c 5 t (ix2 k j) = m ((c : Thread nD τ).loc main_arg4) (ix2 k j) := by
  have hN := lt_points t
  blk_point [iblk, idx t]

theorem dw_at (k : Fin 3) (j : Fin 2816) : iblk m c 6 t (ix2 k j) = m ((c : Thread nD τ).loc main_arg5) (ix2 k j) := by
  have hN := lt_points t
  blk_point [iblk, V, idx t]

theorem bias_at (j : Fin 2816) : iblk m c 7 t (ix2 0 j) = m ((c : Thread nD τ).loc main_arg6) (ix1 j) := by
  have hN := lt_points t
  blk_point [iblk, idx t]

theorem down_at (j : Fin 2816) (n : Fin 1024) : iblk m c 8 t (ix2 j n) = m ((c : Thread nD τ).loc main_arg7) (ix2 j n) := by
  have hN := lt_points t
  blk_point [iblk, idx t]

theorem gain_at (n : Fin 1024) : iblk m c 9 t (ix2 0 n) = m ((c : Thread nD τ).loc main_arg8) (ix1 n) := by
  have hN := lt_points t
  blk_point [iblk, idx t]

theorem offset_at (n : Fin 1024) : iblk m c 10 t (ix2 0 n) = m ((c : Thread nD τ).loc main_arg9) (ix1 n) := by
  have hN := lt_points t
  blk_point [iblk, idx t]

end Cert.KernelIdeal.Ffn
end
-- ==== Proof.Ref.lean ====
module

public import proofs.«01_k».proof.Defs
public import proofs.«01_k».proof.Proof.Gen.ReferenceIdeal.Read
public import Idealize.ShloMosaic.Lib.Pointwise

/-! The stages of the reference feed-forward, read at an index. -/

@[expose] public section
set_option maxRecDepth 16384
noncomputable section
open Idealize.ShloMosaic Idealize.ShloMosaic.TcCoe Idealize.SL.Sem
namespace Cert.ReferenceIdeal.Ffn
open Cert.ReferenceIdeal Cert.ReferenceIdeal.Read

variable (a0 : (⟨S2x8192x1024, .f32⟩ : BufTy).Contents (Elt Ideal)) (a1 a2 a3 : (⟨S2x1x1024, .f32⟩ : BufTy).Contents (Elt Ideal))
  (a4 : (⟨S1024x5632, .f32⟩ : BufTy).Contents (Elt Ideal)) (a5 : (⟨S3x2816, .f32⟩ : BufTy).Contents (Elt Ideal))
  (a6 : (⟨S2816, .f32⟩ : BufTy).Contents (Elt Ideal)) (a7 : (⟨S2816x1024, .f32⟩ : BufTy).Contents (Elt Ideal))
  (a8 a9 : (⟨S1024, .f32⟩ : BufTy).Contents (Elt Ideal))

theorem mod_at (b : Fin 2) (t : Fin 8192) (k : Fin 1024) :
    val_main_v5 (F := Ideal) a0 a1 a2 (ix3 b t k) = a0 (ix3 b t k) * (1 + a2 (ix3 b 0 k)) + a1 (ix3 b 0 k) := by
  pointwise [val_main_v5, val_main_v4, val_main_v3, val_main_v2, val_main_v1, val_main_v0, val_main_cst]

theorem up_at (b : Fin 2) (t : Fin 8192) (j : Fin 5632) :
    val_main_v6 (F := Ideal) a0 a1 a2 a4 (ix3 b t j) = ∑ k : Fin 1024, val_main_v5 (F := Ideal) a0 a1 a2 (ix3 b t k) * a4 (ix2 k j) := by
  pointwise [val_main_v6]

theorem val_at (b : Fin 2) (t : Fin 8192) (j : Fin 2816) :
    val_main_v7 (F := Ideal) a0 a1 a2 a4 (ix3 b t j) = val_main_v6 (F := Ideal) a0 a1 a2 a4 (ix3 b t ⟨j.val, by omega⟩) := by
  pointwise [val_main_v7]

theorem gate_at (b : Fin 2) (t : Fin 8192) (j : Fin 2816) :
    val_main_v8 (F := Ideal) a0 a1 a2 a4 (ix3 b t j) = val_main_v6 (F := Ideal) a0 a1 a2 a4 (ix3 b t ⟨2816 + j.val, by omega⟩) := by
  pointwise [val_main_v8]

theorem pad_at (b : Fin 2) (t : Fin 8194) (j : Fin 2816) :
    val_main_v10 (F := Ideal) a0 a1 a2 a4 (ix3 b t j)
      = if h : t.val < 2 then 0 else val_main_v8 (F := Ideal) a0 a1 a2 a4 (ix3 b ⟨t.val - 2, by omega⟩ j) := by
  pointwise [val_main_v10, val_main_v9, val_main_cst_0]

theorem conv_at (b : Fin 2) (t : Fin 8192) (j : Fin 2816) :
    val_main_v35 (F := Ideal) a0 a1 a2 a4 a5 a6 (ix3 b t j)
      = a5 (ix2 0 j) * val_main_v10 (F := Ideal) a0 a1 a2 a4 (ix3 b ⟨t.val, by omega⟩ j)
        + a5 (ix2 1 j) * val_main_v10 (F := Ideal) a0 a1 a2 a4 (ix3 b ⟨1 + t.val, by omega⟩ j)
        + a5 (ix2 2 j) * val_main_v10 (F := Ideal) a0 a1 a2 a4 (ix3 b ⟨2 + t.val, by omega⟩ j) + a6 (ix1 j) := by
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17,
    val_main_v16, val_main_v15, val_main_v14, val_main_v13, val_main_v12, val_main_v11, val_main_cst_1]
  simp only [mul_comm]

theorem act_at (b : Fin 2) (t : Fin 8192) (j : Fin 2816) :
    val_main_v43 (F := Ideal) a0 a1 a2 a4 a5 a6 (ix3 b t j)
      = Ideal.ofBits .f32 0x3F000000#32 * val_main_v35 (F := Ideal) a0 a1 a2 a4 a5 a6 (ix3 b t j)
        * (1 + Ideal.erf (val_main_v35 (F := Ideal) a0 a1 a2 a4 a5 a6 (ix3 b t j) * Ideal.ofBits .f32 0x3F3504F3#32))
        * val_main_v7 (F := Ideal) a0 a1 a2 a4 (ix3 b t j) := by
  pointwise [val_main_v43, val_main_v42, val_main_v41, val_main_v40, val_main_v39, val_main_v38, val_main_v37, val_main_v36, val_main_cst_2, val_main_cst_3]
  simp only [neg_mul, Ideal.erfc_neg]

theorem res_at (b : Fin 2) (t : Fin 8192) (n : Fin 1024) :
    val_main_v51 (F := Ideal) a0 a1 a2 a3 a4 a5 a6 a7 (ix3 b t n)
      = Ideal.ofBits .f32 0x3F9837F0#32 * a0 (ix3 b t n)
        + (1 + a3 (ix3 b 0 n)) * ∑ j : Fin 2816, val_main_v43 (F := Ideal) a0 a1 a2 a4 a5 a6 (ix3 b t j) * a7 (ix2 j n) := by
  pointwise [val_main_v51, val_main_v50, val_main_v49, val_main_v48, val_main_v47, val_main_v46, val_main_v45, val_main_v44, val_main_cst_4, val_main_cst_5]

/-- The mean of a row. -/
def mean (g : Fin 1024 → EReal) : EReal := Ideal.div (∑ x, g x) (Ideal.ofBits .f32 0x44800000#32)

/-- A normalised row, times a gain, plus an offset. -/
def norm (g : Fin 1024 → EReal) (x y : EReal) (n : Fin 1024) : EReal :=
  (g n - mean g) * Ideal.rsqrt (mean (fun x => (g x - mean g) * (g x - mean g)) + Ideal.ofBits .f32 0x3727C5AC#32) * x + y

theorem out_at (b : Fin 2) (t : Fin 8192) (n : Fin 1024) :
    val_main_v75 (F := Ideal) a0 a1 a2 a3 a4 a5 a6 a7 a8 a9 (ix3 b t n)
      = norm (fun n => val_main_v51 (F := Ideal) a0 a1 a2 a3 a4 a5 a6 a7 (ix3 b t n)) (a8 (ix1 n)) (a9 (ix1 n)) n := by
  pointwise [val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58, val_main_v57,
    val_main_v56, val_main_v55, val_main_v54, val_main_v53, val_main_v52, val_main_cst_6, val_main_cst_7, val_main_cst_8, val_main_cst_9, val_main_cst_10]
  rfl

theorem state_at (b : Fin 2) (r : Fin 8) (j : Fin 2816) :
    val_main_v76 (F := Ideal) a0 a1 a2 a4 (ix3 b r j) = val_main_v8 (F := Ideal) a0 a1 a2 a4 (ix3 b ⟨8184 + r.val, by omega⟩ j) := by
  pointwise [val_main_v76]

end Cert.ReferenceIdeal.Ffn
end
-- ==== Proof.Final.lean ====
module

public import proofs.«01_k».proof.Proof.Operands
public import proofs.«01_k».proof.Proof.Ref
public import proofs.«01_k».proof.Proof.Gen.KernelIdeal.Value
public import Idealize.ShloMosaic.Lib.Pointwise

/-! The two result arrays of the feed-forward call are the reference's. -/

@[expose] public section
set_option maxRecDepth 16384
noncomputable section
open Idealize.ShloMosaic Idealize.ShloMosaic.TcCoe Idealize.SL.Sem
open Idealize.ShloMosaic.Pipeline (Dat)
namespace Cert.KernelIdeal.Ffn
open Cert.KernelIdeal Cert.KernelIdeal.Gen
open Cert.ReferenceIdeal.Read

variable (m : (ℓ : Loc nD τ sig) → Buf (Elt Ideal) ℓ) (c : Dev nD) (t : Fin cfg0.N)

/-- The batch row of a grid point. -/
def bat : Fin 2 := ⟨t.val / 16, by have := lt_points t; omega⟩

/-- The sequence position of a row of a grid point's tile. -/
def pos (r : Fin 512) : Fin 8192 := ⟨512 * (t.val % 16) + r.val, by omega⟩

/-- The reference's modulated input. -/
abbrev M5 := val_main_v5 (F := Ideal) (m ((c : Thread nD τ).loc main_arg0)) (m ((c : Thread nD τ).loc main_arg1)) (m ((c : Thread nD τ).loc main_arg2))
/-- Its product with the first weight. -/
abbrev M6 := val_main_v6 (F := Ideal) (m ((c : Thread nD τ).loc main_arg0)) (m ((c : Thread nD τ).loc main_arg1)) (m ((c : Thread nD τ).loc main_arg2))
  (m ((c : Thread nD τ).loc main_arg4))
/-- The gate half. -/
abbrev M8 := val_main_v8 (F := Ideal) (m ((c : Thread nD τ).loc main_arg0)) (m ((c : Thread nD τ).loc main_arg1)) (m ((c : Thread nD τ).loc main_arg2))
  (m ((c : Thread nD τ).loc main_arg4))
/-- The gate half after two rows of zeros. -/
abbrev M10 := val_main_v10 (F := Ideal) (m ((c : Thread nD τ).loc main_arg0)) (m ((c : Thread nD τ).loc main_arg1)) (m ((c : Thread nD τ).loc main_arg2))
  (m ((c : Thread nD τ).loc main_arg4))
/-- The convolved gate. -/
abbrev M35 := val_main_v35 (F := Ideal) (m ((c : Thread nD τ).loc main_arg0)) (m ((c : Thread nD τ).loc main_arg1)) (m ((c : Thread nD τ).loc main_arg2))
  (m ((c : Thread nD τ).loc main_arg4)) (m ((c : Thread nD τ).loc main_arg5)) (m ((c : Thread nD τ).loc main_arg6))
/-- The activated product. -/
abbrev M43 := val_main_v43 (F := Ideal) (m ((c : Thread nD τ).loc main_arg0)) (m ((c : Thread nD τ).loc main_arg1)) (m ((c : Thread nD τ).loc main_arg2))
  (m ((c : Thread nD τ).loc main_arg4)) (m ((c : Thread nD τ).loc main_arg5)) (m ((c : Thread nD τ).loc main_arg6))
/-- The residual sum. -/
abbrev M51 := val_main_v51 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7))
/-- The normalised result. -/
abbrev M75 := val_main_v75 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))
/-- The last eight gate rows. -/
abbrev M76 := val_main_v76 (F := Ideal) (m ((c : Thread nD τ).loc main_arg0)) (m ((c : Thread nD τ).loc main_arg1)) (m ((c : Thread nD τ).loc main_arg2))
  (m ((c : Thread nD τ).loc main_arg4))

theorem mod_eq (r : Fin 512) (k : Fin 1024) : mod m c t (ix2 r k) = M5 m c (ix3 (bat t) (pos t r) k) := by
  unfold M5; rw [Cert.ReferenceIdeal.Ffn.mod_at]
  pointwise [mod, k0_pay5, k0_pay4]
  rw [x_at, sh_at, sc_at]
  rfl

theorem proj_eq (r : Fin 512) (j : Fin 5632) : proj (mod m c t) (iblk m c 5 t) r j = M6 m c (ix3 (bat t) (pos t r) j) := by
  unfold M6; rw [Cert.ReferenceIdeal.Ffn.up_at]
  unfold proj
  refine Finset.sum_congr rfl fun k _ => ?_
  rw [mod_eq, up_at]

/-- The eight rows above a tile, as the padded gate has them: only the last two are read. -/
def Above (p : Vec Ideal S8x2816 .f32) : Prop := ∀ (n : Fin 8) (j : Fin 2816) (h : 6 ≤ n.val),
  p (ix2 n j) = M10 m c (ix3 (bat t) ⟨512 * (t.val % 16) + n.val - 6, by omega⟩ j)

theorem above_first (h0 : t.val % 16 = 0) : Above m c t (k0_pay3 (iblk m c 4 t)) := by
  intro n j h
  unfold M10; rw [Cert.ReferenceIdeal.Ffn.pad_at, dif_pos (by show 512 * (t.val % 16) + n.val - 6 < 2; omega)]
  pointwise [k0_pay3]
  exact halo_at m c t n j

theorem above_later (h0 : ¬ t.val % 16 = 0) (ht : t.val - 1 < cfg0.N) : Above m c t (top (outsAt0 m c (t.val - 1) ht).2.2) := by
  intro n j h
  have hN := lt_points t
  unfold M10; rw [Cert.ReferenceIdeal.Ffn.pad_at, dif_neg (by show ¬ 512 * (t.val % 16) + n.val - 6 < 2; omega)]
  rw [kept m c ⟨t.val - 1, ht⟩ n j, proj_eq, Cert.ReferenceIdeal.Ffn.gate_at]
  refine congrArg _ ?_
  have e0 : bat ⟨t.val - 1, ht⟩ = bat t := Fin.ext (by show (t.val - 1) / 16 = t.val / 16; omega)
  rw [e0]
  refine congrArg (fun z => ix3 (bat t) z _) (Fin.ext ?_)
  show 512 * ((t.val - 1) % 16) + (504 + n.val) = 512 * (t.val % 16) + n.val - 6 - 2
  omega

variable (p : Vec Ideal S8x2816 .f32)

/-- The convolution's rows are the padded gate. -/
theorem rows_eq (hp : Above m c t p) (n : Fin 520) (j : Fin 2816) (h : 6 ≤ n.val) : rows (mod m c t) (iblk m c 5 t) p (ix2 n j)
    = M10 m c (ix3 (bat t) ⟨512 * (t.val % 16) + n.val - 6, by omega⟩ j) := by
  by_cases hn : n.val < 8
  · refine (dif_pos hn).trans ?_
    exact hp ⟨n.val, hn⟩ j h
  · refine (dif_neg hn).trans ?_
    unfold M10
    rw [proj_eq, Cert.ReferenceIdeal.Ffn.pad_at, dif_neg (by show ¬ 512 * (t.val % 16) + n.val - 6 < 2; omega),
      Cert.ReferenceIdeal.Ffn.gate_at]
    refine congrArg _ (congrArg (fun z => ix3 (bat t) z _) (Fin.ext ?_))
    show 512 * (t.val % 16) + (n.val - 8) = 512 * (t.val % 16) + n.val - 6 - 2
    omega

theorem conv_eq (hp : Above m c t p) (r : Fin 512) (j : Fin 2816) :
    conv (rows (mod m c t) (iblk m c 5 t) p) (iblk m c 6 t) (iblk m c 7 t) r j = M35 m c (ix3 (bat t) (pos t r) j) := by
  unfold M35; rw [Cert.ReferenceIdeal.Ffn.conv_at]
  unfold conv
  rw [rows_eq m c t p hp _ _ (by show 6 ≤ r.val + 6; omega), rows_eq m c t p hp _ _ (by show 6 ≤ r.val + 7; omega),
    rows_eq m c t p hp _ _ (by show 6 ≤ r.val + 8; omega), dw_at, dw_at, dw_at, bias_at]
  have q (s : ℕ) (hs : s ≤ 2) (z : Fin 8194) (hz : z.val = s + (512 * (t.val % 16) + r.val)) :
      (⟨512 * (t.val % 16) + (r.val + (6 + s)) - 6, by omega⟩ : Fin 8194) = z :=
    Fin.ext (by rw [hz]; show 512 * (t.val % 16) + (r.val + (6 + s)) - 6 = _; omega)
  exact congrArg₂ _ (congrArg₂ _ (congrArg₂ _
    (congrArg (fun z => _ * M10 m c (ix3 (bat t) z j)) (q 0 (by omega) ⟨(pos t r).val, _⟩ (by show _ = 0 + _; rw [Nat.zero_add]; rfl)))
    (congrArg (fun z => _ * M10 m c (ix3 (bat t) z j)) (q 1 (by omega) ⟨1 + (pos t r).val, _⟩ rfl)))
    (congrArg (fun z => _ * M10 m c (ix3 (bat t) z j)) (q 2 (by omega) ⟨2 + (pos t r).val, _⟩ rfl))) rfl

theorem act_eq (hp : Above m c t p) (r : Fin 512) (j : Fin 2816) :
    act (mod m c t) (iblk m c 5 t) (rows (mod m c t) (iblk m c 5 t) p) (iblk m c 6 t) (iblk m c 7 t) (ix2 r j)
      = M43 m c (ix3 (bat t) (pos t r) j) := by
  unfold M43; rw [Cert.ReferenceIdeal.Ffn.act_at, Cert.ReferenceIdeal.Ffn.val_at]
  show gated (conv _ _ _ r j) (proj _ _ r ⟨j.val, _⟩) = _
  rw [conv_eq m c t p hp, proj_eq]
  rfl

theorem out_eq (hp : Above m c t p) (r : Fin 512) (n : Fin 1024) : outY m c t p (ix3 0 r n) = M75 m c (ix3 (bat t) (pos t r) n) := by
  unfold M75; rw [Cert.ReferenceIdeal.Ffn.out_at]
  have e (n : Fin 1024) : k0_pay59 (k0_pay4 (iblk m c 0 t)) (act (mod m c t) (iblk m c 5 t) (rows (mod m c t) (iblk m c 5 t) p) (iblk m c 6 t) (iblk m c 7 t))
      (iblk m c 8 t) (iblk m c 3 t) (ix2 r n) = M51 m c (ix3 (bat t) (pos t r) n) := by
    unfold M51; rw [Cert.ReferenceIdeal.Ffn.res_at]
    pointwise [k0_pay59, k0_pay4]
    rw [x_at, g2_at]
    refine congrArg₂ _ rfl (congrArg₂ _ rfl (Finset.sum_congr rfl fun j _ => ?_))
    rw [act_eq m c t p hp, down_at]
  unfold outY
  generalize k0_pay59 (F := Ideal) _ _ _ _ = g at e ⊢
  pointwise [k0_pay60]
  simp only [e, gain_at, offset_at]
  rfl

theorem outs_eq (r : Fin 512) (n : Fin 1024) : (outsAt0 m c t.val t.isLt).1 (ix3 0 r n) = M75 m c (ix3 (bat t) (pos t r) n) := by
  by_cases h0 : t.val % 16 = 0
  · rw [point_A m c t h0]
    exact out_eq m c t _ (above_first m c t h0) r n
  · rw [point_B m c t h0]
    exact out_eq m c t _ (above_later m c t h0 _) r n

theorem state_eq (h : t.val % 16 = 15) (r : Fin 8) (j : Fin 2816) :
    (outsAt0 m c t.val t.isLt).2.1 (ix3 0 r j) = M76 m c (ix3 (bat t) r j) := by
  unfold M76; rw [point_state, proj_eq, Cert.ReferenceIdeal.Ffn.state_at, Cert.ReferenceIdeal.Ffn.gate_at]
  refine congrArg _ (congrArg (fun z => ix3 (bat t) z _) (Fin.ext ?_))
  show 512 * (t.val % 16) + (504 + r.val) = 8184 + r.val
  omega

/-- The first result array. -/
theorem final_out : Cert.KernelIdeal.Value.G11 m c = M75 m c := by
  funext i
  have l0 : (i 0).val < 2 := (i 0).isLt
  have l1 : (i 1).val < 8192 := (i 1).isLt
  have l2 : (i 2).val < 1024 := (i 2).isLt
  have e : Cert.KernelIdeal.Value.pt11Of i = 16 * (i 0).val + (i 1).val / 512 := by
    show 16 * ((i 0).val / 1 - 0) + 1 * ((i 1).val / 512 - 0) + 1 * ((i 2).val / 1024 - 0) = _; omega
  have hn : Cert.KernelIdeal.Value.pt11Of i < cfg0.N := by
    rw [show cfg0.N = 32 from N_0, e]; omega
  unfold Cert.KernelIdeal.Value.G11
  rw [dif_pos hn, ← Cert.KernelIdeal.Value.outsAt0_sweep m c _ hn]
  have hl : Cert.KernelIdeal.Value.loc11Of i = ix3 (0 : Fin 1) (⟨(i 1).val % 512, by omega⟩ : Fin 512) (⟨(i 2).val % 1024, by omega⟩ : Fin 1024) := by
    rw [eq_ix3 (Cert.KernelIdeal.Value.loc11Of i)]
    refine congrArg (fun z => ix3 z _ _) (Fin.ext ?_)
    show (i 0).val % 1 = 0; omega
  rw [hl]
  refine (outs_eq m c ⟨_, hn⟩ _ _).trans (congrArg (M75 m c) ?_)
  refine Eq.trans (congr (congrArg₂ ix3 (Fin.ext ?_) (Fin.ext ?_)) (Fin.ext ?_)) (eq_ix3 i).symm
  · show Cert.KernelIdeal.Value.pt11Of i / 16 = (i 0).val; omega
  · show 512 * (Cert.KernelIdeal.Value.pt11Of i % 16) + (i 1).val % 512 = (i 1).val; omega
  · show (i 2).val % 1024 = (i 2).val; omega

/-- The second result array. -/
theorem final_state : Cert.KernelIdeal.Value.G12 m c = M76 m c := by
  funext i
  have l0 : (i 0).val < 2 := (i 0).isLt
  have l1 : (i 1).val < 8 := (i 1).isLt
  have l2 : (i 2).val < 2816 := (i 2).isLt
  have e : Cert.KernelIdeal.Value.pt12Of i = 16 * (i 0).val + 15 := by
    show 16 * (1 * ((i 0).val / 1 - 0) + 1 * ((i 1).val / 8 - 0) + 1 * ((i 2).val / 2816 - 0)) + 15 = _; omega
  have hn : Cert.KernelIdeal.Value.pt12Of i < cfg0.N := by
    rw [show cfg0.N = 32 from N_0, e]; omega
  unfold Cert.KernelIdeal.Value.G12
  rw [dif_pos hn, ← Cert.KernelIdeal.Value.outsAt0_sweep m c _ hn]
  have hl : Cert.KernelIdeal.Value.loc12Of i = ix3 (0 : Fin 1) (⟨(i 1).val % 8, by omega⟩ : Fin 8) (⟨(i 2).val % 2816, by omega⟩ : Fin 2816) := by
    rw [eq_ix3 (Cert.KernelIdeal.Value.loc12Of i)]
    refine congrArg (fun z => ix3 z _ _) (Fin.ext ?_)
    show (i 0).val % 1 = 0; omega
  rw [hl]
  refine (state_eq m c ⟨_, hn⟩ (by show Cert.KernelIdeal.Value.pt12Of i % 16 = 15; omega) _ _).trans (congrArg (M76 m c) ?_)
  refine Eq.trans (congr (congrArg₂ ix3 (Fin.ext ?_) (Fin.ext ?_)) (Fin.ext ?_)) (eq_ix3 i).symm
  · show Cert.KernelIdeal.Value.pt12Of i / 16 = (i 0).val; omega
  · show (i 1).val % 8 = (i 1).val; omega
  · show (i 2).val % 2816 = (i 2).val; omega

end Cert.KernelIdeal.Ffn
end
-- ==== Proof.FfnClaim.lean ====
module

public import proofs.«01_k».proof.Proof.Final
public import proofs.«01_k».proof.Proof.Gen.KernelIdeal.Value
public import proofs.«01_k».proof.Proof.Gen.ReferenceIdeal.Run

/-! The feed-forward call's two results against the reference's. -/

@[expose] public section
set_option maxRecDepth 16384
noncomputable section
open Idealize.ShloMosaic Idealize.ShloMosaic.TcCoe Idealize.SL.Sem
namespace Cert.Proof.Ffn
open Cert.KernelIdeal.Ffn

/-- The reference leaves its arguments as they were, and no semaphore is raised. -/
theorem reference_frame : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- Over the extended reals the two results are the reference's, at every argument. -/
theorem algebraic : Cert.algebraic_KernelIdeal_ReferenceIdeal := by
  intro m ρ m' ρ' _ hagree
  refine ⟨fun c => Cert.KernelIdeal.Value.G11 m c, fun c => Cert.KernelIdeal.Value.G12 m c, Cert.KernelIdeal.Value.run (F := Ideal) m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9⟩ := hagree c
  refine ⟨(h c).1.trans ?_, (h c).2.1.trans ?_, (h c).2.2⟩
  · refine (Cert.ReferenceIdeal.Read.val_main_v75_eq m' c).trans ?_
    rw [e0, e1, e2, e3, e4, e5, e6, e7, e8, e9]
    exact (final_out m c).symm
  · refine (Cert.ReferenceIdeal.Read.val_main_v76_eq _ _ _ _).trans ?_
    rw [e0, e1, e2, e4]
    exact (final_state m c).symm

end Cert.Proof.Ffn
end
-- ==== Proof.InpRef.lean ====
module

public import proofs.«01_k».proof.Defs
public import proofs.«01_k».proof.Proof.Gen.Reference2Ideal.Read
public import Idealize.ShloMosaic.Lib.Pointwise

/-! The stages of the reference input projection, read at an index. -/

@[expose] public section
set_option maxRecDepth 16384
noncomputable section
open Idealize.ShloMosaic Idealize.ShloMosaic.TcCoe Idealize.SL.Sem
namespace Cert.Reference2Ideal.Inp
open Cert.Reference2Ideal Cert.Reference2Ideal.Read

variable (a0 : (⟨S2x8192x1024, .f32⟩ : BufTy).Contents (Elt Ideal)) (a1 a2 : (⟨S2x1x1024, .f32⟩ : BufTy).Contents (Elt Ideal))
  (a3 : (⟨S1024x2560, .f32⟩ : BufTy).Contents (Elt Ideal))

theorem mod_at (b : Fin 2) (t : Fin 8192) (k : Fin 1024) :
    val_main_v5 (F := Ideal) a0 a1 a2 (ix3 b t k) = a0 (ix3 b t k) * (1 + a2 (ix3 b 0 k)) + a1 (ix3 b 0 k) := by
  pointwise [val_main_v5, val_main_v4, val_main_v3, val_main_v2, val_main_v1, val_main_v0, val_main_cst]

theorem proj_at (b : Fin 2) (t : Fin 8192) (j : Fin 2560) :
    val_main_v6 (F := Ideal) a0 a1 a2 a3 (ix3 b t j) = ∑ k : Fin 1024, val_main_v5 (F := Ideal) a0 a1 a2 (ix3 b t k) * a3 (ix2 k j) := by
  pointwise [val_main_v6]

theorem q_at (b : Fin 2) (p : Fin 4) (d : Fin 128) (t : Fin 8192) :
    val_main_v23 (F := Ideal) a0 a1 a2 a3 (ix4 b p d t)
      = val_main_v6 (F := Ideal) a0 a1 a2 a3 (ix3 b t ⟨p.val * 128 + d.val, by omega⟩) * Ideal.ofBits .f32 0xBE38AA3B#32 := by
  pointwise [val_main_v23, val_main_v22, val_main_v21, val_main_v20, val_main_v19, val_main_v7, val_main_cst_2]

theorem k_at (b : Fin 2) (d : Fin 512) (t : Fin 8192) :
    val_main_v24 (F := Ideal) a0 a1 a2 a3 (ix3 b d t) = val_main_v6 (F := Ideal) a0 a1 a2 a3 (ix3 b t ⟨512 + d.val, by omega⟩) := by
  pointwise [val_main_v24, val_main_v8]

theorem v_at (b : Fin 2) (d : Fin 512) (t : Fin 8192) :
    val_main_v25 (F := Ideal) a0 a1 a2 a3 (ix3 b d t) = val_main_v6 (F := Ideal) a0 a1 a2 a3 (ix3 b t ⟨1024 + d.val, by omega⟩) := by
  pointwise [val_main_v25, val_main_v9]

theorem u_at (b : Fin 2) (t : Fin 8192) (d : Fin 512) :
    val_main_v18 (F := Ideal) a0 a1 a2 a3 (ix3 b t d) = val_main_v6 (F := Ideal) a0 a1 a2 a3 (ix3 b t ⟨1536 + d.val, by omega⟩)
      * Ideal.logistic (val_main_v6 (F := Ideal) a0 a1 a2 a3 (ix3 b t ⟨2048 + d.val, by omega⟩)) := by
  pointwise [val_main_v18, val_main_v17, val_main_v16, val_main_v15, val_main_v14, val_main_v13, val_main_v12, val_main_v11, val_main_v10, val_main_cst_0, val_main_cst_1]
  rfl

end Cert.Reference2Ideal.Inp
end
-- ==== Proof.Inp.lean ====
module

public import proofs.«01_k».proof.Defs
public import proofs.«01_k».proof.Proof.Gen.Kernel2Ideal.Frame
public import proofs.«01_k».proof.Proof.InpRef
public import Idealize.ShloMosaic.Lib.Pipeline.ValueKit
public import Idealize.ShloMosaic.Lib.Claim
public import Idealize.ShloMosaic.Lib.Pointwise

/-! The result arrays of the input projection. -/

@[expose] public section
set_option maxRecDepth 16384
noncomputable section
open Idealize.ShloMosaic Idealize.ShloMosaic.TcCoe Idealize.SL.Sem
open Idealize.ShloMosaic.Pipeline (Dat)
namespace Cert.Kernel2Ideal.Inp
open Cert.Kernel2Ideal Cert.Kernel2Ideal.Gen
open Cert.Reference2Ideal.Read

variable (m : (ℓ : Loc nD τ sig) → Buf (Elt Ideal) ℓ) (c : Dev nD) (t : Fin cfg0.N)

/-- Where each window's block sits at point `t = 16 b + i`. -/
theorem idx : ∀ t : Fin cfg0.N, win0_0.index t = ![t.val / 16, t.val % 16, 0] ∧ win0_1.index t = ![t.val / 16, 0, 0]
    ∧ win0_2.index t = ![t.val / 16, 0, 0] ∧ win0_3.index t = ![0, 0] ∧ win0_5.index t = ![t.val / 16, 0, 0, t.val % 16]
    ∧ win0_8.index t = ![t.val / 16, 0, t.val % 16] ∧ win0_9.index t = ![t.val / 16, 0, t.val % 16] ∧ win0_10.index t = ![t.val / 16, t.val % 16, 0] :=
  (by decide +kernel : ∀ t : Fin grid0.N, _)

theorem lt_points : t.val < 32 := lt_of_lt_of_eq t.isLt (show cfg0.N = 32 from N_0)

/-- The batch row of a grid point. -/
def bat : Fin 2 := ⟨t.val / 16, by have := lt_points t; omega⟩

/-- The sequence position of a row of a grid point's tile. -/
def pos (r : Fin 512) : Fin 8192 := ⟨512 * (t.val % 16) + r.val, by omega⟩

/-- The reference's projection, of the call's arguments. -/
def M6 (b : Fin 2) (s : Fin 8192) (j : Fin 2560) : EReal := val_main_v6 (F := Ideal) (m ((c : Thread nD τ).loc main_arg0))
  (m ((c : Thread nD τ).loc main_arg1)) (m ((c : Thread nD τ).loc main_arg2)) (m ((c : Thread nD τ).loc main_arg3)) (ix3 b s j)

theorem x_at (r : Fin 512) (k : Fin 1024) : iblk m c 0 t (ix3 0 r k) = m ((c : Thread nD τ).loc main_arg0) (ix3 (bat t) (pos t r) k) := by
  have hN := lt_points t
  unfold bat pos
  blk_point [iblk, V, idx t]

theorem sh_at (k : Fin 1024) : iblk m c 1 t (ix3 0 0 k) = m ((c : Thread nD τ).loc main_arg1) (ix3 (bat t) 0 k) := by
  have hN := lt_points t
  unfold bat
  blk_point [iblk, V, idx t]

theorem sc_at (k : Fin 1024) : iblk m c 2 t (ix3 0 0 k) = m ((c : Thread nD τ).loc main_arg2) (ix3 (bat t) 0 k) := by
  have hN := lt_points t
  unfold bat
  blk_point [iblk, V, idx t]

theorem w_at (k : Fin 1024) (j : Fin 2560) : iblk m c 3 t (ix2 k j) = m ((c : Thread nD τ).loc main_arg3) (ix2 k j) := by
  have hN := lt_points t
  blk_point [iblk, idx t]

/-- The tile's product with the weight is the reference's. -/
theorem proj_eq (r : Fin 512) (j : Fin 2560) :
    k0_pay2 (iblk m c 0 t) (iblk m c 2 t) (iblk m c 1 t) (iblk m c 3 t) (ix2 r j) = M6 m c (bat t) (pos t r) j := by
  unfold M6
  rw [Cert.Reference2Ideal.Inp.proj_at]
  pointwise [k0_pay2]
  refine Finset.sum_congr rfl fun k _ => ?_
  rw [Cert.Reference2Ideal.Inp.mod_at, x_at, sh_at, sc_at, w_at]

theorem q_tile (p : Fin 4) (d : Fin 128) (r : Fin 512) :
    k0_pay5 (iblk m c 0 t) (iblk m c 2 t) (iblk m c 1 t) (iblk m c 3 t) (ix4 0 p d r)
      = M6 m c (bat t) (pos t r) ⟨p.val * 128 + d.val, by omega⟩ * Ideal.ofBits .f32 0xBE38AA3B#32 := by
  rw [← proj_eq]
  pointwise [k0_pay5]

theorem k_tile (d r : Fin 512) :
    k0_pay6 (iblk m c 0 t) (iblk m c 2 t) (iblk m c 1 t) (iblk m c 3 t) (ix3 0 d r) = M6 m c (bat t) (pos t r) ⟨512 + d.val, by omega⟩ := by
  rw [← proj_eq]
  pointwise [k0_pay6, k0_pay3]

theorem v_tile (d r : Fin 512) :
    k0_pay8 (k0_pay7 (iblk m c 0 t) (iblk m c 2 t) (iblk m c 1 t) (iblk m c 3 t)) (ix3 0 d r) = M6 m c (bat t) (pos t r) ⟨1024 + d.val, by omega⟩ := by
  rw [← proj_eq]
  pointwise [k0_pay8, k0_pay7, k0_pay4]

theorem u_tile (r d : Fin 512) :
    k0_pay1 (k0_pay72 (k0_pay2 (iblk m c 0 t) (iblk m c 2 t) (iblk m c 1 t) (iblk m c 3 t))) (ix3 0 r d)
      = M6 m c (bat t) (pos t r) ⟨1536 + d.val, by omega⟩ * Ideal.logistic (M6 m c (bat t) (pos t r) ⟨2048 + d.val, by omega⟩) := by
  rw [← proj_eq, ← proj_eq]
  pointwise [k0_pay1, k0_pay72]

theorem final_q : (dats m 0 c).arrAt 5 (cfgs 0).N = val_main_v23 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  obtain ⟨z, p, d, r, rfl⟩ : ∃ (z : Fin 1) (p : Fin 4) (d : Fin 128) (r : Fin 512), y = ix4 z p d r := ⟨y 0, y 1, y 2, y 3, eq_ix4 y⟩
  obtain rfl : z = 0 := Subsingleton.elim _ _
  rw [q_tile]
  have e : ((View.whole main_v10_0).slice (win0_5.rect t)).emb (ix4 0 p d r) = ix4 (bat t) p d (pos t r) := by
    unfold bat pos
    blk_ext [idx t]
  rw [e, Cert.Reference2Ideal.Inp.q_at]
  rfl

theorem final_k : (dats m 0 c).arrAt 8 (cfgs 0).N = val_main_v24 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  frame_out
  obtain ⟨z, d, r, rfl⟩ : ∃ (z : Fin 1) (d r : Fin 512), y = ix3 z d r := ⟨y 0, y 1, y 2, eq_ix3 y⟩
  obtain rfl : z = 0 := Subsingleton.elim _ _
  rw [k_tile]
  have e : ((View.whole main_v10_3).slice (win0_8.rect t)).emb (ix3 0 d r) = ix3 (bat t) d (pos t r) := by
    unfold bat pos
    blk_ext [idx t]
  rw [e, Cert.Reference2Ideal.Inp.k_at]
  rfl

theorem final_v : (dats m 0 c).arrAt 9 (cfgs 0).N = val_main_v25 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  frame_out
  obtain ⟨z, d, r, rfl⟩ : ∃ (z : Fin 1) (d r : Fin 512), y = ix3 z d r := ⟨y 0, y 1, y 2, eq_ix3 y⟩
  obtain rfl : z = 0 := Subsingleton.elim _ _
  rw [v_tile]
  have e : ((View.whole main_v10_4).slice (win0_9.rect t)).emb (ix3 0 d r) = ix3 (bat t) d (pos t r) := by
    unfold bat pos
    blk_ext [idx t]
  rw [e, Cert.Reference2Ideal.Inp.v_at]
  rfl

theorem final_u : (dats m 0 c).arrAt 10 (cfgs 0).N = val_main_v18 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  frame_out
  obtain ⟨z, r, d, rfl⟩ : ∃ (z : Fin 1) (r d : Fin 512), y = ix3 z r d := ⟨y 0, y 1, y 2, eq_ix3 y⟩
  obtain rfl : z = 0 := Subsingleton.elim _ _
  rw [u_tile]
  have e : ((View.whole main_v10_5).slice (win0_10.rect t)).emb (ix3 0 r d) = ix3 (bat t) (pos t r) d := by
    unfold bat pos
    blk_ext [idx t]
  rw [e, Cert.Reference2Ideal.Inp.u_at]
  rfl

end Cert.Kernel2Ideal.Inp
end
-- ==== Proof.InpClaim.lean ====
module

public import proofs.«01_k».proof.Proof.Inp
public import proofs.«01_k».proof.Proof.Gen.Reference2Ideal.Run

/-! The input projection's four results against the reference's. -/

@[expose] public section
set_option maxRecDepth 16384
noncomputable section
open Idealize.ShloMosaic Idealize.ShloMosaic.TcCoe Idealize.SL.Sem
namespace Cert.Proof.Inp
open Cert.Kernel2Ideal.Inp

/-- The reference leaves its arguments as they were, and no semaphore is raised. -/
theorem reference_frame : Cert.quiescent_Reference2Ideal := fun m ρ _ =>
  (θ_run Cert.Reference2Ideal.defs _ _).mono (fun r h => ⟨fun c => (h c).2.2.2.2, Idealize.ShloMosaic.sem_eq_zero_of_no_sems (by decide) r.2⟩)
    (Cert.Reference2Ideal.Value.run (F := Ideal) m ρ)

/-- Over the extended reals the four results are the reference's, at every argument. -/
theorem algebraic : Cert.algebraic_Kernel2Ideal_Reference2Ideal := by
  intro m ρ m' ρ' _ hagree
  refine ⟨fun c => _, fun c => _, fun c => _, fun c => _,
    (θ_run Cert.Kernel2Ideal.defs _ _).mono (fun _ h c => ⟨((h.1 c).1 5).trans (final_q m c), ((h.1 c).1 8).trans (final_k m c),
      ((h.1 c).1 9).trans (final_v m c), ((h.1 c).1 10).trans (final_u m c), h.2 c⟩)
      (θ_run_and (Cert.Kernel2Ideal.Gen.run_main m ρ) (Cert.Kernel2Ideal.Gen.unchanged m ρ)), ?_⟩
  refine (θ_run Cert.Reference2Ideal.defs _ _).mono (fun _ h c => ?_) (Cert.Reference2Ideal.Value.run (F := Ideal) m' ρ')
  obtain ⟨e0, e1, e2, e3⟩ := hagree c
  refine ⟨(h c).1.trans ?_, (h c).2.1.trans ?_, (h c).2.2.1.trans ?_, (h c).2.2.2.1.trans ?_, (h c).2.2.2.2⟩
  · refine (Cert.Reference2Ideal.Read.val_main_v23_eq _ _ _ _).trans ?_
    rw [e0, e1, e2, e3]
  · refine (Cert.Reference2Ideal.Read.val_main_v24_eq _ _ _ _).trans ?_
    rw [e0, e1, e2, e3]
  · refine (Cert.Reference2Ideal.Read.val_main_v25_eq _ _ _ _).trans ?_
    rw [e0, e1, e2, e3]
  · refine (Cert.Reference2Ideal.Read.val_main_v18_eq _ _ _ _).trans ?_
    rw [e0, e1, e2, e3]

end Cert.Proof.Inp
end
-- ==== Proof.SHost.lean ====
module

public import proofs.«01_k».proof.Defs
public import proofs.«01_k».proof.Proof.Gen.Kernel3Ideal.Frame
public import Idealize.ShloMosaic.Lib.Pipeline.ValueKit
public import Idealize.ShloMosaic.Lib.Claim
public import Idealize.ShloMosaic.Lib.Pointwise

/-! The operands which the host lays out for the input projection of the sample. -/

@[expose] public section
set_option maxRecDepth 16384
noncomputable section
open Idealize.ShloMosaic Idealize.ShloMosaic.TcCoe Idealize.SL.Sem
open Idealize.ShloMosaic.Pipeline (Dat)
namespace Cert.Kernel3Ideal.SInp
open Cert.Kernel3Ideal Cert.Kernel3Ideal.Gen

variable (m : (ℓ : Loc nD τ sig) → Buf (Elt Ideal) ℓ) (c : Dev nD)

theorem V_v1 : V m c main_v1 = shapeCast S1x256x1024 (transpose S8x32x1024 [1, 0, 2] (m ((c : Thread nD τ).loc main_arg0)) transposes_S32x8x1024_S8x32x1024_1_0_2) shapeCasts_S8x32x1024_S1x256x1024 := by
  show StableHlo.after (hostOps0 ++ (hostOps0_1 ++ (hostOps0_2 ++ (hostOps0_3 ++ (hostOps0_4 ++ []))))) (fun b => m (c, b)) (Proc.devRef .tc main_v1) = _
  simp only [List.cons_append, List.nil_append]
  after_results_simp
  rfl

theorem V_v5 : V m c main_v5 = shapeCast S1x256x1024 (shapeCast S256x1024 (broadcastInDim S8x32x1x1024 ![0, 1, 2, 3] bcast_S1x32x1x1024_S8x32x1x1024_0_1_2_3
    (shapeCast S1x32x1x1024 (m ((c : Thread nD τ).loc main_arg1)) shapeCasts_S32x1024_S1x32x1x1024)) shapeCasts_S8x32x1x1024_S256x1024) shapeCasts_S256x1024_S1x256x1024 := by
  show StableHlo.after (hostOps0 ++ (hostOps0_1 ++ (hostOps0_2 ++ (hostOps0_3 ++ (hostOps0_4 ++ []))))) (fun b => m (c, b)) (Proc.devRef .tc main_v5) = _
  simp only [List.cons_append, List.nil_append]
  after_results_simp
  rfl

theorem V_v9 : V m c main_v9 = shapeCast S1x256x1024 (shapeCast S256x1024 (broadcastInDim S8x32x1x1024 ![0, 1, 2, 3] bcast_S1x32x1x1024_S8x32x1x1024_0_1_2_3
    (shapeCast S1x32x1x1024 (m ((c : Thread nD τ).loc main_arg2)) shapeCasts_S32x1024_S1x32x1x1024)) shapeCasts_S8x32x1x1024_S256x1024) shapeCasts_S256x1024_S1x256x1024 := by
  show StableHlo.after (hostOps0 ++ (hostOps0_1 ++ (hostOps0_2 ++ (hostOps0_3 ++ (hostOps0_4 ++ []))))) (fun b => m (c, b)) (Proc.devRef .tc main_v9) = _
  simp only [List.cons_append, List.nil_append]
  after_results_simp
  rfl

theorem V_arg4 : V m c main_arg4 = m ((c : Thread nD τ).loc main_arg4) := by
  show StableHlo.after (hostOps0 ++ (hostOps0_1 ++ (hostOps0_2 ++ (hostOps0_3 ++ (hostOps0_4 ++ []))))) (fun b => m (c, b)) (Proc.devRef .tc main_arg4) = _
  simp only [List.cons_append, List.nil_append]
  after_results_simp

/-- No two windows stand over one array. -/
theorem hinj : Function.Injective (Pipeline.arrRef (cfgs 0).spec) := by
  decide

/-- What the host lines after the call leave in a buffer. -/
abbrev tail (b : Ref sig .tc) : Buf (Elt Ideal) ((c : Thread nD τ).loc b) := Pipeline.afterTail₀ cfgs (dats m) 0 (V0 m) [hostOps1] c b

theorem tail_q_eq : tail m c main_v25 = transpose S32x8x8x64 [3, 0, 2, 1] (shapeCast S8x64x8x32 ((dats m 0 c).arrAt 5 (cfgs 0).N) shapeCasts_S1x4x128x256_S8x64x8x32)
    transposes_S8x64x8x32_S32x8x8x64_3_0_2_1 := by
  show StableHlo.after (hostOps1 ++ []) (Pipeline.withArrays (cfgs 0).spec c (V0 m c) fun w => (dats m 0 c).arrAt w (cfgs 0).N) (Proc.devRef .tc main_v25) = _
  simp only [List.cons_append, List.nil_append]
  after_results_simp
  rw [show Pipeline.withArrays (cfgs 0).spec c (V0 m c) (fun w => (dats m 0 c).arrAt w (cfgs 0).N) (Proc.devRef .tc main_v20_0) = (dats m 0 c).arrAt 5 (cfgs 0).N from
    Pipeline.withArrays_arr (cfgs 0).spec hinj c _ _ 5]
  rfl

theorem tail_k_eq : tail m c main_v27 = transpose S32x8x8x64 [3, 2, 0, 1] (shapeCast S8x64x8x32 ((dats m 0 c).arrAt 6 (cfgs 0).N) shapeCasts_S1x512x256_S8x64x8x32)
    transposes_S8x64x8x32_S32x8x8x64_3_2_0_1 := by
  show StableHlo.after (hostOps1 ++ []) (Pipeline.withArrays (cfgs 0).spec c (V0 m c) fun w => (dats m 0 c).arrAt w (cfgs 0).N) (Proc.devRef .tc main_v27) = _
  simp only [List.cons_append, List.nil_append]
  after_results_simp
  rw [show Pipeline.withArrays (cfgs 0).spec c (V0 m c) (fun w => (dats m 0 c).arrAt w (cfgs 0).N) (Proc.devRef .tc main_v20_1) = (dats m 0 c).arrAt 6 (cfgs 0).N from
    Pipeline.withArrays_arr (cfgs 0).spec hinj c _ _ 6]
  rfl

theorem tail_v_eq : tail m c main_v29 = transpose S32x8x8x64 [3, 2, 0, 1] (shapeCast S8x64x8x32 ((dats m 0 c).arrAt 7 (cfgs 0).N) shapeCasts_S1x512x256_S8x64x8x32)
    transposes_S8x64x8x32_S32x8x8x64_3_2_0_1 := by
  show StableHlo.after (hostOps1 ++ []) (Pipeline.withArrays (cfgs 0).spec c (V0 m c) fun w => (dats m 0 c).arrAt w (cfgs 0).N) (Proc.devRef .tc main_v29) = _
  simp only [List.cons_append, List.nil_append]
  after_results_simp
  rw [show Pipeline.withArrays (cfgs 0).spec c (V0 m c) (fun w => (dats m 0 c).arrAt w (cfgs 0).N) (Proc.devRef .tc main_v20_2) = (dats m 0 c).arrAt 7 (cfgs 0).N from
    Pipeline.withArrays_arr (cfgs 0).spec hinj c _ _ 7]
  rfl

/-- The state and the call's gated inputs, joined in the time-major listing. -/
abbrev joined : S1x1216x512.Idx → EReal :=
  concatenate S1x1216x512 1 [⟨S1x960x512, shapeCast S1x960x512 (transpose S30x32x512 [1, 0, 2] (m ((c : Thread nD τ).loc main_arg4)) transposes_S32x30x512_S30x32x512_1_0_2) shapeCasts_S30x32x512_S1x960x512⟩,
    ⟨S1x256x512, (dats m 0 c).arrAt 8 (cfgs 0).N⟩] concatenates_S1x960x512_S1x256x512_S1x1216x512_d1

theorem tail_u_eq : tail m c main_v32 = transpose S32x30x512 [1, 0, 2] (shapeCast S30x32x512 (extractStridedSlice S1x960x512 ![0, 256, 0] (joined m c)
    slices_S1x1216x512_S1x960x512_0_256_0) shapeCasts_S1x960x512_S30x32x512) transposes_S30x32x512_S32x30x512_1_0_2 := by
  show StableHlo.after (hostOps1 ++ []) (Pipeline.withArrays (cfgs 0).spec c (V0 m c) fun w => (dats m 0 c).arrAt w (cfgs 0).N) (Proc.devRef .tc main_v32) = _
  simp only [List.cons_append, List.nil_append]
  after_results_simp
  after_results_loop
  rw [show Pipeline.withArrays (cfgs 0).spec c (V0 m c) (fun w => (dats m 0 c).arrAt w (cfgs 0).N) (Proc.devRef .tc main_v20_3) = (dats m 0 c).arrAt 8 (cfgs 0).N from
      Pipeline.withArrays_arr (cfgs 0).spec hinj c _ _ 8,
    show Pipeline.withArrays (cfgs 0).spec c (V0 m c) (fun w => (dats m 0 c).arrAt w (cfgs 0).N) (Proc.devRef .tc main_arg4) = m ((c : Thread nD τ).loc main_arg4) from
      (Pipeline.withArrays_of_ne (cfgs 0).spec c _ _ main_arg4 (by decide)).trans (V_arg4 m c)]
  rfl

end Cert.Kernel3Ideal.SInp
end
-- ==== Proof.SInpRef.lean ====
module

public import proofs.«01_k».proof.Defs
public import proofs.«01_k».proof.Proof.Gen.Reference3Ideal.Read
public import Idealize.ShloMosaic.Lib.Pointwise

/-! The stages of the reference input projection of the sample, read at an index. -/

@[expose] public section
set_option maxRecDepth 16384
noncomputable section
open Idealize.ShloMosaic Idealize.ShloMosaic.TcCoe Idealize.SL.Sem
namespace Cert.Reference3Ideal.SInp
open Cert.Reference3Ideal Cert.Reference3Ideal.Read

variable (a0 : (⟨S32x8x1024, .f32⟩ : BufTy).Contents (Elt Ideal)) (a1 a2 : (⟨S32x1024, .f32⟩ : BufTy).Contents (Elt Ideal))
  (a3 : (⟨S1024x2560, .f32⟩ : BufTy).Contents (Elt Ideal)) (a4 : (⟨S32x30x512, .f32⟩ : BufTy).Contents (Elt Ideal))

theorem mod_at (b : Fin 32) (t : Fin 8) (k : Fin 1024) :
    val_main_v7 (F := Ideal) a0 a1 a2 (ix3 b t k) = a0 (ix3 b t k) * (1 + a2 (ix2 b k)) + a1 (ix2 b k) := by
  pointwise [val_main_v7, val_main_v6, val_main_v5, val_main_v4, val_main_v3, val_main_v2, val_main_v1, val_main_v0, val_main_cst]

theorem proj_at (b : Fin 32) (t : Fin 8) (j : Fin 2560) :
    val_main_v8 (F := Ideal) a0 a1 a2 a3 (ix3 b t j) = ∑ k : Fin 1024, val_main_v7 (F := Ideal) a0 a1 a2 (ix3 b t k) * a3 (ix2 k j) := by
  pointwise [val_main_v8]

theorem q_at (b : Fin 32) (h t : Fin 8) (d : Fin 64) :
    val_main_v25 (F := Ideal) a0 a1 a2 a3 (ix4 b h t d)
      = val_main_v8 (F := Ideal) a0 a1 a2 a3 (ix3 b t ⟨h.val * 64 + d.val, by omega⟩) * Ideal.ofBits .f32 0xBE38AA3B#32 := by
  pointwise [val_main_v25, val_main_v24, val_main_v23, val_main_v22, val_main_v21, val_main_v9, val_main_cst_2]

theorem k_at (b : Fin 32) (t h : Fin 8) (d : Fin 64) :
    val_main_v26 (F := Ideal) a0 a1 a2 a3 (ix4 b t h d) = val_main_v8 (F := Ideal) a0 a1 a2 a3 (ix3 b t ⟨512 + (h.val * 64 + d.val), by omega⟩) := by
  pointwise [val_main_v26, val_main_v10]

theorem v_at (b : Fin 32) (t h : Fin 8) (d : Fin 64) :
    val_main_v27 (F := Ideal) a0 a1 a2 a3 (ix4 b t h d) = val_main_v8 (F := Ideal) a0 a1 a2 a3 (ix3 b t ⟨1024 + (h.val * 64 + d.val), by omega⟩) := by
  pointwise [val_main_v27, val_main_v11]

theorem u_at (b : Fin 32) (t : Fin 8) (d : Fin 512) :
    val_main_v20 (F := Ideal) a0 a1 a2 a3 (ix3 b t d) = val_main_v8 (F := Ideal) a0 a1 a2 a3 (ix3 b t ⟨1536 + d.val, by omega⟩)
      * Ideal.logistic (val_main_v8 (F := Ideal) a0 a1 a2 a3 (ix3 b t ⟨2048 + d.val, by omega⟩)) := by
  pointwise [val_main_v20, val_main_v19, val_main_v18, val_main_v17, val_main_v16, val_main_v15, val_main_v14, val_main_v13, val_main_v12, val_main_cst_0, val_main_cst_1]
  rfl

theorem conv_at (b : Fin 32) (s : Fin 30) (d : Fin 512) :
    val_main_v29 (F := Ideal) a0 a1 a2 a3 a4 (ix3 b s d) = if h : s.val < 22 then a4 (ix3 b ⟨8 + s.val, by omega⟩ d)
      else val_main_v20 (F := Ideal) a0 a1 a2 a3 (ix3 b ⟨s.val - 22, by omega⟩ d) := by
  pointwise [val_main_v29, val_main_v28]
  by_cases h : s.val < 22
  · rw [dif_pos h, dif_pos (by omega)]
  · rw [dif_neg h, dif_neg (by omega)]
    refine congrArg _ (congrArg (fun z => ix3 b z d) (Fin.ext ?_))
    show 8 + s.val - 30 = s.val - 22
    omega

end Cert.Reference3Ideal.SInp
end
-- ==== Proof.SInp.lean ====
module

public import proofs.«01_k».proof.Defs
public import proofs.«01_k».proof.Proof.SHost
public import proofs.«01_k».proof.Proof.SInpRef
public import Idealize.ShloMosaic.Lib.Pipeline.ValueKit
public import Idealize.ShloMosaic.Lib.Claim
public import Idealize.ShloMosaic.Lib.Pointwise

/-! The result arrays of the input projection of the sample. -/

@[expose] public section
set_option maxRecDepth 16384
noncomputable section
open Idealize.ShloMosaic Idealize.ShloMosaic.TcCoe Idealize.SL.Sem
open Idealize.ShloMosaic.Pipeline (Dat)
namespace Cert.Kernel3Ideal.SInp
open Cert.Kernel3Ideal Cert.Kernel3Ideal.Gen
open Cert.Reference3Ideal.Read

variable (m : (ℓ : Loc nD τ sig) → Buf (Elt Ideal) ℓ) (c : Dev nD) (t : Fin cfg0.N)

/-- Every window's block is its whole array. -/
theorem idx : ∀ t : Fin cfg0.N, win0_0.index t = ![0, 0, 0] ∧ win0_1.index t = ![0, 0, 0]
    ∧ win0_2.index t = ![0, 0, 0] ∧ win0_3.index t = ![0, 0] ∧ win0_5.index t = ![0, 0, 0, 0]
    ∧ win0_6.index t = ![0, 0, 0] ∧ win0_7.index t = ![0, 0, 0] ∧ win0_8.index t = ![0, 0, 0] :=
  (by decide +kernel : ∀ t : Fin grid0.N, _)

/-- The sequence of a row of the time-major listing. -/
def bat (r : Fin 256) : Fin 32 := ⟨r.val % 32, by omega⟩

/-- The token of a row of the time-major listing. -/
def tok (r : Fin 256) : Fin 8 := ⟨r.val / 32, by omega⟩

/-- The reference's projection, of the call's arguments. -/
def M8 (b : Fin 32) (s : Fin 8) (j : Fin 2560) : EReal := val_main_v8 (F := Ideal) (m ((c : Thread nD τ).loc main_arg0))
  (m ((c : Thread nD τ).loc main_arg1)) (m ((c : Thread nD τ).loc main_arg2)) (m ((c : Thread nD τ).loc main_arg3)) (ix3 b s j)

theorem cast_rows (v : S256x1024.Idx → EReal) (r : Fin 256) (k : Fin 1024) :
    shapeCast S1x256x1024 v shapeCasts_S256x1024_S1x256x1024 (ix3 0 r k) = v (ix2 r k) := by
  pointwise

theorem cast_time (v : S8x32x1x1024.Idx → EReal) (r : Fin 256) (k : Fin 1024) :
    shapeCast S256x1024 v shapeCasts_S8x32x1x1024_S256x1024 (ix2 r k) = v (ix4 (tok r) (bat r) 0 k) := by
  unfold tok bat
  pointwise

theorem cast_spread (v : S32x1024.Idx → EReal) (s : Fin 8) (b : Fin 32) (k : Fin 1024) :
    broadcastInDim S8x32x1x1024 ![0, 1, 2, 3] bcast_S1x32x1x1024_S8x32x1x1024_0_1_2_3 (shapeCast S1x32x1x1024 v shapeCasts_S32x1024_S1x32x1x1024) (ix4 s b 0 k)
      = v (ix2 b k) := by
  pointwise

theorem V_v1_at (r : Fin 256) (k : Fin 1024) : V m c main_v1 (ix3 0 r k) = m ((c : Thread nD τ).loc main_arg0) (ix3 (bat r) (tok r) k) := by
  rw [V_v1]
  unfold bat tok
  pointwise

theorem x_at (r : Fin 256) (k : Fin 1024) : iblk m c 0 t (ix3 0 r k) = m ((c : Thread nD τ).loc main_arg0) (ix3 (bat r) (tok r) k) := by
  blk_simp [iblk]
  have e : ((cfg0.win 0).blk t).view.emb (ix3 0 r k) = ix3 0 r k := by
    blk_ext [idx t]
  refine Eq.trans ?_ (V_v1_at m c r k)
  exact congrArg (V m c main_v1) e

theorem V_v5_at (r : Fin 256) (k : Fin 1024) : V m c main_v5 (ix3 0 r k) = m ((c : Thread nD τ).loc main_arg1) (ix2 (bat r) k) := by
  rw [V_v5, cast_rows, cast_time, cast_spread]

theorem sh_at (r : Fin 256) (k : Fin 1024) : iblk m c 1 t (ix3 0 r k) = m ((c : Thread nD τ).loc main_arg1) (ix2 (bat r) k) := by
  blk_simp [iblk]
  have e : ((cfg0.win 1).blk t).view.emb (ix3 0 r k) = ix3 0 r k := by
    blk_ext [idx t]
  refine Eq.trans ?_ (V_v5_at m c r k)
  exact congrArg (V m c main_v5) e

theorem V_v9_at (r : Fin 256) (k : Fin 1024) : V m c main_v9 (ix3 0 r k) = m ((c : Thread nD τ).loc main_arg2) (ix2 (bat r) k) := by
  rw [V_v9, cast_rows, cast_time, cast_spread]

theorem sc_at (r : Fin 256) (k : Fin 1024) : iblk m c 2 t (ix3 0 r k) = m ((c : Thread nD τ).loc main_arg2) (ix2 (bat r) k) := by
  blk_simp [iblk]
  have e : ((cfg0.win 2).blk t).view.emb (ix3 0 r k) = ix3 0 r k := by
    blk_ext [idx t]
  refine Eq.trans ?_ (V_v9_at m c r k)
  exact congrArg (V m c main_v9) e

theorem w_at (k : Fin 1024) (j : Fin 2560) : iblk m c 3 t (ix2 k j) = m ((c : Thread nD τ).loc main_arg3) (ix2 k j) := by
  blk_point [iblk, idx t]

/-- The call's product with the weight is the reference's. -/
theorem proj_eq (r : Fin 256) (j : Fin 2560) :
    k0_pay3 (iblk m c 0 t) (iblk m c 2 t) (iblk m c 1 t) (iblk m c 3 t) (ix2 r j) = M8 m c (bat r) (tok r) j := by
  unfold M8
  rw [Cert.Reference3Ideal.SInp.proj_at]
  pointwise [k0_pay3]
  refine Finset.sum_congr rfl fun k _ => ?_
  rw [Cert.Reference3Ideal.SInp.mod_at, x_at, sh_at, sc_at, w_at]

theorem q_tile (p : Fin 4) (d : Fin 128) (r : Fin 256) :
    k0_pay4 (iblk m c 0 t) (iblk m c 2 t) (iblk m c 1 t) (iblk m c 3 t) (ix4 0 p d r)
      = M8 m c (bat r) (tok r) ⟨p.val * 128 + d.val, by omega⟩ * Ideal.ofBits .f32 0xBE38AA3B#32 := by
  rw [← proj_eq m c t]
  pointwise [k0_pay4]

theorem k_tile (d : Fin 512) (r : Fin 256) :
    k0_pay5 (iblk m c 0 t) (iblk m c 2 t) (iblk m c 1 t) (iblk m c 3 t) (ix3 0 d r) = M8 m c (bat r) (tok r) ⟨512 + d.val, by omega⟩ := by
  rw [← proj_eq m c t]
  pointwise [k0_pay5]

theorem v_tile (d : Fin 512) (r : Fin 256) :
    k0_pay1 (k0_pay6 (iblk m c 0 t) (iblk m c 2 t) (iblk m c 1 t) (iblk m c 3 t)) (ix3 0 d r) = M8 m c (bat r) (tok r) ⟨1024 + d.val, by omega⟩ := by
  rw [← proj_eq m c t]
  pointwise [k0_pay1, k0_pay6]

theorem u_tile (r : Fin 256) (d : Fin 512) :
    k0_pay2 (k0_pay3 (iblk m c 0 t) (iblk m c 2 t) (iblk m c 1 t) (iblk m c 3 t)) (ix3 0 r d)
      = M8 m c (bat r) (tok r) ⟨1536 + d.val, by omega⟩ * Ideal.logistic (M8 m c (bat r) (tok r) ⟨2048 + d.val, by omega⟩) := by
  rw [← proj_eq m c t, ← proj_eq m c t]
  pointwise [k0_pay2]

/-- The queries at a row of the listing. -/
def F_q (p : Fin 4) (d : Fin 128) (r : Fin 256) : EReal := M8 m c (bat r) (tok r) ⟨p.val * 128 + d.val, by omega⟩ * Ideal.ofBits .f32 0xBE38AA3B#32

/-- The array of the queries. -/
def A_q (i : S1x4x128x256.Idx) : EReal := F_q m c (i 1) (i 2) (i 3)

theorem arr_q : (dats m 0 c).arrAt 5 (cfgs 0).N = A_q m c := by
  refine (dats m 0 c).arrAt_eq_of_covers 5 _ (by decide +kernel) fun t _ y => ?_
  blk_simp
  rw [after0_5]
  frame_out
  obtain ⟨z, p, d, r, rfl⟩ : ∃ (z : Fin 1) (p : Fin 4) (d : Fin 128) (r : Fin 256), y = ix4 z p d r := ⟨y 0, y 1, y 2, y 3, eq_ix4 y⟩
  obtain rfl : z = 0 := Subsingleton.elim _ _
  rw [q_tile]
  have e : ((View.whole main_v20_0).slice (win0_5.rect t)).emb (ix4 0 p d r) = ix4 0 p d r := by
    blk_ext [idx t]
  rw [e]
  rfl

/-- The keys at a row of the listing. -/
def F_k (d : Fin 512) (r : Fin 256) : EReal := M8 m c (bat r) (tok r) ⟨512 + d.val, by omega⟩

/-- The array of the keys. -/
def A_k (i : S1x512x256.Idx) : EReal := F_k m c (i 1) (i 2)

theorem arr_k : (dats m 0 c).arrAt 6 (cfgs 0).N = A_k m c := by
  refine (dats m 0 c).arrAt_eq_of_covers 6 _ (by decide +kernel) fun t _ y => ?_
  blk_simp
  rw [after0_6]
  frame_out
  obtain ⟨z, d, r, rfl⟩ : ∃ (z : Fin 1) (d : Fin 512) (r : Fin 256), y = ix3 z d r := ⟨y 0, y 1, y 2, eq_ix3 y⟩
  obtain rfl : z = 0 := Subsingleton.elim _ _
  rw [k_tile]
  have e : ((View.whole main_v20_1).slice (win0_6.rect t)).emb (ix3 0 d r) = ix3 0 d r := by
    blk_ext [idx t]
  rw [e]
  rfl

/-- The values at a row of the listing. -/
def F_v (d : Fin 512) (r : Fin 256) : EReal := M8 m c (bat r) (tok r) ⟨1024 + d.val, by omega⟩

/-- The array of the values. -/
def A_v (i : S1x512x256.Idx) : EReal := F_v m c (i 1) (i 2)

theorem arr_v : (dats m 0 c).arrAt 7 (cfgs 0).N = A_v m c := by
  refine (dats m 0 c).arrAt_eq_of_covers 7 _ (by decide +kernel) fun t _ y => ?_
  blk_simp
  rw [after0_7]
  frame_out
  obtain ⟨z, d, r, rfl⟩ : ∃ (z : Fin 1) (d : Fin 512) (r : Fin 256), y = ix3 z d r := ⟨y 0, y 1, y 2, eq_ix3 y⟩
  obtain rfl : z = 0 := Subsingleton.elim _ _
  rw [v_tile]
  have e : ((View.whole main_v20_2).slice (win0_7.rect t)).emb (ix3 0 d r) = ix3 0 d r := by
    blk_ext [idx t]
  rw [e]
  rfl

/-- The gated inputs of the convolution at a row of the listing. -/
def F_u (r : Fin 256) (d : Fin 512) : EReal := M8 m c (bat r) (tok r) ⟨1536 + d.val, by omega⟩ * Ideal.logistic (M8 m c (bat r) (tok r) ⟨2048 + d.val, by omega⟩)

/-- The array of the gated inputs of the convolution. -/
def A_u (i : S1x256x512.Idx) : EReal := F_u m c (i 1) (i 2)

theorem arr_u : (dats m 0 c).arrAt 8 (cfgs 0).N = A_u m c := by
  refine (dats m 0 c).arrAt_eq_of_covers 8 _ (by decide +kernel) fun t _ y => ?_
  blk_simp
  rw [after0_8]
  frame_out
  obtain ⟨z, r, d, rfl⟩ : ∃ (z : Fin 1) (r : Fin 256) (d : Fin 512), y = ix3 z r d := ⟨y 0, y 1, y 2, eq_ix3 y⟩
  obtain rfl : z = 0 := Subsingleton.elim _ _
  rw [u_tile]
  have e : ((View.whole main_v20_3).slice (win0_8.rect t)).emb (ix3 0 r d) = ix3 0 r d := by
    blk_ext [idx t]
  rw [e]
  rfl

end Cert.Kernel3Ideal.SInp
end
-- ==== Proof.SInpTail.lean ====
module

public import proofs.«01_k».proof.Proof.SInp

/-! The results of the input projection of the sample, after the host lines that lay them out by sequence. -/

@[expose] public section
set_option maxRecDepth 16384
noncomputable section
open Idealize.ShloMosaic Idealize.ShloMosaic.TcCoe Idealize.SL.Sem
open Idealize.ShloMosaic.Pipeline (Dat)
namespace Cert.Kernel3Ideal.SInp
open Cert.Kernel3Ideal Cert.Kernel3Ideal.Gen
open Cert.Reference3Ideal.Read

variable (m : (ℓ : Loc nD τ sig) → Buf (Elt Ideal) ℓ) (c : Dev nD)

/-- The row of the time-major listing that holds a token of a sequence. -/
def row (s : Fin 8) (b : Fin 32) : Fin 256 := ⟨s.val * 32 + b.val, by omega⟩

theorem bat_row (s : Fin 8) (b : Fin 32) : bat (row s b) = b := Fin.ext (by change (s.val * 32 + b.val) % 32 = b.val; omega)

theorem tok_row (s : Fin 8) (b : Fin 32) : tok (row s b) = s := Fin.ext (by change (s.val * 32 + b.val) / 32 = s.val; omega)

theorem cast_heads (v : S1x512x256.Idx → EReal) (h : Fin 8) (d : Fin 64) (s : Fin 8) (b : Fin 32) :
    shapeCast S8x64x8x32 v shapeCasts_S1x512x256_S8x64x8x32 (ix4 h d s b) = v (ix3 0 ⟨h.val * 64 + d.val, by omega⟩ (row s b)) := by
  unfold row
  pointwise

theorem cast_pairs (v : S1x4x128x256.Idx → EReal) (h : Fin 8) (d : Fin 64) (s : Fin 8) (b : Fin 32) :
    shapeCast S8x64x8x32 v shapeCasts_S1x4x128x256_S8x64x8x32 (ix4 h d s b)
      = v (ix4 0 ⟨h.val / 2, by omega⟩ ⟨h.val % 2 * 64 + d.val, by omega⟩ (row s b)) := by
  unfold row
  pointwise

theorem by_head (v : S8x64x8x32.Idx → EReal) (h : Fin 8) (d : Fin 64) (s : Fin 8) (b : Fin 32) :
    transpose S32x8x8x64 [3, 0, 2, 1] v transposes_S8x64x8x32_S32x8x8x64_3_0_2_1 (ix4 b h s d) = v (ix4 h d s b) := by
  pointwise

theorem by_token (v : S8x64x8x32.Idx → EReal) (h : Fin 8) (d : Fin 64) (s : Fin 8) (b : Fin 32) :
    transpose S32x8x8x64 [3, 2, 0, 1] v transposes_S8x64x8x32_S32x8x8x64_3_2_0_1 (ix4 b s h d) = v (ix4 h d s b) := by
  pointwise

theorem tail_q : tail m c main_v25 = val_main_v25 (F := Ideal) (m ((c : Thread nD τ).loc main_arg0)) (m ((c : Thread nD τ).loc main_arg1))
    (m ((c : Thread nD τ).loc main_arg2)) (m ((c : Thread nD τ).loc main_arg3)) := by
  funext i
  obtain ⟨b, h, s, d, rfl⟩ : ∃ (b : Fin 32) (h s : Fin 8) (d : Fin 64), i = ix4 b h s d := ⟨i 0, i 1, i 2, i 3, eq_ix4 i⟩
  rw [tail_q_eq, by_head, cast_pairs, arr_q, Cert.Reference3Ideal.SInp.q_at]
  show F_q m c ⟨h.val / 2, by omega⟩ ⟨h.val % 2 * 64 + d.val, by omega⟩ (row s b) = _
  unfold F_q
  rw [bat_row, tok_row]
  have e : (⟨h.val / 2 * 128 + (h.val % 2 * 64 + d.val), by omega⟩ : Fin 2560) = ⟨h.val * 64 + d.val, by omega⟩ := Fin.ext (by
    change h.val / 2 * 128 + (h.val % 2 * 64 + d.val) = h.val * 64 + d.val; omega)
  exact congrArg (fun j => M8 m c b s j * Ideal.ofBits .f32 0xBE38AA3B#32) e

theorem tail_k : tail m c main_v27 = val_main_v26 (F := Ideal) (m ((c : Thread nD τ).loc main_arg0)) (m ((c : Thread nD τ).loc main_arg1))
    (m ((c : Thread nD τ).loc main_arg2)) (m ((c : Thread nD τ).loc main_arg3)) := by
  funext i
  obtain ⟨b, s, h, d, rfl⟩ : ∃ (b : Fin 32) (s h : Fin 8) (d : Fin 64), i = ix4 b s h d := ⟨i 0, i 1, i 2, i 3, eq_ix4 i⟩
  rw [tail_k_eq, by_token, cast_heads, arr_k, Cert.Reference3Ideal.SInp.k_at]
  show F_k m c ⟨h.val * 64 + d.val, by omega⟩ (row s b) = _
  unfold F_k
  rw [bat_row, tok_row]
  rfl

theorem tail_v : tail m c main_v29 = val_main_v27 (F := Ideal) (m ((c : Thread nD τ).loc main_arg0)) (m ((c : Thread nD τ).loc main_arg1))
    (m ((c : Thread nD τ).loc main_arg2)) (m ((c : Thread nD τ).loc main_arg3)) := by
  funext i
  obtain ⟨b, s, h, d, rfl⟩ : ∃ (b : Fin 32) (s h : Fin 8) (d : Fin 64), i = ix4 b s h d := ⟨i 0, i 1, i 2, i 3, eq_ix4 i⟩
  rw [tail_v_eq, by_token, cast_heads, arr_v, Cert.Reference3Ideal.SInp.v_at]
  show F_v m c ⟨h.val * 64 + d.val, by omega⟩ (row s b) = _
  unfold F_v
  rw [bat_row, tok_row]
  rfl

/-- The kept rows of the joined listing: the state's before the call's own. -/
theorem kept_at (s : Fin 30) (b : Fin 32) (d : Fin 512) :
    shapeCast S30x32x512 (extractStridedSlice S1x960x512 ![0, 256, 0] (joined m c) slices_S1x1216x512_S1x960x512_0_256_0) shapeCasts_S1x960x512_S30x32x512 (ix3 s b d)
      = joined m c (ix3 0 ⟨256 + (s.val * 32 + b.val), by omega⟩ d) := by
  generalize joined m c = v
  pointwise

theorem joined_state (r : Fin 1216) (d : Fin 512) (h : r.val < 960) : joined m c (ix3 0 r d)
    = m ((c : Thread nD τ).loc main_arg4) (ix3 ⟨r.val % 32, by omega⟩ ⟨r.val / 32, by omega⟩ d) := by
  unfold joined
  pointwise
  rw [dif_pos h]

theorem joined_new (r : Fin 1216) (d : Fin 512) (h : ¬ r.val < 960) : joined m c (ix3 0 r d) = A_u m c (ix3 0 ⟨r.val - 960, by omega⟩ d) := by
  unfold joined
  rw [arr_u]
  pointwise
  rw [dif_neg h]

theorem tail_u : tail m c main_v32 = val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  obtain ⟨b, s, d, rfl⟩ : ∃ (b : Fin 32) (s : Fin 30) (d : Fin 512), i = ix3 b s d := ⟨i 0, i 1, i 2, eq_ix3 i⟩
  rw [tail_u_eq, Cert.Reference3Ideal.SInp.conv_at]
  refine Eq.trans (b := shapeCast S30x32x512 (extractStridedSlice S1x960x512 ![0, 256, 0] (joined m c) slices_S1x1216x512_S1x960x512_0_256_0)
    shapeCasts_S1x960x512_S30x32x512 (ix3 s b d)) ?_ ?_
  · generalize shapeCast S30x32x512 (extractStridedSlice S1x960x512 ![0, 256, 0] (joined m c) slices_S1x1216x512_S1x960x512_0_256_0)
      shapeCasts_S1x960x512_S30x32x512 = v
    pointwise
  rw [kept_at]
  by_cases h : s.val < 22
  · rw [dif_pos h, joined_state m c _ _ (by change 256 + (s.val * 32 + b.val) < 960; omega)]
    refine congrArg (m ((c : Thread nD τ).loc main_arg4)) ?_
    exact congrArg₂ (fun x y => ix3 x y d) (Fin.ext (by change (256 + (s.val * 32 + b.val)) % 32 = b.val; omega))
      (Fin.ext (by change (256 + (s.val * 32 + b.val)) / 32 = 8 + s.val; omega))
  · rw [dif_neg h, joined_new m c _ _ (by change ¬ 256 + (s.val * 32 + b.val) < 960; omega), Cert.Reference3Ideal.SInp.u_at]
    have e : (⟨256 + (s.val * 32 + b.val) - 960, by omega⟩ : Fin 256) = row ⟨s.val - 22, by omega⟩ b := Fin.ext (by
      change 256 + (s.val * 32 + b.val) - 960 = (s.val - 22) * 32 + b.val; omega)
    show F_u m c ⟨256 + (s.val * 32 + b.val) - 960, _⟩ d = _
    rw [e]
    unfold F_u
    rw [bat_row, tok_row]
    rfl

end Cert.Kernel3Ideal.SInp
end
-- ==== Proof.SInpClaim.lean ====
module

public import proofs.«01_k».proof.Proof.SInpTail
public import proofs.«01_k».proof.Proof.Gen.Reference3Ideal.Run

/-! The four results of the sample's input projection against the reference's. -/

@[expose] public section
set_option maxRecDepth 16384
noncomputable section
open Idealize.ShloMosaic Idealize.ShloMosaic.TcCoe Idealize.SL.Sem
namespace Cert.Proof.SInp
open Cert.Kernel3Ideal.SInp

/-- The reference leaves its arguments as they were, and no semaphore is raised. -/
theorem reference_frame : Cert.quiescent_Reference3Ideal := fun m ρ _ =>
  (θ_run Cert.Reference3Ideal.defs _ _).mono (fun r h => ⟨fun c => (h c).2.2.2.2, Idealize.ShloMosaic.sem_eq_zero_of_no_sems (by decide) r.2⟩)
    (Cert.Reference3Ideal.Value.run (F := Ideal) m ρ)

/-- Over the extended reals the four results are the reference's, at every argument. -/
theorem algebraic : Cert.algebraic_Kernel3Ideal_Reference3Ideal := by
  intro m ρ m' ρ' _ hagree
  refine ⟨fun c => _, fun c => _, fun c => _, fun c => _,
    (θ_run Cert.Kernel3Ideal.defs _ _).mono (fun _ h c => ⟨((h.1 c).2 Cert.Kernel3Ideal.main_v25 (Pipeline.mem_restRefs_of Cert.Kernel3Ideal.main_v25 (by decide) (by decide))).trans (tail_q m c),
      ((h.1 c).2 Cert.Kernel3Ideal.main_v27 (Pipeline.mem_restRefs_of Cert.Kernel3Ideal.main_v27 (by decide) (by decide))).trans (tail_k m c),
      ((h.1 c).2 Cert.Kernel3Ideal.main_v29 (Pipeline.mem_restRefs_of Cert.Kernel3Ideal.main_v29 (by decide) (by decide))).trans (tail_v m c),
      ((h.1 c).2 Cert.Kernel3Ideal.main_v32 (Pipeline.mem_restRefs_of Cert.Kernel3Ideal.main_v32 (by decide) (by decide))).trans (tail_u m c), h.2 c⟩)
      (θ_run_and (Cert.Kernel3Ideal.Gen.run_main m ρ) (Cert.Kernel3Ideal.Gen.unchanged m ρ)), ?_⟩
  refine (θ_run Cert.Reference3Ideal.defs _ _).mono (fun _ h c => ?_) (Cert.Reference3Ideal.Value.run (F := Ideal) m' ρ')
  obtain ⟨e0, e1, e2, e3, e4⟩ := hagree c
  refine ⟨(h c).1.trans ?_, (h c).2.1.trans ?_, (h c).2.2.1.trans ?_, (h c).2.2.2.1.trans ?_, (h c).2.2.2.2⟩
  · refine (Cert.Reference3Ideal.Read.val_main_v25_eq _ _ _ _).trans ?_
    rw [e0, e1, e2, e3]
  · refine (Cert.Reference3Ideal.Read.val_main_v26_eq _ _ _ _).trans ?_
    rw [e0, e1, e2, e3]
  · refine (Cert.Reference3Ideal.Read.val_main_v27_eq _ _ _ _).trans ?_
    rw [e0, e1, e2, e3]
  · refine (Cert.Reference3Ideal.Read.val_main_v29_eq _ _ _ _ _).trans ?_
    rw [e0, e1, e2, e3, e4]

end Cert.Proof.SInp
end
-- ==== Proof.SPoint.lean ====
module

public import proofs.«01_k».proof.Proof.Gen.Kernel4Ideal.Frame
public import Idealize.ShloMosaic.Lib.Pipeline.ValueKit
public import Idealize.ShloMosaic.Lib.Pointwise

/-! The eleven column chunks of the grid point of the feed-forward call for the sample. Each chunk of the up-projection that the body stores is the
    matching rectangle of one whole block `rows` (the gate rows under the rows of the state), and each chunk of the
    gated product is the matching rectangle of one whole block `act`. -/

@[expose] public section
set_option maxRecDepth 16384
noncomputable section
open Idealize.ShloMosaic Idealize.ShloMosaic.TcCoe Idealize.SL.Sem
open Idealize.ShloMosaic.Pipeline (Dat)
namespace Cert.Kernel4Ideal.SFfn
open Cert.Kernel4Ideal Cert.Kernel4Ideal.Gen

/-- One entry of the up-projection: a row of the modulated block against a column of the weights. -/
def proj (H : FVec Ideal S256x1024 .bf16) (w : Vec Ideal S1024x5632 .bf16) (r : Fin 256) (j : Fin 5632) : EReal :=
  ∑ k : Fin 1024, H (ix2 r k) * w (ix2 k j)

/-- The gate rows with the 64 rows of the state on top. -/
def rows (H : FVec Ideal S256x1024 .bf16) (w : Vec Ideal S1024x5632 .bf16) (p : Vec Ideal S64x2816 .f32) : Vec Ideal S320x2816 .f32 :=
  fun y => if h : (y 0).val < 64 then p (ix2 ⟨(y 0).val, h⟩ ⟨(y 1).val, (y 1).isLt⟩)
    else proj H w ⟨(y 0).val - 64, by have := (y 0).isLt; change _ < 320 at this; omega⟩
      ⟨2816 + (y 1).val, by have := (y 1).isLt; change _ < 2816 at this; omega⟩

/-- The convolved gate at one entry. -/
def conv (X : Vec Ideal S320x2816 .f32) (f : Vec Ideal S3x2816 .f32) (b : Vec Ideal S1x2816 .f32) (r : Fin 256) (j : Fin 2816) : EReal :=
  f (ix2 0 j) * X (ix2 ⟨r.val + 0, by omega⟩ j) + f (ix2 1 j) * X (ix2 ⟨r.val + 32, by omega⟩ j)
    + f (ix2 2 j) * X (ix2 ⟨r.val + 64, by omega⟩ j) + b (ix2 0 j)

/-- The gated value at one entry. -/
def gated (c v : EReal) : EReal :=
  Ideal.ofBits .f32 0x3F000000#32 * c * (1 + Ideal.erf (c * Ideal.ofBits .f32 0x3F3504F3#32)) * v

/-- The gated block. -/
def act (H : FVec Ideal S256x1024 .bf16) (w : Vec Ideal S1024x5632 .bf16) (X : Vec Ideal S320x2816 .f32) (f : Vec Ideal S3x2816 .f32)
    (b : Vec Ideal S1x2816 .f32) : Vec Ideal S256x2816 .bf16 :=
  fun y => gated (conv X f b (y 0) (y 1)) (proj H w (y 0) ⟨(y 1).val, by have := (y 1).isLt; change _ < 2816 at this; omega⟩)

variable (H : FVec Ideal S256x1024 .bf16) (w : Vec Ideal S1024x5632 .bf16) (p : Vec Ideal S64x2816 .f32) (f : Vec Ideal S3x2816 .f32)
    (b : Vec Ideal S1x2816 .f32)

/-- Below the rows of the state the block holds the projection. -/
theorem rows_low (r : Fin 256) (n : Fin 320) (j : Fin 2816) (g : Fin 5632) (hn : n.val = 64 + r.val) (hg : g.val = 2816 + j.val) :
    rows H w p (ix2 n j) = proj H w r g := by
  obtain ⟨n, hn'⟩ := n
  obtain ⟨g, hg'⟩ := g
  simp only at hn hg
  subst hn hg
  have e : rows H w p (ix2 ⟨64 + r.val, hn'⟩ j) = if h : 64 + r.val < 64 then p (ix2 ⟨64 + r.val, h⟩ j)
      else proj H w ⟨64 + r.val - 64, by omega⟩ ⟨2816 + j.val, by omega⟩ := rfl
  rw [e, dif_neg (by omega)]
  congr 1
  exact Fin.ext (by simp only; omega)

theorem gate_at (r : Fin 256) (n : Fin 320) (j : Fin 2816) {g : Fin 5632} (hn : n.val = 64 + r.val) (hg : g.val = 2816 + j.val) :
    (∑ x : Fin 1024, H (ix2 r x) * w (ix2 x g)) = rows H w p (ix2 n j) :=
  (rows_low H w p r n j g hn hg).symm

theorem act_at (r : Fin 256) (j j' : Fin 2816) (r6 r7 : Fin 320) (g v : Fin 5632) (hj : j' = j) (h6 : r6.val = r.val) (h7 : r7.val = 32 + r.val)
    (hg : g.val = 2816 + j.val) (hv : v.val = j.val) :
    Ideal.ofBits .f32 0x3F000000#32 *
          (f (ix2 0 j) * rows H w p (ix2 r6 j) + f (ix2 1 j) * rows H w p (ix2 r7 j) + f (ix2 2 j) * (∑ x : Fin 1024, H (ix2 r x) * w (ix2 x g))
            + b (ix2 0 j)) *
        (1 + FloatOps.erf (F := Ideal) (φ := .f32)
            ((f (ix2 0 j) * rows H w p (ix2 r6 j) + f (ix2 1 j) * rows H w p (ix2 r7 j) + f (ix2 2 j) * (∑ x : Fin 1024, H (ix2 r x) * w (ix2 x g))
              + b (ix2 0 j)) * Ideal.ofBits .f32 0x3F3504F3#32)) *
      (∑ x : Fin 1024, H (ix2 r x) * w (ix2 x v))
    = act H w (rows H w p) f b (ix2 r j') := by
  subst hj
  obtain rfl : r6 = ⟨r.val + 0, Nat.lt_of_lt_of_le (Nat.add_lt_add_right r.isLt 0) (by decide)⟩ := Fin.ext (by dsimp only; omega)
  obtain rfl : r7 = ⟨r.val + 32, Nat.lt_of_lt_of_le (Nat.add_lt_add_right r.isLt 32) (by decide)⟩ := Fin.ext (by dsimp only; omega)
  obtain rfl : v = ⟨j'.val, Nat.lt_trans j'.isLt (by decide)⟩ := Fin.ext hv
  rw [gate_at H w p r ⟨r.val + 64, by omega⟩ j' (by dsimp only; omega) hg]
  rfl

theorem gate0 (x0 x1 x2 : Vec Ideal S1x256x1024 .f32) : k0_pay7 x0 x2 x1 (View.ld (w) (Rect.unit ![0, 2816] ![1024, 256] inb_S1024x5632_S1024x256_0_2816))
    = View.ld (rows (k0_pay4 x0 x2 x1) w p) (Rect.unit ![64, 0] ![256, 256] inb_S320x2816_S256x256_64_0) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨0 + j.val, by omega⟩) (by intro a; fin_cases a <;> rfl)]
  pointwise [k0_pay7, k0_pay6]
  exact gate_at _ w p _ _ _ (by first | rfl | (dsimp only; omega)) (by first | rfl | (dsimp only; omega))

theorem act0 (x0 x1 x2 : Vec Ideal S1x256x1024 .f32) :
    k0_pay9 (k0_pay5 x0 x2 x1 (View.ld (w) (Rect.unit ![0, 0] ![1024, 256] inb_S1024x5632_S1024x256_0_0))) (k0_pay6 x0 x2 x1 (View.ld (w) (Rect.unit ![0, 2816] ![1024, 256] inb_S1024x5632_S1024x256_0_2816))) (k0_pay8 (View.ld (f) (Rect.unit ![0, 0] ![1, 256] inb_S3x2816_S1x256_0_0)) (View.ld (rows (k0_pay4 x0 x2 x1) w p) (Rect.unit ![0, 0] ![256, 256] inb_S320x2816_S256x256_0_0))) (View.ld (f) (Rect.unit ![1, 0] ![1, 256] inb_S3x2816_S1x256_1_0)) (View.ld (rows (k0_pay4 x0 x2 x1) w p) (Rect.unit ![32, 0] ![256, 256] inb_S320x2816_S256x256_32_0)) (View.ld (f) (Rect.unit ![2, 0] ![1, 256] inb_S3x2816_S1x256_2_0)) (View.ld (b) (Rect.unit ![0, 0] ![1, 256] inb_S1x2816_S1x256_0_0))
    = View.ld (act (k0_pay4 x0 x2 x1) w (rows (k0_pay4 x0 x2 x1) w p) f b) (Rect.unit ![0, 0] ![256, 256] inb_S256x2816_S256x256_0_0) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨0 + j.val, by omega⟩) (by intro a; fin_cases a <;> simp <;> rfl)]
  pointwise [k0_pay9, k0_pay5, k0_pay6, k0_pay8]
  refine act_at _ w p f b _ _ _ _ _ _ _ ?_ ?_ ?_ ?_ ?_ <;> first | rfl | (apply Fin.ext; dsimp only; omega) | (dsimp only; omega)

theorem gate1 : k0_pay12 H (View.ld (w) (Rect.unit ![0, 3072] ![1024, 256] inb_S1024x5632_S1024x256_0_3072))
    = View.ld (rows H w p) (Rect.unit ![64, 256] ![256, 256] inb_S320x2816_S256x256_64_256) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨256 + j.val, by omega⟩) (by intro a; fin_cases a <;> rfl)]
  pointwise [k0_pay12, k0_pay11]
  exact gate_at _ w p _ _ _ (by first | rfl | (dsimp only; omega)) (by first | rfl | (dsimp only; omega))

theorem act1 :
    k0_pay14 (k0_pay10 H (View.ld (w) (Rect.unit ![0, 256] ![1024, 256] inb_S1024x5632_S1024x256_0_256))) (k0_pay11 H (View.ld (w) (Rect.unit ![0, 3072] ![1024, 256] inb_S1024x5632_S1024x256_0_3072))) (View.ld (rows H w p) (Rect.unit ![0, 256] ![256, 256] inb_S320x2816_S256x256_0_256)) (k0_pay13 (View.ld (f) (Rect.unit ![0, 256] ![1, 256] inb_S3x2816_S1x256_0_256))) (View.ld (f) (Rect.unit ![1, 256] ![1, 256] inb_S3x2816_S1x256_1_256)) (View.ld (rows H w p) (Rect.unit ![32, 256] ![256, 256] inb_S320x2816_S256x256_32_256)) (View.ld (f) (Rect.unit ![2, 256] ![1, 256] inb_S3x2816_S1x256_2_256)) (View.ld (b) (Rect.unit ![0, 256] ![1, 256] inb_S1x2816_S1x256_0_256))
    = View.ld (act H w (rows H w p) f b) (Rect.unit ![0, 256] ![256, 256] inb_S256x2816_S256x256_0_256) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨256 + j.val, by omega⟩) (by intro a; fin_cases a <;> simp <;> rfl)]
  pointwise [k0_pay14, k0_pay10, k0_pay11, k0_pay13]
  refine act_at _ w p f b _ _ _ _ _ _ _ ?_ ?_ ?_ ?_ ?_ <;> first | rfl | (apply Fin.ext; dsimp only; omega) | (dsimp only; omega)

theorem gate2 : k0_pay17 H (View.ld (w) (Rect.unit ![0, 3328] ![1024, 256] inb_S1024x5632_S1024x256_0_3328))
    = View.ld (rows H w p) (Rect.unit ![64, 512] ![256, 256] inb_S320x2816_S256x256_64_512) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨512 + j.val, by omega⟩) (by intro a; fin_cases a <;> rfl)]
  pointwise [k0_pay17, k0_pay16]
  exact gate_at _ w p _ _ _ (by first | rfl | (dsimp only; omega)) (by first | rfl | (dsimp only; omega))

theorem act2 :
    k0_pay18 (k0_pay15 H (View.ld (w) (Rect.unit ![0, 512] ![1024, 256] inb_S1024x5632_S1024x256_0_512))) (k0_pay16 H (View.ld (w) (Rect.unit ![0, 3328] ![1024, 256] inb_S1024x5632_S1024x256_0_3328))) (View.ld (f) (Rect.unit ![0, 512] ![1, 256] inb_S3x2816_S1x256_0_512)) (View.ld (rows H w p) (Rect.unit ![0, 512] ![256, 256] inb_S320x2816_S256x256_0_512)) (View.ld (f) (Rect.unit ![1, 512] ![1, 256] inb_S3x2816_S1x256_1_512)) (View.ld (rows H w p) (Rect.unit ![32, 512] ![256, 256] inb_S320x2816_S256x256_32_512)) (View.ld (f) (Rect.unit ![2, 512] ![1, 256] inb_S3x2816_S1x256_2_512)) (View.ld (b) (Rect.unit ![0, 512] ![1, 256] inb_S1x2816_S1x256_0_512))
    = View.ld (act H w (rows H w p) f b) (Rect.unit ![0, 512] ![256, 256] inb_S256x2816_S256x256_0_512) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨512 + j.val, by omega⟩) (by intro a; fin_cases a <;> simp <;> rfl)]
  pointwise [k0_pay18, k0_pay15, k0_pay16]
  refine act_at _ w p f b _ _ _ _ _ _ _ ?_ ?_ ?_ ?_ ?_ <;> first | rfl | (apply Fin.ext; dsimp only; omega) | (dsimp only; omega)

theorem gate3 : k0_pay21 (k0_pay20 H (View.ld (w) (Rect.unit ![0, 3584] ![1024, 256] inb_S1024x5632_S1024x256_0_3584)))
    = View.ld (rows H w p) (Rect.unit ![64, 768] ![256, 256] inb_S320x2816_S256x256_64_768) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨768 + j.val, by omega⟩) (by intro a; fin_cases a <;> rfl)]
  pointwise [k0_pay21, k0_pay20]
  exact gate_at _ w p _ _ _ (by first | rfl | (dsimp only; omega)) (by first | rfl | (dsimp only; omega))

theorem act3 :
    k0_pay22 (k0_pay19 H (View.ld (w) (Rect.unit ![0, 768] ![1024, 256] inb_S1024x5632_S1024x256_0_768))) (k0_pay20 H (View.ld (w) (Rect.unit ![0, 3584] ![1024, 256] inb_S1024x5632_S1024x256_0_3584))) (View.ld (f) (Rect.unit ![0, 768] ![1, 256] inb_S3x2816_S1x256_0_768)) (View.ld (rows H w p) (Rect.unit ![0, 768] ![256, 256] inb_S320x2816_S256x256_0_768)) (View.ld (f) (Rect.unit ![1, 768] ![1, 256] inb_S3x2816_S1x256_1_768)) (View.ld (rows H w p) (Rect.unit ![32, 768] ![256, 256] inb_S320x2816_S256x256_32_768)) (View.ld (f) (Rect.unit ![2, 768] ![1, 256] inb_S3x2816_S1x256_2_768)) (View.ld (b) (Rect.unit ![0, 768] ![1, 256] inb_S1x2816_S1x256_0_768))
    = View.ld (act H w (rows H w p) f b) (Rect.unit ![0, 768] ![256, 256] inb_S256x2816_S256x256_0_768) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨768 + j.val, by omega⟩) (by intro a; fin_cases a <;> simp <;> rfl)]
  pointwise [k0_pay22, k0_pay19, k0_pay20]
  refine act_at _ w p f b _ _ _ _ _ _ _ ?_ ?_ ?_ ?_ ?_ <;> first | rfl | (apply Fin.ext; dsimp only; omega) | (dsimp only; omega)

theorem gate4 : k0_pay25 H (View.ld (w) (Rect.unit ![0, 3840] ![1024, 256] inb_S1024x5632_S1024x256_0_3840))
    = View.ld (rows H w p) (Rect.unit ![64, 1024] ![256, 256] inb_S320x2816_S256x256_64_1024) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨1024 + j.val, by omega⟩) (by intro a; fin_cases a <;> rfl)]
  pointwise [k0_pay25, k0_pay24]
  exact gate_at _ w p _ _ _ (by first | rfl | (dsimp only; omega)) (by first | rfl | (dsimp only; omega))

theorem act4 :
    k0_pay26 H (k0_pay23 H (View.ld (w) (Rect.unit ![0, 1024] ![1024, 256] inb_S1024x5632_S1024x256_0_1024))) (View.ld (w) (Rect.unit ![0, 3840] ![1024, 256] inb_S1024x5632_S1024x256_0_3840)) (View.ld (f) (Rect.unit ![0, 1024] ![1, 256] inb_S3x2816_S1x256_0_1024)) (View.ld (rows H w p) (Rect.unit ![0, 1024] ![256, 256] inb_S320x2816_S256x256_0_1024)) (View.ld (f) (Rect.unit ![1, 1024] ![1, 256] inb_S3x2816_S1x256_1_1024)) (View.ld (rows H w p) (Rect.unit ![32, 1024] ![256, 256] inb_S320x2816_S256x256_32_1024)) (View.ld (f) (Rect.unit ![2, 1024] ![1, 256] inb_S3x2816_S1x256_2_1024)) (View.ld (b) (Rect.unit ![0, 1024] ![1, 256] inb_S1x2816_S1x256_0_1024))
    = View.ld (act H w (rows H w p) f b) (Rect.unit ![0, 1024] ![256, 256] inb_S256x2816_S256x256_0_1024) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨1024 + j.val, by omega⟩) (by intro a; fin_cases a <;> simp <;> rfl)]
  pointwise [k0_pay26, k0_pay23, k0_pay24]
  refine act_at _ w p f b _ _ _ _ _ _ _ ?_ ?_ ?_ ?_ ?_ <;> first | rfl | (apply Fin.ext; dsimp only; omega) | (dsimp only; omega)

theorem gate5 : k0_pay28 H (View.ld (w) (Rect.unit ![0, 4096] ![1024, 256] inb_S1024x5632_S1024x256_0_4096))
    = View.ld (rows H w p) (Rect.unit ![64, 1280] ![256, 256] inb_S320x2816_S256x256_64_1280) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨1280 + j.val, by omega⟩) (by intro a; fin_cases a <;> rfl)]
  pointwise [k0_pay28, k0_pay27]
  exact gate_at _ w p _ _ _ (by first | rfl | (dsimp only; omega)) (by first | rfl | (dsimp only; omega))

theorem act5 :
    k0_pay30 (k0_pay29 H (View.ld (w) (Rect.unit ![0, 1280] ![1024, 256] inb_S1024x5632_S1024x256_0_1280)) (View.ld (w) (Rect.unit ![0, 4096] ![1024, 256] inb_S1024x5632_S1024x256_0_4096)) (View.ld (f) (Rect.unit ![0, 1280] ![1, 256] inb_S3x2816_S1x256_0_1280)) (View.ld (rows H w p) (Rect.unit ![0, 1280] ![256, 256] inb_S320x2816_S256x256_0_1280)) (View.ld (f) (Rect.unit ![1, 1280] ![1, 256] inb_S3x2816_S1x256_1_1280)) (View.ld (rows H w p) (Rect.unit ![32, 1280] ![256, 256] inb_S320x2816_S256x256_32_1280)) (View.ld (f) (Rect.unit ![2, 1280] ![1, 256] inb_S3x2816_S1x256_2_1280)) (View.ld (b) (Rect.unit ![0, 1280] ![1, 256] inb_S1x2816_S1x256_0_1280)))
    = View.ld (act H w (rows H w p) f b) (Rect.unit ![0, 1280] ![256, 256] inb_S256x2816_S256x256_0_1280) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨1280 + j.val, by omega⟩) (by intro a; fin_cases a <;> simp <;> rfl)]
  pointwise [k0_pay30, k0_pay29, k0_pay27]
  refine act_at _ w p f b _ _ _ _ _ _ _ ?_ ?_ ?_ ?_ ?_ <;> first | rfl | (apply Fin.ext; dsimp only; omega) | (dsimp only; omega)

theorem gate6 : k0_pay33 H (View.ld (w) (Rect.unit ![0, 4352] ![1024, 256] inb_S1024x5632_S1024x256_0_4352))
    = View.ld (rows H w p) (Rect.unit ![64, 1536] ![256, 256] inb_S320x2816_S256x256_64_1536) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨1536 + j.val, by omega⟩) (by intro a; fin_cases a <;> rfl)]
  pointwise [k0_pay33, k0_pay32]
  exact gate_at _ w p _ _ _ (by first | rfl | (dsimp only; omega)) (by first | rfl | (dsimp only; omega))

theorem act6 :
    k0_pay37 (k0_pay31 H (View.ld (w) (Rect.unit ![0, 1536] ![1024, 256] inb_S1024x5632_S1024x256_0_1536))) (k0_pay35 H (View.ld (w) (Rect.unit ![0, 4352] ![1024, 256] inb_S1024x5632_S1024x256_0_4352)) (View.ld (f) (Rect.unit ![0, 1536] ![1, 256] inb_S3x2816_S1x256_0_1536)) (View.ld (rows H w p) (Rect.unit ![0, 1536] ![256, 256] inb_S320x2816_S256x256_0_1536)) (View.ld (f) (Rect.unit ![1, 1536] ![1, 256] inb_S3x2816_S1x256_1_1536)) (View.ld (rows H w p) (Rect.unit ![32, 1536] ![256, 256] inb_S320x2816_S256x256_32_1536)) (View.ld (f) (Rect.unit ![2, 1536] ![1, 256] inb_S3x2816_S1x256_2_1536)) (View.ld (b) (Rect.unit ![0, 1536] ![1, 256] inb_S1x2816_S1x256_0_1536))) (k0_pay36 H (View.ld (w) (Rect.unit ![0, 4352] ![1024, 256] inb_S1024x5632_S1024x256_0_4352)) (View.ld (f) (Rect.unit ![0, 1536] ![1, 256] inb_S3x2816_S1x256_0_1536)) (View.ld (rows H w p) (Rect.unit ![0, 1536] ![256, 256] inb_S320x2816_S256x256_0_1536)) (View.ld (f) (Rect.unit ![1, 1536] ![1, 256] inb_S3x2816_S1x256_1_1536)) (View.ld (rows H w p) (Rect.unit ![32, 1536] ![256, 256] inb_S320x2816_S256x256_32_1536)) (View.ld (f) (Rect.unit ![2, 1536] ![1, 256] inb_S3x2816_S1x256_2_1536)) (View.ld (b) (Rect.unit ![0, 1536] ![1, 256] inb_S1x2816_S1x256_0_1536))) (FloatOps.ofBits FTy.f32 1065353216#32)
    = View.ld (act H w (rows H w p) f b) (Rect.unit ![0, 1536] ![256, 256] inb_S256x2816_S256x256_0_1536) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨1536 + j.val, by omega⟩) (by intro a; fin_cases a <;> simp <;> rfl)]
  pointwise [k0_pay37, k0_pay31, k0_pay35, k0_pay36, k0_pay34, k0_pay32]
  refine act_at _ w p f b _ _ _ _ _ _ _ ?_ ?_ ?_ ?_ ?_ <;> first | rfl | (apply Fin.ext; dsimp only; omega) | (dsimp only; omega)

theorem gate7 : k0_pay40 H (View.ld (w) (Rect.unit ![0, 4608] ![1024, 256] inb_S1024x5632_S1024x256_0_4608))
    = View.ld (rows H w p) (Rect.unit ![64, 1792] ![256, 256] inb_S320x2816_S256x256_64_1792) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨1792 + j.val, by omega⟩) (by intro a; fin_cases a <;> rfl)]
  pointwise [k0_pay40, k0_pay39]
  exact gate_at _ w p _ _ _ (by first | rfl | (dsimp only; omega)) (by first | rfl | (dsimp only; omega))

theorem act7 :
    k0_pay43 (k0_pay38 H (View.ld (w) (Rect.unit ![0, 1792] ![1024, 256] inb_S1024x5632_S1024x256_0_1792))) (k0_pay41 H (View.ld (w) (Rect.unit ![0, 4608] ![1024, 256] inb_S1024x5632_S1024x256_0_4608)) (View.ld (f) (Rect.unit ![0, 1792] ![1, 256] inb_S3x2816_S1x256_0_1792)) (View.ld (rows H w p) (Rect.unit ![0, 1792] ![256, 256] inb_S320x2816_S256x256_0_1792)) (View.ld (f) (Rect.unit ![1, 1792] ![1, 256] inb_S3x2816_S1x256_1_1792)) (View.ld (rows H w p) (Rect.unit ![32, 1792] ![256, 256] inb_S320x2816_S256x256_32_1792)) (View.ld (f) (Rect.unit ![2, 1792] ![1, 256] inb_S3x2816_S1x256_2_1792)) (View.ld (b) (Rect.unit ![0, 1792] ![1, 256] inb_S1x2816_S1x256_0_1792))) k0_pay42
    = View.ld (act H w (rows H w p) f b) (Rect.unit ![0, 1792] ![256, 256] inb_S256x2816_S256x256_0_1792) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨1792 + j.val, by omega⟩) (by intro a; fin_cases a <;> simp <;> rfl)]
  pointwise [k0_pay43, k0_pay38, k0_pay41, k0_pay42, k0_pay39]
  refine act_at _ w p f b _ _ _ _ _ _ _ ?_ ?_ ?_ ?_ ?_ <;> first | rfl | (apply Fin.ext; dsimp only; omega) | (dsimp only; omega)

theorem gate8 : k0_pay46 H (View.ld (w) (Rect.unit ![0, 4864] ![1024, 256] inb_S1024x5632_S1024x256_0_4864))
    = View.ld (rows H w p) (Rect.unit ![64, 2048] ![256, 256] inb_S320x2816_S256x256_64_2048) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨2048 + j.val, by omega⟩) (by intro a; fin_cases a <;> rfl)]
  pointwise [k0_pay46, k0_pay45]
  exact gate_at _ w p _ _ _ (by first | rfl | (dsimp only; omega)) (by first | rfl | (dsimp only; omega))

theorem act8 :
    k0_pay48 (k0_pay44 H (View.ld (w) (Rect.unit ![0, 2048] ![1024, 256] inb_S1024x5632_S1024x256_0_2048))) (k0_pay47 H (View.ld (w) (Rect.unit ![0, 4864] ![1024, 256] inb_S1024x5632_S1024x256_0_4864)) (View.ld (f) (Rect.unit ![0, 2048] ![1, 256] inb_S3x2816_S1x256_0_2048)) (View.ld (rows H w p) (Rect.unit ![0, 2048] ![256, 256] inb_S320x2816_S256x256_0_2048)) (View.ld (f) (Rect.unit ![1, 2048] ![1, 256] inb_S3x2816_S1x256_1_2048)) (View.ld (rows H w p) (Rect.unit ![32, 2048] ![256, 256] inb_S320x2816_S256x256_32_2048)) (View.ld (f) (Rect.unit ![2, 2048] ![1, 256] inb_S3x2816_S1x256_2_2048))) (View.ld (b) (Rect.unit ![0, 2048] ![1, 256] inb_S1x2816_S1x256_0_2048))
    = View.ld (act H w (rows H w p) f b) (Rect.unit ![0, 2048] ![256, 256] inb_S256x2816_S256x256_0_2048) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨2048 + j.val, by omega⟩) (by intro a; fin_cases a <;> simp <;> rfl)]
  pointwise [k0_pay48, k0_pay44, k0_pay47, k0_pay45]
  refine act_at _ w p f b _ _ _ _ _ _ _ ?_ ?_ ?_ ?_ ?_ <;> first | rfl | (apply Fin.ext; dsimp only; omega) | (dsimp only; omega)

theorem gate9 : k0_pay51 H (View.ld (w) (Rect.unit ![0, 5120] ![1024, 256] inb_S1024x5632_S1024x256_0_5120))
    = View.ld (rows H w p) (Rect.unit ![64, 2304] ![256, 256] inb_S320x2816_S256x256_64_2304) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨2304 + j.val, by omega⟩) (by intro a; fin_cases a <;> rfl)]
  pointwise [k0_pay51, k0_pay50]
  exact gate_at _ w p _ _ _ (by first | rfl | (dsimp only; omega)) (by first | rfl | (dsimp only; omega))

theorem act9 :
    k0_pay53 (k0_pay49 H (View.ld (w) (Rect.unit ![0, 2304] ![1024, 256] inb_S1024x5632_S1024x256_0_2304))) (k0_pay50 H (View.ld (w) (Rect.unit ![0, 5120] ![1024, 256] inb_S1024x5632_S1024x256_0_5120))) (k0_pay52 (View.ld (f) (Rect.unit ![0, 2304] ![1, 256] inb_S3x2816_S1x256_0_2304)) (View.ld (rows H w p) (Rect.unit ![0, 2304] ![256, 256] inb_S320x2816_S256x256_0_2304)) (View.ld (f) (Rect.unit ![1, 2304] ![1, 256] inb_S3x2816_S1x256_1_2304)) (View.ld (rows H w p) (Rect.unit ![32, 2304] ![256, 256] inb_S320x2816_S256x256_32_2304))) (View.ld (f) (Rect.unit ![2, 2304] ![1, 256] inb_S3x2816_S1x256_2_2304)) (View.ld (b) (Rect.unit ![0, 2304] ![1, 256] inb_S1x2816_S1x256_0_2304))
    = View.ld (act H w (rows H w p) f b) (Rect.unit ![0, 2304] ![256, 256] inb_S256x2816_S256x256_0_2304) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨2304 + j.val, by omega⟩) (by intro a; fin_cases a <;> simp <;> rfl)]
  pointwise [k0_pay53, k0_pay49, k0_pay50, k0_pay52]
  refine act_at _ w p f b _ _ _ _ _ _ _ ?_ ?_ ?_ ?_ ?_ <;> first | rfl | (apply Fin.ext; dsimp only; omega) | (dsimp only; omega)

theorem gate10 : k0_pay56 H (View.ld (w) (Rect.unit ![0, 5376] ![1024, 256] inb_S1024x5632_S1024x256_0_5376))
    = View.ld (rows H w p) (Rect.unit ![64, 2560] ![256, 256] inb_S320x2816_S256x256_64_2560) := by
  funext x
  obtain ⟨r, j, rfl⟩ : ∃ (r : Fin 256) (j : Fin 256), x = ix2 r j := ⟨x 0, x 1, eq_ix2 x⟩
  rw [View.ld_unit_apply_of _ _ _ _ _ (ix2 (n0 := 320) (n1 := 2816) ⟨64 + r.val, by omega⟩ ⟨2560 + j.val, by omega⟩) (by intro a; fin_cases a <;> rfl)]
  pointwise [k0_pay56, k0_pay55]
  exact gate_at _ w p _ _ _ (by first | rfl | (dsimp only; omega)) (by first | rfl | (dsimp only; omega))

theorem act10 :
    k0_pay58 (k0_pay54 H (View.ld (w) (Rect.unit ![0, 2560] ![1024, 256] inb_S1024x5632_S1024x256_0_2560))) (k0_pay55 H (View.ld (w) (Rect.unit ![0, 5376] ![1024, 256] inb_S1024x5632_S1024x256_0_5376))) (k0_pay57 (View.ld (f) (Rect.unit ![0, 2560] ![1, 256] inb_S3x2816_S1x256_0_2560)) (View.ld (rows H w p) (Rect.unit ![0, 2560] ![256, 256] inb_S320x2816_S256x256_0_2560))) (View.ld (f) (Rect.unit ![1, 2560] ![1, 256] inb_S3x2816_S1x256_1_2560)) (View.ld (rows H w p) (Rect.unit ![32, 2560] ![256, 256] inb_S320x2816_S256x256_32_2560)) (View.ld (f) (Rect.unit ![2, 2560] ![1, 256] inb_S3x2816_S1x256_2_2560)) (View.ld (b) (Rect.unit ![0, 2560] ![1, 256] inb_S1x2816_S1x256_0_2560))
    = View.ld (act H w (rows H w p) f b) (Rect.unit ![0, 2560] ![256, 256] inb_S256x2816_S256x256_0_2560) := by
  funext x
  obtain ⟨r, j, rfl⟩ : ∃ (r : Fin 256) (j : Fin 256), x = ix2 r j := ⟨x 0, x 1, eq_ix2 x⟩
  rw [View.ld_unit_apply_of _ _ _ _ _ (ix2 (n0 := 256) (n1 := 2816) ⟨r.val, by omega⟩ ⟨2560 + j.val, by omega⟩) (by intro a; fin_cases a <;> simp <;> rfl)]
  pointwise [k0_pay58, k0_pay54, k0_pay55, k0_pay57]
  refine act_at _ w p f b _ _ _ _ _ _ _ ?_ ?_ ?_ ?_ ?_ <;> first | rfl | (apply Fin.ext; dsimp only; omega) | (dsimp only; omega)

end Cert.Kernel4Ideal.SFfn
end
-- ==== Proof.SBlock.lean ====
module

public import proofs.«01_k».proof.Proof.SPoint
public import proofs.«01_k».proof.Proof.Reads
public import Idealize.ShloMosaic.Lib.Pipeline.ReadBack

/-! What the feed-forward call for the sample leaves in its two result blocks, as functions of its blocks. -/

@[expose] public section
set_option maxRecDepth 16384
noncomputable section
open Idealize.ShloMosaic Idealize.ShloMosaic.TcCoe Idealize.SL.Sem
open Idealize.ShloMosaic.Pipeline (Dat)
open Cert.Reads
namespace Cert.Kernel4Ideal.SFfn
open Cert.Kernel4Ideal Cert.Kernel4Ideal.Gen

section Loads
variable {κ : Kind} {sp : Space}

/-- A load of a chunk moved up by a few rows, after the chunk itself and the 64 rows on top were stored. -/
theorem load_cov (v : View sig κ sp S320x2816 .f32) (G : Vec Ideal S320x2816 .f32) (o a : ℕ) (ha : a ≤ 64)
    (i1 : ∀ d, (![64, o] : Fin 2 → ℕ) d + (![256, 256] : Fin 2 → ℕ) d ≤ S320x2816.size d) (L : List (View.Piece (Elt Ideal) S320x2816 .f32))
    (i2 : ∀ d, (![a, o] : Fin 2 → ℕ) d + (![256, 256] : Fin 2 → ℕ) d ≤ S320x2816.size d)
    (hL : Agree G L) (hh : Has (Rect.unit ![0, 0] ![64, 2816] inb_S320x2816_S64x2816_0_0) L) :
    v.readCov (⟨Rect.unit ![64, o] ![256, 256] i1, View.ld (Val := Elt Ideal) (e' := .f32) G _⟩ :: L) (Rect.unit ![a, o] ![256, 256] i2).toLoadRect
      = View.ld (Val := Elt Ideal) (e' := .f32) G (Rect.unit ![a, o] ![256, 256] i2) := by
  refine readCov_eq v G _ _ (agree_cons _ _ _ hL) fun x => ?_
  have e0 : ((Rect.unit (s := S320x2816) ![a, o] ![256, 256] i2).emb x 0).val = a + (x 0).val := Rect.idx_unit_val _ _ _ x 0
  have e1 : ((Rect.unit (s := S320x2816) ![a, o] ![256, 256] i2).emb x 1).val = o + (x 1).val := Rect.idx_unit_val _ _ _ x 1
  have l0 : (x 0).val < 256 := (x 0).isLt
  have l1 : (x 1).val < 256 := (x 1).isLt
  have b1 : o + 256 ≤ 2816 := i1 1
  by_cases h : a + (x 0).val < 64
  · refine (has_there _ _ _ hh).cover (Rect.mem_set_unit.mpr (Fin.forall_fin_two.mpr ⟨⟨Nat.zero_le _, ?_⟩, ⟨Nat.zero_le _, ?_⟩⟩))
    · rw [e0]; change _ < 0 + 64; omega
    · rw [e1]; change _ < 0 + 2816; omega
  · refine (has_here _ _ _).cover (Rect.mem_set_unit.mpr (Fin.forall_fin_two.mpr ⟨⟨?_, ?_⟩, ⟨?_, ?_⟩⟩))
    · rw [e0]; change 64 ≤ _; omega
    · rw [e0]; change _ < 64 + 256; omega
    · rw [e1]; change o ≤ _; omega
    · rw [e1]; change _ < o + 256; omega

/-- The last 64 rows, read after all eleven chunks were stored. -/
theorem load_last (v : View sig κ sp S320x2816 .f32) (G : Vec Ideal S320x2816 .f32) (L : List (View.Piece (Elt Ideal) S320x2816 .f32))
    (hL : Agree G L) :
    v.readCov ((⟨Rect.unit ![64, 2560] ![256, 256] inb_S320x2816_S256x256_64_2560, View.ld (Val := Elt Ideal) (e' := .f32) G _⟩ : View.Piece (Elt Ideal) S320x2816 .f32) :: (⟨Rect.unit ![64, 2304] ![256, 256] inb_S320x2816_S256x256_64_2304, View.ld (Val := Elt Ideal) (e' := .f32) G _⟩ : View.Piece (Elt Ideal) S320x2816 .f32) :: (⟨Rect.unit ![64, 2048] ![256, 256] inb_S320x2816_S256x256_64_2048, View.ld (Val := Elt Ideal) (e' := .f32) G _⟩ : View.Piece (Elt Ideal) S320x2816 .f32) :: (⟨Rect.unit ![64, 1792] ![256, 256] inb_S320x2816_S256x256_64_1792, View.ld (Val := Elt Ideal) (e' := .f32) G _⟩ : View.Piece (Elt Ideal) S320x2816 .f32) :: (⟨Rect.unit ![64, 1536] ![256, 256] inb_S320x2816_S256x256_64_1536, View.ld (Val := Elt Ideal) (e' := .f32) G _⟩ : View.Piece (Elt Ideal) S320x2816 .f32) :: (⟨Rect.unit ![64, 1280] ![256, 256] inb_S320x2816_S256x256_64_1280, View.ld (Val := Elt Ideal) (e' := .f32) G _⟩ : View.Piece (Elt Ideal) S320x2816 .f32) :: (⟨Rect.unit ![64, 1024] ![256, 256] inb_S320x2816_S256x256_64_1024, View.ld (Val := Elt Ideal) (e' := .f32) G _⟩ : View.Piece (Elt Ideal) S320x2816 .f32) :: (⟨Rect.unit ![64, 768] ![256, 256] inb_S320x2816_S256x256_64_768, View.ld (Val := Elt Ideal) (e' := .f32) G _⟩ : View.Piece (Elt Ideal) S320x2816 .f32) :: (⟨Rect.unit ![64, 512] ![256, 256] inb_S320x2816_S256x256_64_512, View.ld (Val := Elt Ideal) (e' := .f32) G _⟩ : View.Piece (Elt Ideal) S320x2816 .f32) :: (⟨Rect.unit ![64, 256] ![256, 256] inb_S320x2816_S256x256_64_256, View.ld (Val := Elt Ideal) (e' := .f32) G _⟩ : View.Piece (Elt Ideal) S320x2816 .f32) :: (⟨Rect.unit ![64, 0] ![256, 256] inb_S320x2816_S256x256_64_0, View.ld (Val := Elt Ideal) (e' := .f32) G _⟩ : View.Piece (Elt Ideal) S320x2816 .f32) :: L)
        (Rect.unit ![256, 0] ![64, 2816] inb_S320x2816_S64x2816_256_0).toLoadRect
      = View.ld (Val := Elt Ideal) (e' := .f32) G (Rect.unit ![256, 0] ![64, 2816] inb_S320x2816_S64x2816_256_0) := by
  refine readCov_eq v G _ _ (by repeat' (first | exact hL | apply agree_cons)) fun x => ?_
  have e0 : ((Rect.unit (s := S320x2816) ![256, 0] ![64, 2816] inb_S320x2816_S64x2816_256_0).emb x 0).val = 256 + (x 0).val := Rect.idx_unit_val _ _ _ x 0
  have e1 : ((Rect.unit (s := S320x2816) ![256, 0] ![64, 2816] inb_S320x2816_S64x2816_256_0).emb x 1).val = 0 + (x 1).val := Rect.idx_unit_val _ _ _ x 1
  have l0 : (x 0).val < 64 := (x 0).isLt
  have l1 : (x 1).val < 2816 := (x 1).isLt
  generalize (Rect.unit (s := S320x2816) ![256, 0] ![64, 2816] inb_S320x2816_S64x2816_256_0).emb x = y at e0 e1 ⊢
  by_cases h10 : 2560 ≤ (x 1).val
  · exact (has_here _ _ _).cover (Rect.mem_set_unit.mpr (Fin.forall_fin_two.mpr ⟨⟨by simp <;> omega, by simp <;> omega⟩, ⟨by simp <;> omega, by simp <;> omega⟩⟩))
  by_cases h9 : 2304 ≤ (x 1).val
  · exact (has_there _ _ _ (has_here _ _ _)).cover (Rect.mem_set_unit.mpr (Fin.forall_fin_two.mpr ⟨⟨by simp <;> omega, by simp <;> omega⟩, ⟨by simp <;> omega, by simp <;> omega⟩⟩))
  by_cases h8 : 2048 ≤ (x 1).val
  · exact (has_there _ _ _ (has_there _ _ _ (has_here _ _ _))).cover (Rect.mem_set_unit.mpr (Fin.forall_fin_two.mpr ⟨⟨by simp <;> omega, by simp <;> omega⟩, ⟨by simp <;> omega, by simp <;> omega⟩⟩))
  by_cases h7 : 1792 ≤ (x 1).val
  · exact (has_there _ _ _ (has_there _ _ _ (has_there _ _ _ (has_here _ _ _)))).cover (Rect.mem_set_unit.mpr (Fin.forall_fin_two.mpr ⟨⟨by simp <;> omega, by simp <;> omega⟩, ⟨by simp <;> omega, by simp <;> omega⟩⟩))
  by_cases h6 : 1536 ≤ (x 1).val
  · exact (has_there _ _ _ (has_there _ _ _ (has_there _ _ _ (has_there _ _ _ (has_here _ _ _))))).cover (Rect.mem_set_unit.mpr (Fin.forall_fin_two.mpr ⟨⟨by simp <;> omega, by simp <;> omega⟩, ⟨by simp <;> omega, by simp <;> omega⟩⟩))
  by_cases h5 : 1280 ≤ (x 1).val
  · exact (has_there _ _ _ (has_there _ _ _ (has_there _ _ _ (has_there _ _ _ (has_there _ _ _ (has_here _ _ _)))))).cover (Rect.mem_set_unit.mpr (Fin.forall_fin_two.mpr ⟨⟨by simp <;> omega, by simp <;> omega⟩, ⟨by simp <;> omega, by simp <;> omega⟩⟩))
  by_cases h4 : 1024 ≤ (x 1).val
  · exact (has_there _ _ _ (has_there _ _ _ (has_there _ _ _ (has_there _ _ _ (has_there _ _ _ (has_there _ _ _ (has_here _ _ _))))))).cover (Rect.mem_set_unit.mpr (Fin.forall_fin_two.mpr ⟨⟨by simp <;> omega, by simp <;> omega⟩, ⟨by simp <;> omega, by simp <;> omega⟩⟩))
  by_cases h3 : 768 ≤ (x 1).val
  · exact (has_there _ _ _ (has_there _ _ _ (has_there _ _ _ (has_there _ _ _ (has_there _ _ _ (has_there _ _ _ (has_there _ _ _ (has_here _ _ _)))))))).cover (Rect.mem_set_unit.mpr (Fin.forall_fin_two.mpr ⟨⟨by simp <;> omega, by simp <;> omega⟩, ⟨by simp <;> omega, by simp <;> omega⟩⟩))
  by_cases h2 : 512 ≤ (x 1).val
  · exact (has_there _ _ _ (has_there _ _ _ (has_there _ _ _ (has_there _ _ _ (has_there _ _ _ (has_there _ _ _ (has_there _ _ _ (has_there _ _ _ (has_here _ _ _))))))))).cover (Rect.mem_set_unit.mpr (Fin.forall_fin_two.mpr ⟨⟨by simp <;> omega, by simp <;> omega⟩, ⟨by simp <;> omega, by simp <;> omega⟩⟩))
  by_cases h1 : 256 ≤ (x 1).val
  · exact (has_there _ _ _ (has_there _ _ _ (has_there _ _ _ (has_there _ _ _ (has_there _ _ _ (has_there _ _ _ (has_there _ _ _ (has_there _ _ _ (has_there _ _ _ (has_here _ _ _)))))))))).cover (Rect.mem_set_unit.mpr (Fin.forall_fin_two.mpr ⟨⟨by simp <;> omega, by simp <;> omega⟩, ⟨by simp <;> omega, by simp <;> omega⟩⟩))
  · exact (has_there _ _ _ (has_there _ _ _ (has_there _ _ _ (has_there _ _ _ (has_there _ _ _ (has_there _ _ _ (has_there _ _ _ (has_there _ _ _ (has_there _ _ _ (has_there _ _ _ (has_here _ _ _))))))))))).cover (Rect.mem_set_unit.mpr (Fin.forall_fin_two.mpr ⟨⟨by simp <;> omega, by simp <;> omega⟩, ⟨by simp <;> omega, by simp <;> omega⟩⟩))

/-- The whole gated block, read after its eleven chunks were stored. -/
theorem load_act (v : View sig κ sp S256x2816 .bf16) (G : Vec Ideal S256x2816 .bf16) :
    v.readCov [⟨Rect.unit ![0, 2560] ![256, 256] inb_S256x2816_S256x256_0_2560, View.ld (Val := Elt Ideal) (e' := .bf16) G _⟩, ⟨Rect.unit ![0, 2304] ![256, 256] inb_S256x2816_S256x256_0_2304, View.ld (Val := Elt Ideal) (e' := .bf16) G _⟩, ⟨Rect.unit ![0, 2048] ![256, 256] inb_S256x2816_S256x256_0_2048, View.ld (Val := Elt Ideal) (e' := .bf16) G _⟩, ⟨Rect.unit ![0, 1792] ![256, 256] inb_S256x2816_S256x256_0_1792, View.ld (Val := Elt Ideal) (e' := .bf16) G _⟩, ⟨Rect.unit ![0, 1536] ![256, 256] inb_S256x2816_S256x256_0_1536, View.ld (Val := Elt Ideal) (e' := .bf16) G _⟩, ⟨Rect.unit ![0, 1280] ![256, 256] inb_S256x2816_S256x256_0_1280, View.ld (Val := Elt Ideal) (e' := .bf16) G _⟩, ⟨Rect.unit ![0, 1024] ![256, 256] inb_S256x2816_S256x256_0_1024, View.ld (Val := Elt Ideal) (e' := .bf16) G _⟩, ⟨Rect.unit ![0, 768] ![256, 256] inb_S256x2816_S256x256_0_768, View.ld (Val := Elt Ideal) (e' := .bf16) G _⟩, ⟨Rect.unit ![0, 512] ![256, 256] inb_S256x2816_S256x256_0_512, View.ld (Val := Elt Ideal) (e' := .bf16) G _⟩, ⟨Rect.unit ![0, 256] ![256, 256] inb_S256x2816_S256x256_0_256, View.ld (Val := Elt Ideal) (e' := .bf16) G _⟩, ⟨Rect.unit ![0, 0] ![256, 256] inb_S256x2816_S256x256_0_0, View.ld (Val := Elt Ideal) (e' := .bf16) G _⟩]
        (Rect.unit ![0, 0] ![256, 2816] inb_S256x2816_S256x2816_0_0).toLoadRect = G := by
  rw [readCov_eq v G _ _ (by repeat' (first | exact agree_nil _ | apply agree_cons))]
  · exact View.ld_unit_lit inb_S256x2816_S256x2816_0_0 G (by intro a; fin_cases a <;> rfl)
  intro x
  have e0 : ((Rect.unit (s := S256x2816) ![0, 0] ![256, 2816] inb_S256x2816_S256x2816_0_0).emb x 0).val = 0 + (x 0).val := Rect.idx_unit_val _ _ _ x 0
  have e1 : ((Rect.unit (s := S256x2816) ![0, 0] ![256, 2816] inb_S256x2816_S256x2816_0_0).emb x 1).val = 0 + (x 1).val := Rect.idx_unit_val _ _ _ x 1
  have l0 : (x 0).val < 256 := (x 0).isLt
  have l1 : (x 1).val < 2816 := (x 1).isLt
  generalize (Rect.unit (s := S256x2816) ![0, 0] ![256, 2816] inb_S256x2816_S256x2816_0_0).emb x = y at e0 e1 ⊢
  by_cases h10 : 2560 ≤ (x 1).val
  · exact (has_here _ _ _).cover (Rect.mem_set_unit.mpr (Fin.forall_fin_two.mpr ⟨⟨by simp <;> omega, by simp <;> omega⟩, ⟨by simp <;> omega, by simp <;> omega⟩⟩))
  by_cases h9 : 2304 ≤ (x 1).val
  · exact (has_there _ _ _ (has_here _ _ _)).cover (Rect.mem_set_unit.mpr (Fin.forall_fin_two.mpr ⟨⟨by simp <;> omega, by simp <;> omega⟩, ⟨by simp <;> omega, by simp <;> omega⟩⟩))
  by_cases h8 : 2048 ≤ (x 1).val
  · exact (has_there _ _ _ (has_there _ _ _ (has_here _ _ _))).cover (Rect.mem_set_unit.mpr (Fin.forall_fin_two.mpr ⟨⟨by simp <;> omega, by simp <;> omega⟩, ⟨by simp <;> omega, by simp <;> omega⟩⟩))
  by_cases h7 : 1792 ≤ (x 1).val
  · exact (has_there _ _ _ (has_there _ _ _ (has_there _ _ _ (has_here _ _ _)))).cover (Rect.mem_set_unit.mpr (Fin.forall_fin_two.mpr ⟨⟨by simp <;> omega, by simp <;> omega⟩, ⟨by simp <;> omega, by simp <;> omega⟩⟩))
  by_cases h6 : 1536 ≤ (x 1).val
  · exact (has_there _ _ _ (has_there _ _ _ (has_there _ _ _ (has_there _ _ _ (has_here _ _ _))))).cover (Rect.mem_set_unit.mpr (Fin.forall_fin_two.mpr ⟨⟨by simp <;> omega, by simp <;> omega⟩, ⟨by simp <;> omega, by simp <;> omega⟩⟩))
  by_cases h5 : 1280 ≤ (x 1).val
  · exact (has_there _ _ _ (has_there _ _ _ (has_there _ _ _ (has_there _ _ _ (has_there _ _ _ (has_here _ _ _)))))).cover (Rect.mem_set_unit.mpr (Fin.forall_fin_two.mpr ⟨⟨by simp <;> omega, by simp <;> omega⟩, ⟨by simp <;> omega, by simp <;> omega⟩⟩))
  by_cases h4 : 1024 ≤ (x 1).val
  · exact (has_there _ _ _ (has_there _ _ _ (has_there _ _ _ (has_there _ _ _ (has_there _ _ _ (has_there _ _ _ (has_here _ _ _))))))).cover (Rect.mem_set_unit.mpr (Fin.forall_fin_two.mpr ⟨⟨by simp <;> omega, by simp <;> omega⟩, ⟨by simp <;> omega, by simp <;> omega⟩⟩))
  by_cases h3 : 768 ≤ (x 1).val
  · exact (has_there _ _ _ (has_there _ _ _ (has_there _ _ _ (has_there _ _ _ (has_there _ _ _ (has_there _ _ _ (has_there _ _ _ (has_here _ _ _)))))))).cover (Rect.mem_set_unit.mpr (Fin.forall_fin_two.mpr ⟨⟨by simp <;> omega, by simp <;> omega⟩, ⟨by simp <;> omega, by simp <;> omega⟩⟩))
  by_cases h2 : 512 ≤ (x 1).val
  · exact (has_there _ _ _ (has_there _ _ _ (has_there _ _ _ (has_there _ _ _ (has_there _ _ _ (has_there _ _ _ (has_there _ _ _ (has_there _ _ _ (has_here _ _ _))))))))).cover (Rect.mem_set_unit.mpr (Fin.forall_fin_two.mpr ⟨⟨by simp <;> omega, by simp <;> omega⟩, ⟨by simp <;> omega, by simp <;> omega⟩⟩))
  by_cases h1 : 256 ≤ (x 1).val
  · exact (has_there _ _ _ (has_there _ _ _ (has_there _ _ _ (has_there _ _ _ (has_there _ _ _ (has_there _ _ _ (has_there _ _ _ (has_there _ _ _ (has_there _ _ _ (has_here _ _ _)))))))))).cover (Rect.mem_set_unit.mpr (Fin.forall_fin_two.mpr ⟨⟨by simp <;> omega, by simp <;> omega⟩, ⟨by simp <;> omega, by simp <;> omega⟩⟩))
  · exact (has_there _ _ _ (has_there _ _ _ (has_there _ _ _ (has_there _ _ _ (has_there _ _ _ (has_there _ _ _ (has_there _ _ _ (has_there _ _ _ (has_there _ _ _ (has_there _ _ _ (has_here _ _ _))))))))))).cover (Rect.mem_set_unit.mpr (Fin.forall_fin_two.mpr ⟨⟨by simp <;> omega, by simp <;> omega⟩, ⟨by simp <;> omega, by simp <;> omega⟩⟩))

end Loads

variable (m : (ℓ : Loc nD τ sig) → Buf (Elt Ideal) ℓ)

/-- The modulated block of point `t`. -/
def mod (c : Dev nD) (t : Fin cfg0.N) : FVec Ideal S256x1024 .bf16 := k0_pay4 (iblk m c 0 t) (iblk m c 2 t) (iblk m c 1 t)

/-- The result block of point `t` over the 64 rows `p` on top of its gate rows. -/
def outY (c : Dev nD) (t : Fin cfg0.N) (p : Vec Ideal S64x2816 .f32) : Vec Ideal S1x256x1024 .f32 :=
  k0_pay60 (k0_pay59 (k0_pay3 (iblk m c 0 t))
    (act (mod m c t) (iblk m c 5 t) (rows (mod m c t) (iblk m c 5 t) p) (iblk m c 6 t) (iblk m c 7 t)) (iblk m c 8 t) (iblk m c 3 t))
    (iblk m c 9 t) (iblk m c 10 t)

theorem rows_top (H : FVec Ideal S256x1024 .bf16) (w : Vec Ideal S1024x5632 .bf16) (p : Vec Ideal S64x2816 .f32) (y : S320x2816.Idx)
    (hy : (y 0).val < 64) : rows H w p y = p (ix2 ⟨(y 0).val, hy⟩ ⟨(y 1).val, (y 1).isLt⟩) := dif_pos hy

/-- The rows of the state are the top of the block they stand on. -/
theorem top_piece (H : FVec Ideal S256x1024 .bf16) (w : Vec Ideal S1024x5632 .bf16) (p : Vec Ideal S64x2816 .f32) :
    (⟨Rect.unit ![0, 0] ![64, 2816] inb_S320x2816_S64x2816_0_0, p⟩ : View.Piece (Elt Ideal) S320x2816 .f32)
      = ⟨Rect.unit ![0, 0] ![64, 2816] inb_S320x2816_S64x2816_0_0, View.ld (Val := Elt Ideal) (e' := .f32) (rows H w p) _⟩ := by
  congr 1
  funext x
  obtain ⟨r, j, rfl⟩ : ∃ (r : Fin 64) (j : Fin 2816), x = ix2 r j := ⟨x 0, x 1, eq_ix2 x⟩
  rw [View.ld_unit_apply_of _ _ _ _ _ (ix2 (n0 := 320) (n1 := 2816) ⟨r.val, by omega⟩ j) (by intro a; fin_cases a <;> simp <;> rfl)]
  exact (rows_top H w p (ix2 (n0 := 320) (n1 := 2816) ⟨r.val, by omega⟩ j) r.isLt).symm

theorem point (c : Dev nD) (t : Fin cfg0.N) : (outsAt0 m c t).1 = outY m c t (k0_pay2 (iblk m c 4 t)) := by
  unfold outsAt0
  frame_out
  unfold outY mod
  set x0 := iblk m c 0 t
  set x1 := iblk m c 1 t
  set x2 := iblk m c 2 t
  set w := iblk m c 5 t
  set f := iblk m c 6 t
  set b := iblk m c 7 t
  set q := k0_pay2 (iblk m c 4 t) with hq
  have hA := top_piece (k0_pay4 x0 x2 x1) w q
  simp only [gate0 w q x0 x1 x2, gate1 (k0_pay4 x0 x2 x1) w q, gate2 (k0_pay4 x0 x2 x1) w q, gate3 (k0_pay4 x0 x2 x1) w q, gate4 (k0_pay4 x0 x2 x1) w q, gate5 (k0_pay4 x0 x2 x1) w q, gate6 (k0_pay4 x0 x2 x1) w q, gate7 (k0_pay4 x0 x2 x1) w q, gate8 (k0_pay4 x0 x2 x1) w q, gate9 (k0_pay4 x0 x2 x1) w q, gate10 (k0_pay4 x0 x2 x1) w q, hA]
  simp (disch := (repeat' (first | exact agree_nil _ | apply agree_cons | exact has_here _ _ _ | apply has_there | decide))) only [load_cov _ (rows (k0_pay4 x0 x2 x1) w q)]
  simp only [act0 w q f b x0 x1 x2, act1 (k0_pay4 x0 x2 x1) w q f b, act2 (k0_pay4 x0 x2 x1) w q f b, act3 (k0_pay4 x0 x2 x1) w q f b, act4 (k0_pay4 x0 x2 x1) w q f b, act5 (k0_pay4 x0 x2 x1) w q f b, act6 (k0_pay4 x0 x2 x1) w q f b, act7 (k0_pay4 x0 x2 x1) w q f b, act8 (k0_pay4 x0 x2 x1) w q f b, act9 (k0_pay4 x0 x2 x1) w q f b, act10 (k0_pay4 x0 x2 x1) w q f b]
  rw [load_act]

/-- The second result block holds the last 64 rows of the gate. -/
theorem point_state (c : Dev nD) (t : Fin cfg0.N) (r : Fin 64) (j : Fin 2816) :
    (outsAt0 m c t).2 (ix3 0 r j) = proj (mod m c t) (iblk m c 5 t) ⟨192 + r.val, by omega⟩ ⟨2816 + j.val, by omega⟩ := by
  have e : (ix2 (n0 := 320) (n1 := 2816) ⟨256 + r.val, by omega⟩ j) = ix2 ⟨64 + (192 + r.val), by omega⟩ j := by
    congr 1; exact Fin.ext (by dsimp only; omega)
  unfold mod
  unfold outsAt0
  frame_out
  set x0 := iblk m c 0 t
  set x1 := iblk m c 1 t
  set x2 := iblk m c 2 t
  set w := iblk m c 5 t
  set f := iblk m c 6 t
  set b := iblk m c 7 t
  have hA := top_piece (k0_pay4 x0 x2 x1) w (k0_pay2 (iblk m c 4 t))
  simp only [gate0 w (k0_pay2 (iblk m c 4 t)) x0 x1 x2, gate1 (k0_pay4 x0 x2 x1) w (k0_pay2 (iblk m c 4 t)), gate2 (k0_pay4 x0 x2 x1) w (k0_pay2 (iblk m c 4 t)), gate3 (k0_pay4 x0 x2 x1) w (k0_pay2 (iblk m c 4 t)), gate4 (k0_pay4 x0 x2 x1) w (k0_pay2 (iblk m c 4 t)), gate5 (k0_pay4 x0 x2 x1) w (k0_pay2 (iblk m c 4 t)), gate6 (k0_pay4 x0 x2 x1) w (k0_pay2 (iblk m c 4 t)), gate7 (k0_pay4 x0 x2 x1) w (k0_pay2 (iblk m c 4 t)), gate8 (k0_pay4 x0 x2 x1) w (k0_pay2 (iblk m c 4 t)), gate9 (k0_pay4 x0 x2 x1) w (k0_pay2 (iblk m c 4 t)), gate10 (k0_pay4 x0 x2 x1) w (k0_pay2 (iblk m c 4 t)), hA]
  rw [load_last _ (rows (k0_pay4 x0 x2 x1) w (k0_pay2 (iblk m c 4 t))) _ (agree_cons _ _ _ (agree_nil _))]
  pointwise [k0_pay61]
  rw [e]
  exact rows_low _ _ _ _ _ _ _ rfl rfl

end Cert.Kernel4Ideal.SFfn
end
-- ==== Proof.SFHost.lean ====
module

public import proofs.«01_k».proof.Defs
public import proofs.«01_k».proof.Proof.SBlock
public import Idealize.ShloMosaic.Lib.Pipeline.ValueKit
public import Idealize.ShloMosaic.Lib.Claim
public import Idealize.ShloMosaic.Lib.Pointwise

/-! The operands which the host lays out for the feed-forward of the sample, and its blocks. -/

@[expose] public section
set_option maxRecDepth 16384
noncomputable section
open Idealize.ShloMosaic Idealize.ShloMosaic.TcCoe Idealize.SL.Sem
open Idealize.ShloMosaic.Pipeline (Dat)
namespace Cert.Kernel4Ideal.SFfn
open Cert.Kernel4Ideal Cert.Kernel4Ideal.Gen

variable (m : (ℓ : Loc nD τ sig) → Buf (Elt Ideal) ℓ) (c : Dev nD) (t : Fin cfg0.N)

/-- Every window's block is its whole array. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0, 0] ∧ win0_12.index t = ![0, 0, 0] :=
  (by decide +kernel : ∀ t : Fin grid0.N, _)

/-- The sequence of a row of the time-major listing. -/
def bat (r : Fin 256) : Fin 32 := ⟨r.val % 32, by omega⟩

/-- The token of a row of the time-major listing. -/
def tok (r : Fin 256) : Fin 8 := ⟨r.val / 32, by omega⟩

theorem cast_rows (v : S256x1024.Idx → EReal) (r : Fin 256) (k : Fin 1024) :
    shapeCast S1x256x1024 v shapeCasts_S256x1024_S1x256x1024 (ix3 0 r k) = v (ix2 r k) := by
  pointwise

theorem cast_time (v : S8x32x1x1024.Idx → EReal) (r : Fin 256) (k : Fin 1024) :
    shapeCast S256x1024 v shapeCasts_S8x32x1x1024_S256x1024 (ix2 r k) = v (ix4 (tok r) (bat r) 0 k) := by
  unfold tok bat
  pointwise

theorem cast_spread (v : S32x1024.Idx → EReal) (s : Fin 8) (b : Fin 32) (k : Fin 1024) :
    broadcastInDim S8x32x1x1024 ![0, 1, 2, 3] bcast_S1x32x1x1024_S8x32x1x1024_0_1_2_3 (shapeCast S1x32x1x1024 v shapeCasts_S32x1024_S1x32x1x1024) (ix4 s b 0 k)
      = v (ix2 b k) := by
  pointwise

theorem x_at (r : Fin 256) (k : Fin 1024) : iblk m c 0 t (ix3 0 r k) = m ((c : Thread nD τ).loc main_arg0) (ix3 0 r k) := by
  blk_point [iblk, V, idx t]

theorem V_v8 : V m c main_v8 = shapeCast S1x256x1024 (shapeCast S256x1024 (broadcastInDim S8x32x1x1024 ![0, 1, 2, 3] bcast_S1x32x1x1024_S8x32x1x1024_0_1_2_3
    (shapeCast S1x32x1x1024 (m ((c : Thread nD τ).loc main_arg1)) shapeCasts_S32x1024_S1x32x1x1024)) shapeCasts_S8x32x1x1024_S256x1024) shapeCasts_S256x1024_S1x256x1024 := by
  show StableHlo.after (hostOps0 ++ []) (fun b => m (c, b)) (Proc.devRef .tc main_v8) = _
  simp only [List.cons_append, List.nil_append]
  after_results_simp
  rfl

theorem V_v8_at (r : Fin 256) (k : Fin 1024) : V m c main_v8 (ix3 0 r k) = m ((c : Thread nD τ).loc main_arg1) (ix2 (bat r) k) := by
  rw [V_v8, cast_rows, cast_time, cast_spread]

theorem sh_at (r : Fin 256) (k : Fin 1024) : iblk m c 1 t (ix3 0 r k) = m ((c : Thread nD τ).loc main_arg1) (ix2 (bat r) k) := by
  blk_simp [iblk]
  have e : ((cfg0.win 1).blk t).view.emb (ix3 0 r k) = ix3 0 r k := by
    blk_ext [idx t]
  refine Eq.trans ?_ (V_v8_at m c r k)
  exact congrArg (V m c main_v8) e

theorem V_v12 : V m c main_v12 = shapeCast S1x256x1024 (shapeCast S256x1024 (broadcastInDim S8x32x1x1024 ![0, 1, 2, 3] bcast_S1x32x1x1024_S8x32x1x1024_0_1_2_3
    (shapeCast S1x32x1x1024 (m ((c : Thread nD τ).loc main_arg2)) shapeCasts_S32x1024_S1x32x1x1024)) shapeCasts_S8x32x1x1024_S256x1024) shapeCasts_S256x1024_S1x256x1024 := by
  show StableHlo.after (hostOps0 ++ []) (fun b => m (c, b)) (Proc.devRef .tc main_v12) = _
  simp only [List.cons_append, List.nil_append]
  after_results_simp
  rfl

theorem V_v12_at (r : Fin 256) (k : Fin 1024) : V m c main_v12 (ix3 0 r k) = m ((c : Thread nD τ).loc main_arg2) (ix2 (bat r) k) := by
  rw [V_v12, cast_rows, cast_time, cast_spread]

theorem sc_at (r : Fin 256) (k : Fin 1024) : iblk m c 2 t (ix3 0 r k) = m ((c : Thread nD τ).loc main_arg2) (ix2 (bat r) k) := by
  blk_simp [iblk]
  have e : ((cfg0.win 2).blk t).view.emb (ix3 0 r k) = ix3 0 r k := by
    blk_ext [idx t]
  refine Eq.trans ?_ (V_v12_at m c r k)
  exact congrArg (V m c main_v12) e

theorem V_v16 : V m c main_v16 = shapeCast S1x256x1024 (shapeCast S256x1024 (broadcastInDim S8x32x1x1024 ![0, 1, 2, 3] bcast_S1x32x1x1024_S8x32x1x1024_0_1_2_3
    (shapeCast S1x32x1x1024 (m ((c : Thread nD τ).loc main_arg3)) shapeCasts_S32x1024_S1x32x1x1024)) shapeCasts_S8x32x1x1024_S256x1024) shapeCasts_S256x1024_S1x256x1024 := by
  show StableHlo.after (hostOps0 ++ []) (fun b => m (c, b)) (Proc.devRef .tc main_v16) = _
  simp only [List.cons_append, List.nil_append]
  after_results_simp
  rfl

theorem V_v16_at (r : Fin 256) (k : Fin 1024) : V m c main_v16 (ix3 0 r k) = m ((c : Thread nD τ).loc main_arg3) (ix2 (bat r) k) := by
  rw [V_v16, cast_rows, cast_time, cast_spread]

theorem g2_at (r : Fin 256) (k : Fin 1024) : iblk m c 3 t (ix3 0 r k) = m ((c : Thread nD τ).loc main_arg3) (ix2 (bat r) k) := by
  blk_simp [iblk]
  have e : ((cfg0.win 3).blk t).view.emb (ix3 0 r k) = ix3 0 r k := by
    blk_ext [idx t]
  refine Eq.trans ?_ (V_v16_at m c r k)
  exact congrArg (V m c main_v16) e

theorem V_v18 : V m c main_v18 = shapeCast S1x64x2816 (transpose S2x32x2816 [1, 0, 2] (m ((c : Thread nD τ).loc main_arg4)) transposes_S32x2x2816_S2x32x2816_1_0_2) shapeCasts_S2x32x2816_S1x64x2816 := by
  show StableHlo.after (hostOps0 ++ []) (fun b => m (c, b)) (Proc.devRef .tc main_v18) = _
  simp only [List.cons_append, List.nil_append]
  after_results_simp
  rfl

theorem V_v18_at (r : Fin 64) (j : Fin 2816) : V m c main_v18 (ix3 0 r j)
    = m ((c : Thread nD τ).loc main_arg4) (ix3 ⟨r.val % 32, by omega⟩ ⟨r.val / 32, by omega⟩ j) := by
  rw [V_v18]
  pointwise

theorem halo_at (r : Fin 64) (j : Fin 2816) : iblk m c 4 t (ix3 0 r j)
    = m ((c : Thread nD τ).loc main_arg4) (ix3 ⟨r.val % 32, by omega⟩ ⟨r.val / 32, by omega⟩ j) := by
  blk_simp [iblk]
  have e : ((cfg0.win 4).blk t).view.emb (ix3 0 r j) = ix3 0 r j := by
    blk_ext [idx t]
  refine Eq.trans ?_ (V_v18_at m c r j)
  exact congrArg (V m c main_v18) e

theorem up_at (k : Fin 1024) (j : Fin 5632) : iblk m c 5 t (ix2 k j) = m ((c : Thread nD τ).loc main_arg5) (ix2 k j) := by
  blk_point [iblk, idx t]

theorem dw_at (k : Fin 3) (j : Fin 2816) : iblk m c 6 t (ix2 k j) = m ((c : Thread nD τ).loc main_arg6) (ix2 k j) := by
  blk_point [iblk, V, idx t]

theorem V_v1 : V m c main_v1 = shapeCast S1x2816 (m ((c : Thread nD τ).loc main_arg7)) shapeCasts_S2816_S1x2816 := by
  show StableHlo.after (hostOps0 ++ []) (fun b => m (c, b)) (Proc.devRef .tc main_v1) = _
  simp only [List.cons_append, List.nil_append]
  after_results_simp
  rfl

theorem V_v1_at (j : Fin 2816) : V m c main_v1 (ix2 0 j) = m ((c : Thread nD τ).loc main_arg7) (ix1 j) := by
  rw [V_v1]
  pointwise

theorem bias_at (j : Fin 2816) : iblk m c 7 t (ix2 0 j) = m ((c : Thread nD τ).loc main_arg7) (ix1 j) := by
  blk_simp [iblk]
  have e : ((cfg0.win 7).blk t).view.emb (ix2 0 j) = ix2 0 j := by
    blk_ext [idx t]
  refine Eq.trans ?_ (V_v1_at m c j)
  exact congrArg (V m c main_v1) e

theorem down_at (j : Fin 2816) (n : Fin 1024) : iblk m c 8 t (ix2 j n) = m ((c : Thread nD τ).loc main_arg8) (ix2 j n) := by
  blk_point [iblk, idx t]

theorem V_v3 : V m c main_v3 = shapeCast S1x1024 (m ((c : Thread nD τ).loc main_arg9)) shapeCasts_S1024_S1x1024 := by
  show StableHlo.after (hostOps0 ++ []) (fun b => m (c, b)) (Proc.devRef .tc main_v3) = _
  simp only [List.cons_append, List.nil_append]
  after_results_simp
  rfl

theorem V_v3_at (n : Fin 1024) : V m c main_v3 (ix2 0 n) = m ((c : Thread nD τ).loc main_arg9) (ix1 n) := by
  rw [V_v3]
  pointwise

theorem gain_at (n : Fin 1024) : iblk m c 9 t (ix2 0 n) = m ((c : Thread nD τ).loc main_arg9) (ix1 n) := by
  blk_simp [iblk]
  have e : ((cfg0.win 9).blk t).view.emb (ix2 0 n) = ix2 0 n := by
    blk_ext [idx t]
  refine Eq.trans ?_ (V_v3_at m c n)
  exact congrArg (V m c main_v3) e

theorem V_v4 : V m c main_v4 = shapeCast S1x1024 (m ((c : Thread nD τ).loc main_arg10)) shapeCasts_S1024_S1x1024 := by
  show StableHlo.after (hostOps0 ++ []) (fun b => m (c, b)) (Proc.devRef .tc main_v4) = _
  simp only [List.cons_append, List.nil_append]
  after_results_simp
  rfl

theorem V_v4_at (n : Fin 1024) : V m c main_v4 (ix2 0 n) = m ((c : Thread nD τ).loc main_arg10) (ix1 n) := by
  rw [V_v4]
  pointwise

theorem offset_at (n : Fin 1024) : iblk m c 10 t (ix2 0 n) = m ((c : Thread nD τ).loc main_arg10) (ix1 n) := by
  blk_simp [iblk]
  have e : ((cfg0.win 10).blk t).view.emb (ix2 0 n) = ix2 0 n := by
    blk_ext [idx t]
  refine Eq.trans ?_ (V_v4_at m c n)
  exact congrArg (V m c main_v4) e

/-- No two windows stand over one array. -/
theorem hinj : Function.Injective (Pipeline.arrRef (cfgs 0).spec) := by
  decide

/-- What the host lines after the call leave in a buffer. -/
abbrev tail (b : Ref sig .tc) : Buf (Elt Ideal) ((c : Thread nD τ).loc b) := Pipeline.afterTail₀ cfgs (dats m) 0 (V0 m) [hostOps1] c b

theorem tail_out_eq : tail m c main_v21 = transpose S32x8x1024 [1, 0, 2] (shapeCast S8x32x1024 ((dats m 0 c).arrAt 11 (cfgs 0).N) shapeCasts_S1x256x1024_S8x32x1024)
    transposes_S8x32x1024_S32x8x1024_1_0_2 := by
  show StableHlo.after (hostOps1 ++ []) (Pipeline.withArrays (cfgs 0).spec c (V0 m c) fun w => (dats m 0 c).arrAt w (cfgs 0).N) (Proc.devRef .tc main_v21) = _
  simp only [List.cons_append, List.nil_append]
  after_results_simp
  rw [show Pipeline.withArrays (cfgs 0).spec c (V0 m c) (fun w => (dats m 0 c).arrAt w (cfgs 0).N) (Proc.devRef .tc main_v19_0) = (dats m 0 c).arrAt 11 (cfgs 0).N from
    Pipeline.withArrays_arr (cfgs 0).spec hinj c _ _ 11]
  rfl

theorem tail_state_eq : tail m c main_v23 = transpose S32x2x2816 [1, 0, 2] (shapeCast S2x32x2816 ((dats m 0 c).arrAt 12 (cfgs 0).N) shapeCasts_S1x64x2816_S2x32x2816)
    transposes_S2x32x2816_S32x2x2816_1_0_2 := by
  show StableHlo.after (hostOps1 ++ []) (Pipeline.withArrays (cfgs 0).spec c (V0 m c) fun w => (dats m 0 c).arrAt w (cfgs 0).N) (Proc.devRef .tc main_v23) = _
  simp only [List.cons_append, List.nil_append]
  after_results_simp
  rw [show Pipeline.withArrays (cfgs 0).spec c (V0 m c) (fun w => (dats m 0 c).arrAt w (cfgs 0).N) (Proc.devRef .tc main_v19_1) = (dats m 0 c).arrAt 12 (cfgs 0).N from
    Pipeline.withArrays_arr (cfgs 0).spec hinj c _ _ 12]
  rfl

end Cert.Kernel4Ideal.SFfn
end
-- ==== Proof.SFfnRef.lean ====
module

public import proofs.«01_k».proof.Defs
public import proofs.«01_k».proof.Proof.Gen.Reference4Ideal.Read
public import Idealize.ShloMosaic.Lib.Pointwise

/-! The stages of the reference feed-forward of the sample, read at an index. -/

@[expose] public section
set_option maxRecDepth 16384
noncomputable section
open Idealize.ShloMosaic Idealize.ShloMosaic.TcCoe Idealize.SL.Sem
namespace Cert.Reference4Ideal.SFfn
open Cert.Reference4Ideal Cert.Reference4Ideal.Read

variable (a0 : (⟨S1x256x1024, .f32⟩ : BufTy).Contents (Elt Ideal)) (a1 a2 a3 : (⟨S32x1024, .f32⟩ : BufTy).Contents (Elt Ideal))
  (a4 : (⟨S32x2x2816, .f32⟩ : BufTy).Contents (Elt Ideal)) (a5 : (⟨S1024x5632, .f32⟩ : BufTy).Contents (Elt Ideal))
  (a6 : (⟨S3x2816, .f32⟩ : BufTy).Contents (Elt Ideal)) (a7 : (⟨S2816, .f32⟩ : BufTy).Contents (Elt Ideal))
  (a8 : (⟨S2816x1024, .f32⟩ : BufTy).Contents (Elt Ideal)) (a9 a10 : (⟨S1024, .f32⟩ : BufTy).Contents (Elt Ideal))

theorem x_at (b : Fin 32) (t : Fin 8) (k : Fin 1024) :
    val_main_v1 (F := Ideal) a0 (ix3 b t k) = a0 (ix3 0 ⟨t.val * 32 + b.val, by omega⟩ k) := by
  pointwise [val_main_v1, val_main_v0]

theorem mod_at (b : Fin 32) (t : Fin 8) (k : Fin 1024) :
    val_main_v9 (F := Ideal) a0 a1 a2 (ix3 b t k) = val_main_v1 (F := Ideal) a0 (ix3 b t k) * (1 + a2 (ix2 b k)) + a1 (ix2 b k) := by
  pointwise [val_main_v9, val_main_v8, val_main_v7, val_main_v6, val_main_v5, val_main_v4, val_main_v3, val_main_v2, val_main_cst]

theorem up_at (b : Fin 32) (t : Fin 8) (j : Fin 5632) :
    val_main_v10 (F := Ideal) a0 a1 a2 a5 (ix3 b t j) = ∑ k : Fin 1024, val_main_v9 (F := Ideal) a0 a1 a2 (ix3 b t k) * a5 (ix2 k j) := by
  pointwise [val_main_v10]

theorem val_at (b : Fin 32) (t : Fin 8) (j : Fin 2816) :
    val_main_v11 (F := Ideal) a0 a1 a2 a5 (ix3 b t j) = val_main_v10 (F := Ideal) a0 a1 a2 a5 (ix3 b t ⟨j.val, by omega⟩) := by
  pointwise [val_main_v11]

theorem gate_at (b : Fin 32) (t : Fin 8) (j : Fin 2816) :
    val_main_v12 (F := Ideal) a0 a1 a2 a5 (ix3 b t j) = val_main_v10 (F := Ideal) a0 a1 a2 a5 (ix3 b t ⟨2816 + j.val, by omega⟩) := by
  pointwise [val_main_v12]

theorem joined_at (b : Fin 32) (t : Fin 10) (j : Fin 2816) :
    val_main_v13 (F := Ideal) a0 a1 a2 a4 a5 (ix3 b t j)
      = if h : t.val < 2 then a4 (ix3 b ⟨t.val, h⟩ j) else val_main_v12 (F := Ideal) a0 a1 a2 a5 (ix3 b ⟨t.val - 2, by omega⟩ j) := by
  pointwise [val_main_v13]

theorem conv_at (b : Fin 32) (t : Fin 8) (j : Fin 2816) :
    val_main_v38 (F := Ideal) a0 a1 a2 a4 a5 a6 a7 (ix3 b t j)
      = a6 (ix2 0 j) * val_main_v13 (F := Ideal) a0 a1 a2 a4 a5 (ix3 b ⟨t.val, by omega⟩ j)
        + a6 (ix2 1 j) * val_main_v13 (F := Ideal) a0 a1 a2 a4 a5 (ix3 b ⟨1 + t.val, by omega⟩ j)
        + a6 (ix2 2 j) * val_main_v13 (F := Ideal) a0 a1 a2 a4 a5 (ix3 b ⟨2 + t.val, by omega⟩ j) + a7 (ix1 j) := by
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_v18, val_main_v17, val_main_v16, val_main_v15, val_main_v14, val_main_cst_0]
  simp only [mul_comm]

theorem act_at (b : Fin 32) (t : Fin 8) (j : Fin 2816) :
    val_main_v46 (F := Ideal) a0 a1 a2 a4 a5 a6 a7 (ix3 b t j)
      = Ideal.ofBits .f32 0x3F000000#32 * val_main_v38 (F := Ideal) a0 a1 a2 a4 a5 a6 a7 (ix3 b t j)
        * (1 + Ideal.erf (val_main_v38 (F := Ideal) a0 a1 a2 a4 a5 a6 a7 (ix3 b t j) * Ideal.ofBits .f32 0x3F3504F3#32))
        * val_main_v11 (F := Ideal) a0 a1 a2 a5 (ix3 b t j) := by
  pointwise [val_main_v46, val_main_v45, val_main_v44, val_main_v43, val_main_v42, val_main_v41, val_main_v40, val_main_v39, val_main_cst_1, val_main_cst_2]
  simp only [neg_mul, Ideal.erfc_neg]

theorem res_at (b : Fin 32) (t : Fin 8) (n : Fin 1024) :
    val_main_v55 (F := Ideal) a0 a1 a2 a3 a4 a5 a6 a7 a8 (ix3 b t n)
      = Ideal.ofBits .f32 0x3F9837F0#32 * val_main_v1 (F := Ideal) a0 (ix3 b t n)
        + (1 + a3 (ix2 b n)) * ∑ j : Fin 2816, val_main_v46 (F := Ideal) a0 a1 a2 a4 a5 a6 a7 (ix3 b t j) * a8 (ix2 j n) := by
  pointwise [val_main_v55, val_main_v54, val_main_v53, val_main_v52, val_main_v51, val_main_v50, val_main_v49, val_main_v48, val_main_v47, val_main_cst_3, val_main_cst_4]

/-- The mean of a row. -/
def mean (g : Fin 1024 → EReal) : EReal := Ideal.div (∑ x, g x) (Ideal.ofBits .f32 0x44800000#32)

/-- A normalised row, times a gain, plus an offset. -/
def norm (g : Fin 1024 → EReal) (x y : EReal) (n : Fin 1024) : EReal :=
  (g n - mean g) * Ideal.rsqrt (mean (fun x => (g x - mean g) * (g x - mean g)) + Ideal.ofBits .f32 0x3727C5AC#32) * x + y

theorem out_at (b : Fin 32) (t : Fin 8) (n : Fin 1024) :
    val_main_v79 (F := Ideal) a0 a1 a2 a3 a4 a5 a6 a7 a8 a9 a10 (ix3 b t n)
      = norm (fun n => val_main_v55 (F := Ideal) a0 a1 a2 a3 a4 a5 a6 a7 a8 (ix3 b t n)) (a9 (ix1 n)) (a10 (ix1 n)) n := by
  pointwise [val_main_v79, val_main_v78, val_main_v77, val_main_v76, val_main_v75, val_main_v74, val_main_v73, val_main_v72, val_main_v71,
    val_main_v70, val_main_v69, val_main_v68, val_main_v67, val_main_v66, val_main_v65, val_main_v64, val_main_v63, val_main_v62, val_main_v61,
    val_main_v60, val_main_v59, val_main_v58, val_main_v57, val_main_v56, val_main_cst_5, val_main_cst_6, val_main_cst_7, val_main_cst_8, val_main_cst_9]
  rfl

theorem state_at (b : Fin 32) (s : Fin 2) (j : Fin 2816) :
    val_main_v80 (F := Ideal) a0 a1 a2 a4 a5 (ix3 b s j) = val_main_v12 (F := Ideal) a0 a1 a2 a5 (ix3 b ⟨6 + s.val, by omega⟩ j) := by
  have e : val_main_v80 (F := Ideal) a0 a1 a2 a4 a5 (ix3 b s j) = val_main_v13 (F := Ideal) a0 a1 a2 a4 a5 (ix3 b ⟨8 + s.val, by omega⟩ j) := by
    pointwise [val_main_v80]
  rw [e, joined_at, dif_neg (by show ¬ 8 + s.val < 2; omega)]
  exact congrArg (fun z => val_main_v12 (F := Ideal) a0 a1 a2 a5 (ix3 b z j)) (Fin.ext (by show 8 + s.val - 2 = 6 + s.val; omega))

end Cert.Reference4Ideal.SFfn
end
-- ==== Proof.SFinal.lean ====
module

public import proofs.«01_k».proof.Proof.SFHost
public import proofs.«01_k».proof.Proof.SFfnRef
public import Idealize.ShloMosaic.Lib.Pointwise

/-! The two results of the feed-forward of the sample are the reference's. -/

@[expose] public section
set_option maxRecDepth 16384
noncomputable section
open Idealize.ShloMosaic Idealize.ShloMosaic.TcCoe Idealize.SL.Sem
open Idealize.ShloMosaic.Pipeline (Dat)
namespace Cert.Kernel4Ideal.SFfn
open Cert.Kernel4Ideal Cert.Kernel4Ideal.Gen
open Cert.Reference4Ideal.Read

variable (m : (ℓ : Loc nD τ sig) → Buf (Elt Ideal) ℓ) (c : Dev nD) (t : Fin cfg0.N)

/-- The reference's stream, by sequence and token. -/
def M1 (b : Fin 32) (s : Fin 8) (k : Fin 1024) : EReal := val_main_v1 (F := Ideal) (m ((c : Thread nD τ).loc main_arg0)) (ix3 b s k)
/-- The reference's modulated input. -/
def M9 (b : Fin 32) (s : Fin 8) (k : Fin 1024) : EReal := val_main_v9 (F := Ideal) (m ((c : Thread nD τ).loc main_arg0))
  (m ((c : Thread nD τ).loc main_arg1)) (m ((c : Thread nD τ).loc main_arg2)) (ix3 b s k)
/-- Its product with the first weight. -/
def M10 (b : Fin 32) (s : Fin 8) (j : Fin 5632) : EReal := val_main_v10 (F := Ideal) (m ((c : Thread nD τ).loc main_arg0))
  (m ((c : Thread nD τ).loc main_arg1)) (m ((c : Thread nD τ).loc main_arg2)) (m ((c : Thread nD τ).loc main_arg5)) (ix3 b s j)
/-- The gate half after the two rows of the state. -/
def M13 (b : Fin 32) (s : Fin 10) (j : Fin 2816) : EReal := val_main_v13 (F := Ideal) (m ((c : Thread nD τ).loc main_arg0))
  (m ((c : Thread nD τ).loc main_arg1)) (m ((c : Thread nD τ).loc main_arg2)) (m ((c : Thread nD τ).loc main_arg4))
  (m ((c : Thread nD τ).loc main_arg5)) (ix3 b s j)
/-- The convolved gate. -/
def M38 (b : Fin 32) (s : Fin 8) (j : Fin 2816) : EReal := val_main_v38 (F := Ideal) (m ((c : Thread nD τ).loc main_arg0))
  (m ((c : Thread nD τ).loc main_arg1)) (m ((c : Thread nD τ).loc main_arg2)) (m ((c : Thread nD τ).loc main_arg4))
  (m ((c : Thread nD τ).loc main_arg5)) (m ((c : Thread nD τ).loc main_arg6)) (m ((c : Thread nD τ).loc main_arg7)) (ix3 b s j)
/-- The activated product. -/
def M46 (b : Fin 32) (s : Fin 8) (j : Fin 2816) : EReal := val_main_v46 (F := Ideal) (m ((c : Thread nD τ).loc main_arg0))
  (m ((c : Thread nD τ).loc main_arg1)) (m ((c : Thread nD τ).loc main_arg2)) (m ((c : Thread nD τ).loc main_arg4))
  (m ((c : Thread nD τ).loc main_arg5)) (m ((c : Thread nD τ).loc main_arg6)) (m ((c : Thread nD τ).loc main_arg7)) (ix3 b s j)
/-- The residual sum. -/
def M55 (b : Fin 32) (s : Fin 8) (n : Fin 1024) : EReal := val_main_v55 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8)) (ix3 b s n)
/-- The normalised result. -/
def M79 (b : Fin 32) (s : Fin 8) (n : Fin 1024) : EReal := val_main_v79 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10)) (ix3 b s n)

theorem stream_eq (r : Fin 256) (k : Fin 1024) : iblk m c 0 t (ix3 0 r k) = M1 m c (bat r) (tok r) k := by
  unfold M1; rw [x_at, Cert.Reference4Ideal.SFfn.x_at]
  exact congrArg (fun z => m ((c : Thread nD τ).loc main_arg0) (ix3 0 z k)) (Fin.ext (by show r.val = r.val / 32 * 32 + r.val % 32; omega))

theorem mod_eq (r : Fin 256) (k : Fin 1024) : mod m c t (ix2 r k) = M9 m c (bat r) (tok r) k := by
  unfold M9; rw [Cert.Reference4Ideal.SFfn.mod_at]
  pointwise [mod, k0_pay4, k0_pay3]
  rw [stream_eq, sh_at, sc_at]
  rfl

theorem proj_eq (r : Fin 256) (j : Fin 5632) : proj (mod m c t) (iblk m c 5 t) r j = M10 m c (bat r) (tok r) j := by
  unfold M10; rw [Cert.Reference4Ideal.SFfn.up_at]
  unfold proj
  refine Finset.sum_congr rfl fun k _ => ?_
  rw [mod_eq, up_at]
  rfl

/-- The convolution's rows are the reference's joined gate. -/
theorem rows_eq (n : Fin 320) (j : Fin 2816) : rows (mod m c t) (iblk m c 5 t) (k0_pay2 (iblk m c 4 t)) (ix2 n j)
    = M13 m c ⟨n.val % 32, by omega⟩ ⟨n.val / 32, by omega⟩ j := by
  unfold M13; rw [Cert.Reference4Ideal.SFfn.joined_at]
  by_cases hn : n.val < 64
  · refine (dif_pos hn).trans ?_
    rw [dif_pos (by show n.val / 32 < 2; omega)]
    refine Eq.trans (b := iblk m c 4 t (ix3 0 ⟨n.val, hn⟩ j)) ?_ (halo_at m c t ⟨n.val, hn⟩ j)
    pointwise [k0_pay2]
  · refine (dif_neg hn).trans ?_
    rw [dif_neg (by show ¬ n.val / 32 < 2; omega), Cert.Reference4Ideal.SFfn.gate_at]
    refine (proj_eq m c t ⟨n.val - 64, by omega⟩ ⟨2816 + j.val, by omega⟩).trans ?_
    exact congrArg₂ (fun x y => M10 m c x y ⟨2816 + j.val, by omega⟩) (Fin.ext (by show (n.val - 64) % 32 = n.val % 32; omega))
      (Fin.ext (by show (n.val - 64) / 32 = n.val / 32 - 2; omega))

theorem conv_eq (r : Fin 256) (j : Fin 2816) :
    conv (rows (mod m c t) (iblk m c 5 t) (k0_pay2 (iblk m c 4 t))) (iblk m c 6 t) (iblk m c 7 t) r j = M38 m c (bat r) (tok r) j := by
  unfold M38; rw [Cert.Reference4Ideal.SFfn.conv_at]
  unfold conv
  rw [rows_eq, rows_eq, rows_eq, dw_at, dw_at, dw_at, bias_at]
  have q (s : ℕ) (hs : s ≤ 2) (n : Fin 320) (hn : n.val = r.val + 32 * s) (z : Fin 10) (hz : z.val = s + r.val / 32) :
      M13 m c ⟨n.val % 32, by omega⟩ ⟨n.val / 32, by omega⟩ j = M13 m c (bat r) z j :=
    congrArg₂ (fun x y => M13 m c x y j) (Fin.ext (by show n.val % 32 = r.val % 32; omega)) (Fin.ext (by rw [hz]; show n.val / 32 = _; omega))
  exact congrArg₂ _ (congrArg₂ _ (congrArg₂ _
    (congrArg (fun z : EReal => (_ : EReal) * z) (q 0 (by omega) ⟨r.val + 0, by omega⟩ rfl ⟨(tok r).val, by omega⟩ (by show r.val / 32 = _; omega)))
    (congrArg (fun z : EReal => (_ : EReal) * z) (q 1 (by omega) ⟨r.val + 32, by omega⟩ rfl ⟨1 + (tok r).val, by omega⟩ rfl)))
    (congrArg (fun z : EReal => (_ : EReal) * z) (q 2 (by omega) ⟨r.val + 64, by omega⟩ rfl ⟨2 + (tok r).val, by omega⟩ rfl))) rfl

theorem act_eq (r : Fin 256) (j : Fin 2816) :
    act (mod m c t) (iblk m c 5 t) (rows (mod m c t) (iblk m c 5 t) (k0_pay2 (iblk m c 4 t))) (iblk m c 6 t) (iblk m c 7 t) (ix2 r j)
      = M46 m c (bat r) (tok r) j := by
  unfold M46; rw [Cert.Reference4Ideal.SFfn.act_at, Cert.Reference4Ideal.SFfn.val_at]
  show gated (conv _ _ _ r j) (proj _ _ r ⟨j.val, _⟩) = _
  rw [conv_eq, proj_eq]
  rfl

theorem out_eq (r : Fin 256) (n : Fin 1024) : outY m c t (k0_pay2 (iblk m c 4 t)) (ix3 0 r n) = M79 m c (bat r) (tok r) n := by
  unfold M79; rw [Cert.Reference4Ideal.SFfn.out_at]
  have e (n : Fin 1024) : k0_pay59 (k0_pay3 (iblk m c 0 t))
      (act (mod m c t) (iblk m c 5 t) (rows (mod m c t) (iblk m c 5 t) (k0_pay2 (iblk m c 4 t))) (iblk m c 6 t) (iblk m c 7 t))
      (iblk m c 8 t) (iblk m c 3 t) (ix2 r n) = M55 m c (bat r) (tok r) n := by
    unfold M55; rw [Cert.Reference4Ideal.SFfn.res_at]
    pointwise [k0_pay59, k0_pay3]
    rw [stream_eq, g2_at]
    refine congrArg₂ _ rfl (congrArg₂ _ rfl (Finset.sum_congr rfl fun j _ => ?_))
    rw [act_eq, down_at]
    rfl
  unfold outY
  generalize k0_pay59 (F := Ideal) _ _ _ _ = g at e ⊢
  pointwise [k0_pay60]
  simp only [e, gain_at, offset_at]
  rfl

/-- The first result array, in the time-major listing. -/
def A_out (i : S1x256x1024.Idx) : EReal := M79 m c (bat (i 1)) (tok (i 1)) (i 2)

theorem arr_out : (dats m 0 c).arrAt 11 (cfgs 0).N = A_out m c := by
  refine (dats m 0 c).arrAt_eq_of_covers 11 _ (by decide +kernel) fun t _ y => ?_
  blk_simp
  rw [after0_11, point]
  obtain ⟨z, r, n, rfl⟩ : ∃ (z : Fin 1) (r : Fin 256) (n : Fin 1024), y = ix3 z r n := ⟨y 0, y 1, y 2, eq_ix3 y⟩
  obtain rfl : z = 0 := Subsingleton.elim _ _
  rw [out_eq]
  have e : ((View.whole main_v19_0).slice (win0_11.rect t)).emb (ix3 0 r n) = ix3 0 r n := by
    blk_ext [idx t]
  rw [e]
  rfl

/-- A row of the second result: the gate at one of the last two tokens. -/
def F_state (r : Fin 64) (j : Fin 2816) : EReal := M10 m c ⟨r.val % 32, by omega⟩ ⟨6 + r.val / 32, by omega⟩ ⟨2816 + j.val, by omega⟩

/-- The second result array, in the time-major listing. -/
def A_state (i : S1x64x2816.Idx) : EReal := F_state m c (i 1) (i 2)

theorem arr_state : (dats m 0 c).arrAt 12 (cfgs 0).N = A_state m c := by
  refine (dats m 0 c).arrAt_eq_of_covers 12 _ (by decide +kernel) fun t _ y => ?_
  blk_simp
  rw [after0_12]
  obtain ⟨z, r, j, rfl⟩ : ∃ (z : Fin 1) (r : Fin 64) (j : Fin 2816), y = ix3 z r j := ⟨y 0, y 1, y 2, eq_ix3 y⟩
  obtain rfl : z = 0 := Subsingleton.elim _ _
  rw [point_state, proj_eq]
  have e : ((View.whole main_v19_1).slice (win0_12.rect t)).emb (ix3 0 r j) = ix3 0 r j := by
    blk_ext [idx t]
  rw [e]
  show _ = M10 m c ⟨r.val % 32, _⟩ ⟨6 + r.val / 32, _⟩ ⟨2816 + j.val, _⟩
  exact congrArg₂ (fun x y => M10 m c x y ⟨2816 + j.val, by omega⟩) (Fin.ext (by show (192 + r.val) % 32 = r.val % 32; omega))
    (Fin.ext (by show (192 + r.val) / 32 = 6 + r.val / 32; omega))

/-- The row of the time-major listing that holds a token of a sequence. -/
def row (s : Fin 8) (b : Fin 32) : Fin 256 := ⟨s.val * 32 + b.val, by omega⟩

theorem bat_row (s : Fin 8) (b : Fin 32) : bat (row s b) = b := Fin.ext (by change (s.val * 32 + b.val) % 32 = b.val; omega)

theorem tok_row (s : Fin 8) (b : Fin 32) : tok (row s b) = s := Fin.ext (by change (s.val * 32 + b.val) / 32 = s.val; omega)

theorem by_seq (v : S1x256x1024.Idx → EReal) (b : Fin 32) (s : Fin 8) (n : Fin 1024) :
    transpose S32x8x1024 [1, 0, 2] (shapeCast S8x32x1024 v shapeCasts_S1x256x1024_S8x32x1024) transposes_S8x32x1024_S32x8x1024_1_0_2 (ix3 b s n)
      = v (ix3 0 (row s b) n) := by
  unfold row
  pointwise

theorem state_by_seq (v : S1x64x2816.Idx → EReal) (b : Fin 32) (s : Fin 2) (j : Fin 2816) :
    transpose S32x2x2816 [1, 0, 2] (shapeCast S2x32x2816 v shapeCasts_S1x64x2816_S2x32x2816) transposes_S2x32x2816_S32x2x2816_1_0_2 (ix3 b s j)
      = v (ix3 0 ⟨s.val * 32 + b.val, by omega⟩ j) := by
  pointwise

theorem tail_out : tail m c main_v21 = val_main_v79 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) := by
  funext i
  obtain ⟨b, s, n, rfl⟩ : ∃ (b : Fin 32) (s : Fin 8) (n : Fin 1024), i = ix3 b s n := ⟨i 0, i 1, i 2, eq_ix3 i⟩
  rw [tail_out_eq, by_seq, arr_out]
  show M79 m c (bat (row s b)) (tok (row s b)) n = _
  rw [bat_row, tok_row]
  rfl

theorem tail_state : tail m c main_v23 = val_main_v80 (F := Ideal) (m ((c : Thread nD τ).loc main_arg0))
    (m ((c : Thread nD τ).loc main_arg1)) (m ((c : Thread nD τ).loc main_arg2)) (m ((c : Thread nD τ).loc main_arg4))
    (m ((c : Thread nD τ).loc main_arg5)) := by
  funext i
  obtain ⟨b, s, j, rfl⟩ : ∃ (b : Fin 32) (s : Fin 2) (j : Fin 2816), i = ix3 b s j := ⟨i 0, i 1, i 2, eq_ix3 i⟩
  rw [tail_state_eq, state_by_seq, arr_state, Cert.Reference4Ideal.SFfn.state_at, Cert.Reference4Ideal.SFfn.gate_at]
  show M10 m c ⟨(s.val * 32 + b.val) % 32, _⟩ ⟨6 + (s.val * 32 + b.val) / 32, _⟩ ⟨2816 + j.val, _⟩ = M10 m c b ⟨6 + s.val, _⟩ ⟨2816 + j.val, _⟩
  exact congrArg₂ (fun x y => M10 m c x y ⟨2816 + j.val, by omega⟩) (Fin.ext (by show (s.val * 32 + b.val) % 32 = b.val; omega))
    (Fin.ext (by show 6 + (s.val * 32 + b.val) / 32 = 6 + s.val; omega))

end Cert.Kernel4Ideal.SFfn
end
-- ==== Proof.SFfnClaim.lean ====
module

public import proofs.«01_k».proof.Proof.SFinal
public import proofs.«01_k».proof.Proof.Gen.Reference4Ideal.Run

/-! The two results of the sample's feed-forward against the reference's. -/

@[expose] public section
set_option maxRecDepth 16384
noncomputable section
open Idealize.ShloMosaic Idealize.ShloMosaic.TcCoe Idealize.SL.Sem
namespace Cert.Proof.SFfn
open Cert.Kernel4Ideal.SFfn

/-- The reference leaves its arguments as they were, and no semaphore is raised. -/
theorem reference_frame : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- Over the extended reals the two results are the reference's, at every argument. -/
theorem algebraic : Cert.algebraic_Kernel4Ideal_Reference4Ideal := by
  intro m ρ m' ρ' _ hagree
  refine ⟨fun c => _, fun c => _,
    (θ_run Cert.Kernel4Ideal.defs _ _).mono (fun _ h c => ⟨((h.1 c).2 Cert.Kernel4Ideal.main_v21 (Pipeline.mem_restRefs_of Cert.Kernel4Ideal.main_v21 (by decide) (by decide))).trans (tail_out m c),
      ((h.1 c).2 Cert.Kernel4Ideal.main_v23 (Pipeline.mem_restRefs_of Cert.Kernel4Ideal.main_v23 (by decide) (by decide))).trans (tail_state m c), h.2 c⟩)
      (θ_run_and (Cert.Kernel4Ideal.Gen.run_main m ρ) (Cert.Kernel4Ideal.Gen.unchanged m ρ)), ?_⟩
  refine (θ_run Cert.Reference4Ideal.defs _ _).mono (fun _ h c => ?_) (Cert.Reference4Ideal.Value.run (F := Ideal) m' ρ')
  obtain ⟨e0, e1, e2, e3, e4, e5, e6, e7, e8, e9, e10⟩ := hagree c
  refine ⟨(h c).1.trans ?_, (h c).2.1.trans ?_, (h c).2.2⟩
  · refine (Cert.Reference4Ideal.Read.val_main_v79_eq m' c).trans ?_
    rw [e0, e1, e2, e3, e4, e5, e6, e7, e8, e9, e10]
  · refine (Cert.Reference4Ideal.Read.val_main_v80_eq _ _ _ _ _).trans ?_
    rw [e0, e1, e2, e4, e5]

end Cert.Proof.SFfn
end
-- ==== Proof.MixRef.lean ====
module

public import proofs.«01_k».proof.Defs
public import proofs.«01_k».proof.Proof.Gen.Reference5Ideal.Read
public import Idealize.ShloMosaic.Lib.Pointwise

/-! The stages of the reference mixing call, read at an index. -/

@[expose] public section
set_option maxRecDepth 16384
noncomputable section
open Idealize.ShloMosaic Idealize.ShloMosaic.TcCoe Idealize.SL.Sem
namespace Cert.Reference5Ideal.Mix
open Cert.Reference5Ideal Cert.Reference5Ideal.Read

/-- The sum of 31 terms, first to last. -/
def sum31 (f : Fin 31 → EReal) : EReal :=
  f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30

/-- A start value may be added before the terms or after them. -/
theorem sum31_from (s : EReal) (f : Fin 31 → EReal) :
    s + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = sum31 f + s := by
  unfold sum31
  rw [add_comm _ s]
  simp only [← add_assoc]

variable (a0 : (⟨S2x8192x1024, .f32⟩ : BufTy).Contents (Elt Ideal)) (a1 a2 : (⟨S2x8192x512, .f32⟩ : BufTy).Contents (Elt Ideal))
  (a3 : (⟨S2x1x1024, .f32⟩ : BufTy).Contents (Elt Ideal)) (a4 : (⟨S31x512, .f32⟩ : BufTy).Contents (Elt Ideal))
  (a5 a6 a7 a8 a9 : (⟨S512, .f32⟩ : BufTy).Contents (Elt Ideal)) (a10 : (⟨S1024x1024, .f32⟩ : BufTy).Contents (Elt Ideal))
  (a11 a12 : (⟨S1024, .f32⟩ : BufTy).Contents (Elt Ideal))

/-- The convolution's input under thirty rows of zeros. -/
theorem pad_at (b : Fin 2) (t : Fin 8222) (k : Fin 512) :
    val_main_v0 (F := Ideal) a1 (ix3 b t k) = if h : t.val < 30 then 0 else a1 (ix3 b ⟨t.val - 30, by omega⟩ k) := by
  pointwise [val_main_v0, val_main_call0_v0, val_main_c]
  by_cases h : t.val < 30
  · rw [dif_pos h, dif_neg (by omega)]
    show ((((0#32 : BitVec 32).toInt : ℤ) : ℝ) : EReal) = 0
    norm_num
  · rw [dif_neg h, dif_pos (by omega)]

/-- One tap of the convolution. -/
def tap (b : Fin 2) (t : Fin 8192) (k : Fin 512) (j : Fin 31) : EReal :=
  a4 (ix2 j k) * val_main_v0 (F := Ideal) a1 (ix3 b ⟨j.val + t.val, by omega⟩ k)

theorem tap0 (b : Fin 2) (t : Fin 8192) (k : Fin 512) : val_main_v8 (F := Ideal) a1 a4 (ix3 b t k) = tap a1 a4 b t k 0 := by
  unfold tap
  pointwise [val_main_v8, val_main_v7, val_main_v6, val_main_v5, val_main_v4, val_main_v3, val_main_v2, val_main_v1, val_main_cst]
  simp only [mul_comm]

theorem tap1 (b : Fin 2) (t : Fin 8192) (k : Fin 512) :
    val_main_v15 (F := Ideal) a1 a4 (ix3 b t k) = val_main_v8 (F := Ideal) a1 a4 (ix3 b t k) + tap a1 a4 b t k 1 := by
  unfold tap
  pointwise [val_main_v15, val_main_v14, val_main_v13, val_main_v12, val_main_v11, val_main_v10, val_main_v9]
  simp only [mul_comm]

theorem tap2 (b : Fin 2) (t : Fin 8192) (k : Fin 512) :
    val_main_v22 (F := Ideal) a1 a4 (ix3 b t k) = val_main_v15 (F := Ideal) a1 a4 (ix3 b t k) + tap a1 a4 b t k 2 := by
  unfold tap
  pointwise [val_main_v22, val_main_v21, val_main_v20, val_main_v19, val_main_v18, val_main_v17, val_main_v16]
  simp only [mul_comm]

theorem tap3 (b : Fin 2) (t : Fin 8192) (k : Fin 512) :
    val_main_v29 (F := Ideal) a1 a4 (ix3 b t k) = val_main_v22 (F := Ideal) a1 a4 (ix3 b t k) + tap a1 a4 b t k 3 := by
  unfold tap
  pointwise [val_main_v29, val_main_v28, val_main_v27, val_main_v26, val_main_v25, val_main_v24, val_main_v23]
  simp only [mul_comm]

theorem tap4 (b : Fin 2) (t : Fin 8192) (k : Fin 512) :
    val_main_v36 (F := Ideal) a1 a4 (ix3 b t k) = val_main_v29 (F := Ideal) a1 a4 (ix3 b t k) + tap a1 a4 b t k 4 := by
  unfold tap
  pointwise [val_main_v36, val_main_v35, val_main_v34, val_main_v33, val_main_v32, val_main_v31, val_main_v30]
  simp only [mul_comm]

theorem tap5 (b : Fin 2) (t : Fin 8192) (k : Fin 512) :
    val_main_v43 (F := Ideal) a1 a4 (ix3 b t k) = val_main_v36 (F := Ideal) a1 a4 (ix3 b t k) + tap a1 a4 b t k 5 := by
  unfold tap
  pointwise [val_main_v43, val_main_v42, val_main_v41, val_main_v40, val_main_v39, val_main_v38, val_main_v37]
  simp only [mul_comm]

theorem tap6 (b : Fin 2) (t : Fin 8192) (k : Fin 512) :
    val_main_v50 (F := Ideal) a1 a4 (ix3 b t k) = val_main_v43 (F := Ideal) a1 a4 (ix3 b t k) + tap a1 a4 b t k 6 := by
  unfold tap
  pointwise [val_main_v50, val_main_v49, val_main_v48, val_main_v47, val_main_v46, val_main_v45, val_main_v44]
  simp only [mul_comm]

theorem tap7 (b : Fin 2) (t : Fin 8192) (k : Fin 512) :
    val_main_v57 (F := Ideal) a1 a4 (ix3 b t k) = val_main_v50 (F := Ideal) a1 a4 (ix3 b t k) + tap a1 a4 b t k 7 := by
  unfold tap
  pointwise [val_main_v57, val_main_v56, val_main_v55, val_main_v54, val_main_v53, val_main_v52, val_main_v51]
  simp only [mul_comm]

theorem tap8 (b : Fin 2) (t : Fin 8192) (k : Fin 512) :
    val_main_v64 (F := Ideal) a1 a4 (ix3 b t k) = val_main_v57 (F := Ideal) a1 a4 (ix3 b t k) + tap a1 a4 b t k 8 := by
  unfold tap
  pointwise [val_main_v64, val_main_v63, val_main_v62, val_main_v61, val_main_v60, val_main_v59, val_main_v58]
  simp only [mul_comm]

theorem tap9 (b : Fin 2) (t : Fin 8192) (k : Fin 512) :
    val_main_v71 (F := Ideal) a1 a4 (ix3 b t k) = val_main_v64 (F := Ideal) a1 a4 (ix3 b t k) + tap a1 a4 b t k 9 := by
  unfold tap
  pointwise [val_main_v71, val_main_v70, val_main_v69, val_main_v68, val_main_v67, val_main_v66, val_main_v65]
  simp only [mul_comm]

theorem tap10 (b : Fin 2) (t : Fin 8192) (k : Fin 512) :
    val_main_v78 (F := Ideal) a1 a4 (ix3 b t k) = val_main_v71 (F := Ideal) a1 a4 (ix3 b t k) + tap a1 a4 b t k 10 := by
  unfold tap
  pointwise [val_main_v78, val_main_v77, val_main_v76, val_main_v75, val_main_v74, val_main_v73, val_main_v72]
  simp only [mul_comm]

theorem tap11 (b : Fin 2) (t : Fin 8192) (k : Fin 512) :
    val_main_v85 (F := Ideal) a1 a4 (ix3 b t k) = val_main_v78 (F := Ideal) a1 a4 (ix3 b t k) + tap a1 a4 b t k 11 := by
  unfold tap
  pointwise [val_main_v85, val_main_v84, val_main_v83, val_main_v82, val_main_v81, val_main_v80, val_main_v79]
  simp only [mul_comm]

theorem tap12 (b : Fin 2) (t : Fin 8192) (k : Fin 512) :
    val_main_v92 (F := Ideal) a1 a4 (ix3 b t k) = val_main_v85 (F := Ideal) a1 a4 (ix3 b t k) + tap a1 a4 b t k 12 := by
  unfold tap
  pointwise [val_main_v92, val_main_v91, val_main_v90, val_main_v89, val_main_v88, val_main_v87, val_main_v86]
  simp only [mul_comm]

theorem tap13 (b : Fin 2) (t : Fin 8192) (k : Fin 512) :
    val_main_v99 (F := Ideal) a1 a4 (ix3 b t k) = val_main_v92 (F := Ideal) a1 a4 (ix3 b t k) + tap a1 a4 b t k 13 := by
  unfold tap
  pointwise [val_main_v99, val_main_v98, val_main_v97, val_main_v96, val_main_v95, val_main_v94, val_main_v93]
  simp only [mul_comm]

theorem tap14 (b : Fin 2) (t : Fin 8192) (k : Fin 512) :
    val_main_v106 (F := Ideal) a1 a4 (ix3 b t k) = val_main_v99 (F := Ideal) a1 a4 (ix3 b t k) + tap a1 a4 b t k 14 := by
  unfold tap
  pointwise [val_main_v106, val_main_v105, val_main_v104, val_main_v103, val_main_v102, val_main_v101, val_main_v100]
  simp only [mul_comm]

theorem tap15 (b : Fin 2) (t : Fin 8192) (k : Fin 512) :
    val_main_v113 (F := Ideal) a1 a4 (ix3 b t k) = val_main_v106 (F := Ideal) a1 a4 (ix3 b t k) + tap a1 a4 b t k 15 := by
  unfold tap
  pointwise [val_main_v113, val_main_v112, val_main_v111, val_main_v110, val_main_v109, val_main_v108, val_main_v107]
  simp only [mul_comm]

theorem tap16 (b : Fin 2) (t : Fin 8192) (k : Fin 512) :
    val_main_v120 (F := Ideal) a1 a4 (ix3 b t k) = val_main_v113 (F := Ideal) a1 a4 (ix3 b t k) + tap a1 a4 b t k 16 := by
  unfold tap
  pointwise [val_main_v120, val_main_v119, val_main_v118, val_main_v117, val_main_v116, val_main_v115, val_main_v114]
  simp only [mul_comm]

theorem tap17 (b : Fin 2) (t : Fin 8192) (k : Fin 512) :
    val_main_v127 (F := Ideal) a1 a4 (ix3 b t k) = val_main_v120 (F := Ideal) a1 a4 (ix3 b t k) + tap a1 a4 b t k 17 := by
  unfold tap
  pointwise [val_main_v127, val_main_v126, val_main_v125, val_main_v124, val_main_v123, val_main_v122, val_main_v121]
  simp only [mul_comm]

theorem tap18 (b : Fin 2) (t : Fin 8192) (k : Fin 512) :
    val_main_v134 (F := Ideal) a1 a4 (ix3 b t k) = val_main_v127 (F := Ideal) a1 a4 (ix3 b t k) + tap a1 a4 b t k 18 := by
  unfold tap
  pointwise [val_main_v134, val_main_v133, val_main_v132, val_main_v131, val_main_v130, val_main_v129, val_main_v128]
  simp only [mul_comm]

theorem tap19 (b : Fin 2) (t : Fin 8192) (k : Fin 512) :
    val_main_v141 (F := Ideal) a1 a4 (ix3 b t k) = val_main_v134 (F := Ideal) a1 a4 (ix3 b t k) + tap a1 a4 b t k 19 := by
  unfold tap
  pointwise [val_main_v141, val_main_v140, val_main_v139, val_main_v138, val_main_v137, val_main_v136, val_main_v135]
  simp only [mul_comm]

theorem tap20 (b : Fin 2) (t : Fin 8192) (k : Fin 512) :
    val_main_v148 (F := Ideal) a1 a4 (ix3 b t k) = val_main_v141 (F := Ideal) a1 a4 (ix3 b t k) + tap a1 a4 b t k 20 := by
  unfold tap
  pointwise [val_main_v148, val_main_v147, val_main_v146, val_main_v145, val_main_v144, val_main_v143, val_main_v142]
  simp only [mul_comm]

theorem tap21 (b : Fin 2) (t : Fin 8192) (k : Fin 512) :
    val_main_v155 (F := Ideal) a1 a4 (ix3 b t k) = val_main_v148 (F := Ideal) a1 a4 (ix3 b t k) + tap a1 a4 b t k 21 := by
  unfold tap
  pointwise [val_main_v155, val_main_v154, val_main_v153, val_main_v152, val_main_v151, val_main_v150, val_main_v149]
  simp only [mul_comm]

theorem tap22 (b : Fin 2) (t : Fin 8192) (k : Fin 512) :
    val_main_v162 (F := Ideal) a1 a4 (ix3 b t k) = val_main_v155 (F := Ideal) a1 a4 (ix3 b t k) + tap a1 a4 b t k 22 := by
  unfold tap
  pointwise [val_main_v162, val_main_v161, val_main_v160, val_main_v159, val_main_v158, val_main_v157, val_main_v156]
  simp only [mul_comm]

theorem tap23 (b : Fin 2) (t : Fin 8192) (k : Fin 512) :
    val_main_v169 (F := Ideal) a1 a4 (ix3 b t k) = val_main_v162 (F := Ideal) a1 a4 (ix3 b t k) + tap a1 a4 b t k 23 := by
  unfold tap
  pointwise [val_main_v169, val_main_v168, val_main_v167, val_main_v166, val_main_v165, val_main_v164, val_main_v163]
  simp only [mul_comm]

theorem tap24 (b : Fin 2) (t : Fin 8192) (k : Fin 512) :
    val_main_v176 (F := Ideal) a1 a4 (ix3 b t k) = val_main_v169 (F := Ideal) a1 a4 (ix3 b t k) + tap a1 a4 b t k 24 := by
  unfold tap
  pointwise [val_main_v176, val_main_v175, val_main_v174, val_main_v173, val_main_v172, val_main_v171, val_main_v170]
  simp only [mul_comm]

theorem tap25 (b : Fin 2) (t : Fin 8192) (k : Fin 512) :
    val_main_v183 (F := Ideal) a1 a4 (ix3 b t k) = val_main_v176 (F := Ideal) a1 a4 (ix3 b t k) + tap a1 a4 b t k 25 := by
  unfold tap
  pointwise [val_main_v183, val_main_v182, val_main_v181, val_main_v180, val_main_v179, val_main_v178, val_main_v177]
  simp only [mul_comm]

theorem tap26 (b : Fin 2) (t : Fin 8192) (k : Fin 512) :
    val_main_v190 (F := Ideal) a1 a4 (ix3 b t k) = val_main_v183 (F := Ideal) a1 a4 (ix3 b t k) + tap a1 a4 b t k 26 := by
  unfold tap
  pointwise [val_main_v190, val_main_v189, val_main_v188, val_main_v187, val_main_v186, val_main_v185, val_main_v184]
  simp only [mul_comm]

theorem tap27 (b : Fin 2) (t : Fin 8192) (k : Fin 512) :
    val_main_v197 (F := Ideal) a1 a4 (ix3 b t k) = val_main_v190 (F := Ideal) a1 a4 (ix3 b t k) + tap a1 a4 b t k 27 := by
  unfold tap
  pointwise [val_main_v197, val_main_v196, val_main_v195, val_main_v194, val_main_v193, val_main_v192, val_main_v191]
  simp only [mul_comm]

theorem tap28 (b : Fin 2) (t : Fin 8192) (k : Fin 512) :
    val_main_v204 (F := Ideal) a1 a4 (ix3 b t k) = val_main_v197 (F := Ideal) a1 a4 (ix3 b t k) + tap a1 a4 b t k 28 := by
  unfold tap
  pointwise [val_main_v204, val_main_v203, val_main_v202, val_main_v201, val_main_v200, val_main_v199, val_main_v198]
  simp only [mul_comm]

theorem tap29 (b : Fin 2) (t : Fin 8192) (k : Fin 512) :
    val_main_v211 (F := Ideal) a1 a4 (ix3 b t k) = val_main_v204 (F := Ideal) a1 a4 (ix3 b t k) + tap a1 a4 b t k 29 := by
  unfold tap
  pointwise [val_main_v211, val_main_v210, val_main_v209, val_main_v208, val_main_v207, val_main_v206, val_main_v205]
  simp only [mul_comm]

theorem tap30 (b : Fin 2) (t : Fin 8192) (k : Fin 512) :
    val_main_v218 (F := Ideal) a1 a4 (ix3 b t k) = val_main_v211 (F := Ideal) a1 a4 (ix3 b t k) + tap a1 a4 b t k 30 := by
  unfold tap
  pointwise [val_main_v218, val_main_v217, val_main_v216, val_main_v215, val_main_v214, val_main_v213, val_main_v212]
  simp only [mul_comm]

theorem conv_at (b : Fin 2) (t : Fin 8192) (k : Fin 512) :
    val_main_v221 (F := Ideal) a1 a4 a5 (ix3 b t k) = sum31 (tap a1 a4 b t k) + a5 (ix1 k) := by
  have e : val_main_v221 (F := Ideal) a1 a4 a5 (ix3 b t k) = val_main_v218 (F := Ideal) a1 a4 (ix3 b t k) + a5 (ix1 k) := by
    pointwise [val_main_v221, val_main_v220, val_main_v219]
  rw [e, tap30, tap29, tap28, tap27, tap26, tap25, tap24, tap23, tap22, tap21, tap20, tap19, tap18, tap17, tap16, tap15, tap14,
    tap13, tap12, tap11, tap10, tap9, tap8, tap7, tap6, tap5, tap4, tap3, tap2, tap1, tap0]
  rfl

/-- The mean of a row of 512. -/
def mean5 (g : Fin 512 → EReal) : EReal := Ideal.div (∑ x, g x) (Ideal.ofBits .f32 0x44000000#32)

/-- A row of 512 normalised, times a gain, plus an offset. -/
def norm5 (g : Fin 512 → EReal) (x y : EReal) (k : Fin 512) : EReal :=
  (g k - mean5 g) * Ideal.rsqrt (mean5 (fun x => (g x - mean5 g) * (g x - mean5 g)) + Ideal.ofBits .f32 0x3727C5AC#32) * x + y

/-- A number times its logistic. -/
def swish (z : EReal) : EReal := z * Ideal.div 1 (1 + Ideal.exp (-z))

/-- A row of 512 divided by its root mean square, times a gain. -/
def rms5 (g : Fin 512 → EReal) (x : EReal) (k : Fin 512) : EReal :=
  g k * Ideal.rsqrt (mean5 (fun x => g x * g x) + Ideal.ofBits .f32 0x3727C5AC#32) * x

theorem norm_at (b : Fin 2) (t : Fin 8192) (k : Fin 512) :
    val_main_v245 (F := Ideal) a1 a4 a5 a6 a7 (ix3 b t k)
      = norm5 (fun k => val_main_v221 (F := Ideal) a1 a4 a5 (ix3 b t k)) (a6 (ix1 k)) (a7 (ix1 k)) k := by
  pointwise [val_main_v245, val_main_v244, val_main_v243, val_main_v242, val_main_v241, val_main_v240, val_main_v239,
    val_main_v238, val_main_v237, val_main_v236, val_main_v235, val_main_v234, val_main_v233, val_main_v232, val_main_v231,
    val_main_v230, val_main_v229, val_main_v228, val_main_v227, val_main_v226, val_main_v225, val_main_v224, val_main_v223,
    val_main_v222, val_main_cst_0, val_main_cst_1, val_main_cst_2, val_main_cst_3, val_main_cst_4]
  rfl

theorem swish_at (b : Fin 2) (t : Fin 8192) (k : Fin 512) :
    val_main_v252 (F := Ideal) a1 a4 a5 a6 a7 (ix3 b t k) = swish (val_main_v245 (F := Ideal) a1 a4 a5 a6 a7 (ix3 b t k)) := by
  pointwise [val_main_v252, val_main_v251, val_main_v250, val_main_v249, val_main_v248, val_main_v247, val_main_v246, val_main_cst_5, val_main_cst_6]
  rfl

theorem rms_at (b : Fin 2) (t : Fin 8192) (k : Fin 512) :
    val_main_v265 (F := Ideal) a1 a4 a5 a6 a7 a9 (ix3 b t k)
      = rms5 (fun k => val_main_v252 (F := Ideal) a1 a4 a5 a6 a7 (ix3 b t k)) (a9 (ix1 k)) k := by
  pointwise [val_main_v265, val_main_v264, val_main_v263, val_main_v262, val_main_v261, val_main_v260, val_main_v259,
    val_main_v258, val_main_v257, val_main_v256, val_main_v255, val_main_v254, val_main_v253, val_main_cst_7, val_main_cst_8, val_main_cst_9]
  rfl

theorem gain_at (b : Fin 2) (t : Fin 8192) (k : Fin 512) : val_main_v268 (F := Ideal) a2 a8 (ix3 b t k) = a2 (ix3 b t k) * a8 (ix1 k) := by
  pointwise [val_main_v268, val_main_v267, val_main_v266]

theorem both_at (b : Fin 2) (t : Fin 8192) (n : Fin 1024) :
    val_main_v270 (F := Ideal) a1 a2 a4 a5 a6 a7 a8 a9 a10 (ix3 b t n)
      = ∑ k : Fin 1024, val_main_v269 (F := Ideal) a1 a2 a4 a5 a6 a7 a8 a9 (ix3 b t k) * a10 (ix2 k n) := by
  pointwise [val_main_v270]

theorem left_at (b : Fin 2) (t : Fin 8192) (k : Fin 512) : val_main_v269 (F := Ideal) a1 a2 a4 a5 a6 a7 a8 a9 (ix3 b t ⟨k.val, by omega⟩)
    = val_main_v268 (F := Ideal) a2 a8 (ix3 b t k) := by
  pointwise [val_main_v269]

theorem right_at (b : Fin 2) (t : Fin 8192) (k : Fin 512) : val_main_v269 (F := Ideal) a1 a2 a4 a5 a6 a7 a8 a9 (ix3 b t ⟨512 + k.val, by omega⟩)
    = val_main_v265 (F := Ideal) a1 a4 a5 a6 a7 a9 (ix3 b t k) := by
  pointwise [val_main_v269]

/-- The product of the two parts side by side is the sum of their products with the two halves of the weight. -/
theorem dot_at (b : Fin 2) (t : Fin 8192) (n : Fin 1024) :
    val_main_v270 (F := Ideal) a1 a2 a4 a5 a6 a7 a8 a9 a10 (ix3 b t n)
      = (∑ k : Fin 512, val_main_v268 (F := Ideal) a2 a8 (ix3 b t k) * a10 (ix2 ⟨k.val, by omega⟩ n))
        + ∑ k : Fin 512, val_main_v265 (F := Ideal) a1 a4 a5 a6 a7 a9 (ix3 b t k) * a10 (ix2 ⟨512 + k.val, by omega⟩ n) := by
  rw [both_at]
  refine (Fin.sum_univ_add (a := 512) (b := 512) _).trans (congrArg₂ _ (Finset.sum_congr rfl fun k _ => ?_) (Finset.sum_congr rfl fun k _ => ?_))
  · exact congrArg (fun z : EReal => z * (_ : EReal)) (left_at a1 a2 a4 a5 a6 a7 a8 a9 b t k)
  · exact congrArg (fun z : EReal => z * (_ : EReal)) (right_at a1 a2 a4 a5 a6 a7 a8 a9 b t k)

theorem res_at (b : Fin 2) (t : Fin 8192) (n : Fin 1024) :
    val_main_v277 (F := Ideal) a0 a1 a2 a3 a4 a5 a6 a7 a8 a9 a10 (ix3 b t n)
      = Ideal.ofBits .f32 0x3F9837F0#32 * a0 (ix3 b t n)
        + (1 + a3 (ix3 b 0 n)) * val_main_v270 (F := Ideal) a1 a2 a4 a5 a6 a7 a8 a9 a10 (ix3 b t n) := by
  pointwise [val_main_v277, val_main_v276, val_main_v275, val_main_v274, val_main_v273, val_main_v272, val_main_v271,
    val_main_cst_10, val_main_cst_11]

/-- The mean of a row. -/
def mean (g : Fin 1024 → EReal) : EReal := Ideal.div (∑ x, g x) (Ideal.ofBits .f32 0x44800000#32)

/-- A normalised row, times a gain, plus an offset. -/
def norm (g : Fin 1024 → EReal) (x y : EReal) (n : Fin 1024) : EReal :=
  (g n - mean g) * Ideal.rsqrt (mean (fun x => (g x - mean g) * (g x - mean g)) + Ideal.ofBits .f32 0x3727C5AC#32) * x + y

theorem out_at (b : Fin 2) (t : Fin 8192) (n : Fin 1024) :
    val_main_v301 (F := Ideal) a0 a1 a2 a3 a4 a5 a6 a7 a8 a9 a10 a11 a12 (ix3 b t n)
      = norm (fun n => val_main_v277 (F := Ideal) a0 a1 a2 a3 a4 a5 a6 a7 a8 a9 a10 (ix3 b t n)) (a11 (ix1 n)) (a12 (ix1 n)) n := by
  pointwise [val_main_v301, val_main_v300, val_main_v299, val_main_v298, val_main_v297, val_main_v296, val_main_v295,
    val_main_v294, val_main_v293, val_main_v292, val_main_v291, val_main_v290, val_main_v289, val_main_v288, val_main_v287,
    val_main_v286, val_main_v285, val_main_v284, val_main_v283, val_main_v282, val_main_v281, val_main_v280, val_main_v279,
    val_main_v278, val_main_cst_12, val_main_cst_13, val_main_cst_14, val_main_cst_15, val_main_cst_16]
  rfl

end Cert.Reference5Ideal.Mix
end
-- ==== Proof.MixBlock.lean ====
module

public import proofs.«01_k».proof.Proof.Gen.Kernel5Ideal.Frame
public import proofs.«01_k».proof.Proof.MixRef
public import proofs.«01_k».proof.Proof.Reads
public import Idealize.ShloMosaic.Lib.Pipeline.ValueKit
public import Idealize.ShloMosaic.Lib.Pipeline.ReadBack
public import Idealize.ShloMosaic.Lib.Pointwise

/-! What the mixing call leaves in its result block, as a function of its blocks. The two scratch blocks hold the rows of one table: the
    first the table itself, the second the table moved up by one to seven rows. So each tap of the convolution reads rows of the table. -/

@[expose] public section
set_option maxRecDepth 16384
noncomputable section
open Idealize.ShloMosaic Idealize.ShloMosaic.TcCoe Idealize.SL.Sem
open Idealize.ShloMosaic.Pipeline (Dat)
open Cert.Reads Cert.Reference5Ideal.Mix
namespace Cert.Kernel5Ideal.Mix
open Cert.Kernel5Ideal Cert.Kernel5Ideal.Gen

/-- The rows of a tile under the 32 rows that come before it. -/
def table (h : Vec Ideal S32x512 .f32) (u : Vec Ideal S512x512 .f32) (n : ℕ) (k : Fin 512) : EReal :=
  if h1 : n < 32 then h (ix2 ⟨n, h1⟩ k) else if h2 : n < 544 then u (ix2 ⟨n - 32, by omega⟩ k) else 0

section
variable (X : ℕ → Fin 512 → EReal)

/-- The table as a block. -/
def under : Vec Ideal S544x512 .f32 := fun y => X (y 0).val ⟨(y 1).val, (y 1).isLt⟩

/-- The table moved up by one to seven rows. -/
def shifts : Vec Ideal S7x544x512 .f32 := fun y => X ((y 0).val + 1 + (y 1).val) ⟨(y 2).val, (y 2).isLt⟩

/-- 512 rows of the table from row `o` on. -/
def low (o : ℕ) : Vec Ideal S512x512 .f32 := fun y => X (o + (y 0).val) ⟨(y 1).val, (y 1).isLt⟩

/-- The same with a leading axis of one. -/
def tile (o : ℕ) : Vec Ideal S1x512x512 .f32 := fun y => X (o + (y 1).val) ⟨(y 2).val, (y 2).isLt⟩

theorem low_ld (o : ℕ) (i : ∀ d, (![o, 0] : Fin 2 → ℕ) d + (![512, 512] : Fin 2 → ℕ) d ≤ S544x512.size d) :
    View.ld (Val := Elt Ideal) (e' := .f32) (under X) (Rect.unit ![o, 0] ![512, 512] i) = low X o := by
  funext x
  show X ((Rect.unit (s := S544x512) ![o, 0] ![512, 512] i).emb x 0).val ⟨((Rect.unit (s := S544x512) ![o, 0] ![512, 512] i).emb x 1).val, _⟩ = _
  have e0 : ((Rect.unit (s := S544x512) ![o, 0] ![512, 512] i).emb x 0).val = o + (x 0).val := Rect.idx_unit_val _ _ _ x 0
  have e1 : ((Rect.unit (s := S544x512) ![o, 0] ![512, 512] i).emb x 1).val = 0 + (x 1).val := Rect.idx_unit_val _ _ _ x 1
  unfold low
  exact congrArg₂ X e0 (Fin.ext (e1.trans (Nat.zero_add _)))

theorem tile_ld (i s : ℕ) (h : ∀ d, (![i, s, 0] : Fin 3 → ℕ) d + (![1, 512, 512] : Fin 3 → ℕ) d ≤ S7x544x512.size d) :
    View.ld (Val := Elt Ideal) (e' := .f32) (shifts X) (Rect.unit ![i, s, 0] ![1, 512, 512] h) = tile X (i + 1 + s) := by
  funext x
  show X (((Rect.unit (s := S7x544x512) ![i, s, 0] ![1, 512, 512] h).emb x 0).val + 1 + ((Rect.unit (s := S7x544x512) ![i, s, 0] ![1, 512, 512] h).emb x 1).val)
    ⟨((Rect.unit (s := S7x544x512) ![i, s, 0] ![1, 512, 512] h).emb x 2).val, _⟩ = _
  have e0 : ((Rect.unit (s := S7x544x512) ![i, s, 0] ![1, 512, 512] h).emb x 0).val = i + (x 0).val := Rect.idx_unit_val _ _ _ x 0
  have e1 : ((Rect.unit (s := S7x544x512) ![i, s, 0] ![1, 512, 512] h).emb x 1).val = s + (x 1).val := Rect.idx_unit_val _ _ _ x 1
  have e2 : ((Rect.unit (s := S7x544x512) ![i, s, 0] ![1, 512, 512] h).emb x 2).val = 0 + (x 2).val := Rect.idx_unit_val _ _ _ x 2
  have l0 : (x 0).val < 1 := (x 0).isLt
  unfold tile
  exact congrArg₂ X (by rw [e0, e1]; omega) (Fin.ext (e2.trans (Nat.zero_add _)))

theorem shift0 : k0_pay4 (View.ld (Val := Elt Ideal) (e' := .f32) (under X) (Rect.unit ![1, 0] ![536, 512] inb_S544x512_S536x512_1_0))
    = View.ld (Val := Elt Ideal) (e' := .f32) (shifts X) (Rect.unit ![0, 0, 0] ![1, 536, 512] inb_S7x544x512_S1x536x512_0_0_0) := by
  funext x
  obtain ⟨z, r, k, rfl⟩ : ∃ (z : Fin 1) (r : Fin 536) (k : Fin 512), x = ix3 z r k := ⟨x 0, x 1, x 2, eq_ix3 x⟩
  obtain rfl : z = 0 := Subsingleton.elim _ _
  rw [View.ld_unit_apply_of _ _ _ _ _ (ix3 (n0 := 7) (n1 := 544) (n2 := 512) 0 ⟨r.val, by omega⟩ k) (by intro a; fin_cases a <;> simp <;> rfl)]
  pointwise [k0_pay4]
  rfl

theorem shift1 : k0_pay5 (View.ld (Val := Elt Ideal) (e' := .f32) (under X) (Rect.unit ![2, 0] ![536, 512] inb_S544x512_S536x512_2_0))
    = View.ld (Val := Elt Ideal) (e' := .f32) (shifts X) (Rect.unit ![1, 0, 0] ![1, 536, 512] inb_S7x544x512_S1x536x512_1_0_0) := by
  funext x
  obtain ⟨z, r, k, rfl⟩ : ∃ (z : Fin 1) (r : Fin 536) (k : Fin 512), x = ix3 z r k := ⟨x 0, x 1, x 2, eq_ix3 x⟩
  obtain rfl : z = 0 := Subsingleton.elim _ _
  rw [View.ld_unit_apply_of _ _ _ _ _ (ix3 (n0 := 7) (n1 := 544) (n2 := 512) 1 ⟨r.val, by omega⟩ k) (by intro a; fin_cases a <;> simp <;> rfl)]
  pointwise [k0_pay5]
  rfl

theorem shift2 : k0_pay6 (View.ld (Val := Elt Ideal) (e' := .f32) (under X) (Rect.unit ![3, 0] ![536, 512] inb_S544x512_S536x512_3_0))
    = View.ld (Val := Elt Ideal) (e' := .f32) (shifts X) (Rect.unit ![2, 0, 0] ![1, 536, 512] inb_S7x544x512_S1x536x512_2_0_0) := by
  funext x
  obtain ⟨z, r, k, rfl⟩ : ∃ (z : Fin 1) (r : Fin 536) (k : Fin 512), x = ix3 z r k := ⟨x 0, x 1, x 2, eq_ix3 x⟩
  obtain rfl : z = 0 := Subsingleton.elim _ _
  rw [View.ld_unit_apply_of _ _ _ _ _ (ix3 (n0 := 7) (n1 := 544) (n2 := 512) 2 ⟨r.val, by omega⟩ k) (by intro a; fin_cases a <;> simp <;> rfl)]
  pointwise [k0_pay6]
  rfl

theorem shift3 : k0_pay7 (View.ld (Val := Elt Ideal) (e' := .f32) (under X) (Rect.unit ![4, 0] ![536, 512] inb_S544x512_S536x512_4_0))
    = View.ld (Val := Elt Ideal) (e' := .f32) (shifts X) (Rect.unit ![3, 0, 0] ![1, 536, 512] inb_S7x544x512_S1x536x512_3_0_0) := by
  funext x
  obtain ⟨z, r, k, rfl⟩ : ∃ (z : Fin 1) (r : Fin 536) (k : Fin 512), x = ix3 z r k := ⟨x 0, x 1, x 2, eq_ix3 x⟩
  obtain rfl : z = 0 := Subsingleton.elim _ _
  rw [View.ld_unit_apply_of _ _ _ _ _ (ix3 (n0 := 7) (n1 := 544) (n2 := 512) 3 ⟨r.val, by omega⟩ k) (by intro a; fin_cases a <;> simp <;> rfl)]
  pointwise [k0_pay7]
  rfl

theorem shift4 : k0_pay8 (View.ld (Val := Elt Ideal) (e' := .f32) (under X) (Rect.unit ![5, 0] ![536, 512] inb_S544x512_S536x512_5_0))
    = View.ld (Val := Elt Ideal) (e' := .f32) (shifts X) (Rect.unit ![4, 0, 0] ![1, 536, 512] inb_S7x544x512_S1x536x512_4_0_0) := by
  funext x
  obtain ⟨z, r, k, rfl⟩ : ∃ (z : Fin 1) (r : Fin 536) (k : Fin 512), x = ix3 z r k := ⟨x 0, x 1, x 2, eq_ix3 x⟩
  obtain rfl : z = 0 := Subsingleton.elim _ _
  rw [View.ld_unit_apply_of _ _ _ _ _ (ix3 (n0 := 7) (n1 := 544) (n2 := 512) 4 ⟨r.val, by omega⟩ k) (by intro a; fin_cases a <;> simp <;> rfl)]
  pointwise [k0_pay8]
  rfl

theorem shift5 : k0_pay9 (View.ld (Val := Elt Ideal) (e' := .f32) (under X) (Rect.unit ![6, 0] ![536, 512] inb_S544x512_S536x512_6_0))
    = View.ld (Val := Elt Ideal) (e' := .f32) (shifts X) (Rect.unit ![5, 0, 0] ![1, 536, 512] inb_S7x544x512_S1x536x512_5_0_0) := by
  funext x
  obtain ⟨z, r, k, rfl⟩ : ∃ (z : Fin 1) (r : Fin 536) (k : Fin 512), x = ix3 z r k := ⟨x 0, x 1, x 2, eq_ix3 x⟩
  obtain rfl : z = 0 := Subsingleton.elim _ _
  rw [View.ld_unit_apply_of _ _ _ _ _ (ix3 (n0 := 7) (n1 := 544) (n2 := 512) 5 ⟨r.val, by omega⟩ k) (by intro a; fin_cases a <;> simp <;> rfl)]
  pointwise [k0_pay9]
  rfl

theorem shift6 : k0_pay10 (View.ld (Val := Elt Ideal) (e' := .f32) (under X) (Rect.unit ![7, 0] ![536, 512] inb_S544x512_S536x512_7_0))
    = View.ld (Val := Elt Ideal) (e' := .f32) (shifts X) (Rect.unit ![6, 0, 0] ![1, 536, 512] inb_S7x544x512_S1x536x512_6_0_0) := by
  funext x
  obtain ⟨z, r, k, rfl⟩ : ∃ (z : Fin 1) (r : Fin 536) (k : Fin 512), x = ix3 z r k := ⟨x 0, x 1, x 2, eq_ix3 x⟩
  obtain rfl : z = 0 := Subsingleton.elim _ _
  rw [View.ld_unit_apply_of _ _ _ _ _ (ix3 (n0 := 7) (n1 := 544) (n2 := 512) 6 ⟨r.val, by omega⟩ k) (by intro a; fin_cases a <;> simp <;> rfl)]
  pointwise [k0_pay10]
  rfl

section Loads
variable {κ : Kind} {sp : Space}

/-- A load from the first scratch block after its two stores. -/
theorem load_under (v : View sig κ sp S544x512 .f32) (h : Vec Ideal S32x512 .f32) (u : Vec Ideal S512x512 .f32) (R : Rect S544x512) :
    v.readCov [⟨Rect.unit ![32, 0] ![512, 512] inb_S544x512_S512x512_32_0, u⟩, ⟨Rect.unit ![0, 0] ![32, 512] inb_S544x512_S32x512_0_0, h⟩]
      R.toLoadRect = View.ld (Val := Elt Ideal) (e' := .f32) (under (table h u)) R := by
  refine readCov_eq v (under (table h u)) _ _ ?_ fun x => ?_
  · intro q hq
    rcases List.mem_cons.mp hq with rfl | hq
    · intro x
      have e0 : ((Rect.unit (s := S544x512) ![32, 0] ![512, 512] inb_S544x512_S512x512_32_0).emb x 0).val = 32 + (x 0).val := Rect.idx_unit_val _ _ _ x 0
      have e1 : ((Rect.unit (s := S544x512) ![32, 0] ![512, 512] inb_S544x512_S512x512_32_0).emb x 1).val = 0 + (x 1).val := Rect.idx_unit_val _ _ _ x 1
      have l0 : (x 0).val < 512 := (x 0).isLt
      show u x = table h u ((Rect.unit (s := S544x512) ![32, 0] ![512, 512] inb_S544x512_S512x512_32_0).emb x 0).val
        ⟨((Rect.unit (s := S544x512) ![32, 0] ![512, 512] inb_S544x512_S512x512_32_0).emb x 1).val, _⟩
      unfold table
      rw [dif_neg (by omega), dif_pos (by omega)]
      refine congrArg u ((eq_ix2 x).trans (congrArg₂ ix2 (Fin.ext ?_) (Fin.ext ?_)))
      · show (x 0).val = ((Rect.unit (s := S544x512) ![32, 0] ![512, 512] inb_S544x512_S512x512_32_0).emb x 0).val - 32; omega
      · show (x 1).val = ((Rect.unit (s := S544x512) ![32, 0] ![512, 512] inb_S544x512_S512x512_32_0).emb x 1).val; omega
    rcases List.mem_cons.mp hq with rfl | hq
    · intro x
      have e0 : ((Rect.unit (s := S544x512) ![0, 0] ![32, 512] inb_S544x512_S32x512_0_0).emb x 0).val = 0 + (x 0).val := Rect.idx_unit_val _ _ _ x 0
      have e1 : ((Rect.unit (s := S544x512) ![0, 0] ![32, 512] inb_S544x512_S32x512_0_0).emb x 1).val = 0 + (x 1).val := Rect.idx_unit_val _ _ _ x 1
      have l0 : (x 0).val < 32 := (x 0).isLt
      show h x = table h u ((Rect.unit (s := S544x512) ![0, 0] ![32, 512] inb_S544x512_S32x512_0_0).emb x 0).val
        ⟨((Rect.unit (s := S544x512) ![0, 0] ![32, 512] inb_S544x512_S32x512_0_0).emb x 1).val, _⟩
      unfold table
      rw [dif_pos (by omega)]
      refine congrArg h ((eq_ix2 x).trans (congrArg₂ ix2 (Fin.ext ?_) (Fin.ext ?_)))
      · show (x 0).val = ((Rect.unit (s := S544x512) ![0, 0] ![32, 512] inb_S544x512_S32x512_0_0).emb x 0).val; omega
      · show (x 1).val = ((Rect.unit (s := S544x512) ![0, 0] ![32, 512] inb_S544x512_S32x512_0_0).emb x 1).val; omega
    · exact absurd hq List.not_mem_nil
  · generalize R.emb x = y
    have l0 : (y 0).val < 544 := (y 0).isLt
    have l1 : (y 1).val < 512 := (y 1).isLt
    by_cases hy : (y 0).val < 32
    · exact (has_there _ _ _ (has_here _ _ _)).cover (Rect.mem_set_unit.mpr (Fin.forall_fin_two.mpr ⟨⟨by simp <;> omega, by simp <;> omega⟩, ⟨by simp <;> omega, by simp <;> omega⟩⟩))
    · exact (has_here _ _ _).cover (Rect.mem_set_unit.mpr (Fin.forall_fin_two.mpr ⟨⟨by simp <;> omega, by simp <;> omega⟩, ⟨by simp <;> omega, by simp <;> omega⟩⟩))

/-- A load of 512 rows from the second scratch block after its seven stores. -/
theorem load_shifts (v : View sig κ sp S7x544x512 .f32) (i s : ℕ)
    (h : ∀ d, (![i, s, 0] : Fin 3 → ℕ) d + (![1, 512, 512] : Fin 3 → ℕ) d ≤ S7x544x512.size d) (hs : s ≤ 24) :
    v.readCov [⟨Rect.unit ![6, 0, 0] ![1, 536, 512] inb_S7x544x512_S1x536x512_6_0_0, View.ld (Val := Elt Ideal) (e' := .f32) (shifts X) _⟩, ⟨Rect.unit ![5, 0, 0] ![1, 536, 512] inb_S7x544x512_S1x536x512_5_0_0, View.ld (Val := Elt Ideal) (e' := .f32) (shifts X) _⟩, ⟨Rect.unit ![4, 0, 0] ![1, 536, 512] inb_S7x544x512_S1x536x512_4_0_0, View.ld (Val := Elt Ideal) (e' := .f32) (shifts X) _⟩, ⟨Rect.unit ![3, 0, 0] ![1, 536, 512] inb_S7x544x512_S1x536x512_3_0_0, View.ld (Val := Elt Ideal) (e' := .f32) (shifts X) _⟩, ⟨Rect.unit ![2, 0, 0] ![1, 536, 512] inb_S7x544x512_S1x536x512_2_0_0, View.ld (Val := Elt Ideal) (e' := .f32) (shifts X) _⟩, ⟨Rect.unit ![1, 0, 0] ![1, 536, 512] inb_S7x544x512_S1x536x512_1_0_0, View.ld (Val := Elt Ideal) (e' := .f32) (shifts X) _⟩, ⟨Rect.unit ![0, 0, 0] ![1, 536, 512] inb_S7x544x512_S1x536x512_0_0_0, View.ld (Val := Elt Ideal) (e' := .f32) (shifts X) _⟩] (Rect.unit ![i, s, 0] ![1, 512, 512] h).toLoadRect
      = tile X (i + 1 + s) := by
  rw [← tile_ld X i s h]
  refine readCov_eq v (shifts X) _ _ (by repeat' (first | exact agree_nil _ | apply agree_cons)) fun x => ?_
  have e0 : ((Rect.unit (s := S7x544x512) ![i, s, 0] ![1, 512, 512] h).emb x 0).val = i + (x 0).val := Rect.idx_unit_val _ _ _ x 0
  have e1 : ((Rect.unit (s := S7x544x512) ![i, s, 0] ![1, 512, 512] h).emb x 1).val = s + (x 1).val := Rect.idx_unit_val _ _ _ x 1
  have e2 : ((Rect.unit (s := S7x544x512) ![i, s, 0] ![1, 512, 512] h).emb x 2).val = 0 + (x 2).val := Rect.idx_unit_val _ _ _ x 2
  have l0 : (x 0).val < 1 := (x 0).isLt
  have l1 : (x 1).val < 512 := (x 1).isLt
  have l2 : (x 2).val < 512 := (x 2).isLt
  have hi : i + 1 ≤ 7 := h 0
  generalize (Rect.unit (s := S7x544x512) ![i, s, 0] ![1, 512, 512] h).emb x = y at e0 e1 e2 ⊢
  have cov (n : ℕ) (hn : ∀ d, (![n, 0, 0] : Fin 3 → ℕ) d + (![1, 536, 512] : Fin 3 → ℕ) d ≤ S7x544x512.size d) (he : n = i) :
      y ∈ (Rect.unit (s := S7x544x512) ![n, 0, 0] ![1, 536, 512] hn).set := by
    refine Rect.mem_set_unit.mpr fun d => ?_
    fin_cases d
    · show n ≤ (y 0).val ∧ (y 0).val < n + 1; omega
    · show 0 ≤ (y 1).val ∧ (y 1).val < 0 + 536; omega
    · show 0 ≤ (y 2).val ∧ (y 2).val < 0 + 512; omega
  by_cases h6 : 6 = i
  · exact (has_here _ _ _).cover (cov _ _ h6)
  by_cases h5 : 5 = i
  · exact (has_there _ _ _ (has_here _ _ _)).cover (cov _ _ h5)
  by_cases h4 : 4 = i
  · exact (has_there _ _ _ (has_there _ _ _ (has_here _ _ _))).cover (cov _ _ h4)
  by_cases h3 : 3 = i
  · exact (has_there _ _ _ (has_there _ _ _ (has_there _ _ _ (has_here _ _ _)))).cover (cov _ _ h3)
  by_cases h2 : 2 = i
  · exact (has_there _ _ _ (has_there _ _ _ (has_there _ _ _ (has_there _ _ _ (has_here _ _ _))))).cover (cov _ _ h2)
  by_cases h1 : 1 = i
  · exact (has_there _ _ _ (has_there _ _ _ (has_there _ _ _ (has_there _ _ _ (has_there _ _ _ (has_here _ _ _)))))).cover (cov _ _ h1)
  exact (has_there _ _ _ (has_there _ _ _ (has_there _ _ _ (has_there _ _ _ (has_there _ _ _ (has_there _ _ _ (has_here _ _ _))))))).cover (cov _ _ (by omega))

end Loads

variable (f : Vec Ideal S31x512 .f32) (b : Vec Ideal S1x512 .f32)

/-- The convolution without its last two taps, as the body builds it. -/
def most : FVec Ideal S512x512 .f32 := (k0_pay19 (k0_pay17 (k0_pay15 (k0_pay14 (k0_pay12 (k0_pay11 b (tile X 2) (View.ld f (Rect.unit ![0, 0] ![1, 512] inb_S31x512_S1x512_0_0))) (tile X 3) (View.ld f (Rect.unit ![1, 0] ![1, 512] inb_S31x512_S1x512_1_0)) (tile X 4) (View.ld f (Rect.unit ![2, 0] ![1, 512] inb_S31x512_S1x512_2_0)) (tile X 5) (View.ld f (Rect.unit ![3, 0] ![1, 512] inb_S31x512_S1x512_3_0)) (tile X 6) (View.ld f (Rect.unit ![4, 0] ![1, 512] inb_S31x512_S1x512_4_0)) (tile X 7) (View.ld f (Rect.unit ![5, 0] ![1, 512] inb_S31x512_S1x512_5_0))) (low X 8) (k0_pay13 (View.ld f (Rect.unit ![6, 0] ![1, 512] inb_S31x512_S1x512_6_0))) (tile X 9) (View.ld f (Rect.unit ![7, 0] ![1, 512] inb_S31x512_S1x512_7_0)) (tile X 10) (View.ld f (Rect.unit ![8, 0] ![1, 512] inb_S31x512_S1x512_8_0)) (tile X 11) (View.ld f (Rect.unit ![9, 0] ![1, 512] inb_S31x512_S1x512_9_0)) (tile X 12) (View.ld f (Rect.unit ![10, 0] ![1, 512] inb_S31x512_S1x512_10_0)) (tile X 13) (View.ld f (Rect.unit ![11, 0] ![1, 512] inb_S31x512_S1x512_11_0))) (tile X 14) (View.ld f (Rect.unit ![12, 0] ![1, 512] inb_S31x512_S1x512_12_0)) (tile X 15) (View.ld f (Rect.unit ![13, 0] ![1, 512] inb_S31x512_S1x512_13_0)) (low X 16) (View.ld f (Rect.unit ![14, 0] ![1, 512] inb_S31x512_S1x512_14_0)) (tile X 17) (View.ld f (Rect.unit ![15, 0] ![1, 512] inb_S31x512_S1x512_15_0)) (tile X 18) (View.ld f (Rect.unit ![16, 0] ![1, 512] inb_S31x512_S1x512_16_0))) (k0_pay16 (tile X 19) (View.ld f (Rect.unit ![17, 0] ![1, 512] inb_S31x512_S1x512_17_0))) (tile X 20) (View.ld f (Rect.unit ![18, 0] ![1, 512] inb_S31x512_S1x512_18_0)) (tile X 21) (View.ld f (Rect.unit ![19, 0] ![1, 512] inb_S31x512_S1x512_19_0)) (tile X 22) (View.ld f (Rect.unit ![20, 0] ![1, 512] inb_S31x512_S1x512_20_0)) (tile X 23) (View.ld f (Rect.unit ![21, 0] ![1, 512] inb_S31x512_S1x512_21_0)) (low X 24) (View.ld f (Rect.unit ![22, 0] ![1, 512] inb_S31x512_S1x512_22_0))) (k0_pay18 (tile X 25)) (View.ld f (Rect.unit ![23, 0] ![1, 512] inb_S31x512_S1x512_23_0)) (tile X 26) (View.ld f (Rect.unit ![24, 0] ![1, 512] inb_S31x512_S1x512_24_0)) (tile X 27) (View.ld f (Rect.unit ![25, 0] ![1, 512] inb_S31x512_S1x512_25_0)) (tile X 28) (View.ld f (Rect.unit ![26, 0] ![1, 512] inb_S31x512_S1x512_26_0)) (tile X 29) (View.ld f (Rect.unit ![27, 0] ![1, 512] inb_S31x512_S1x512_27_0)) (tile X 30) (View.ld f (Rect.unit ![28, 0] ![1, 512] inb_S31x512_S1x512_28_0)))

/-- The convolution at one entry. -/
def conv (r : Fin 512) (k : Fin 512) : EReal := sum31 (fun j => f (ix2 j k) * X (2 + j.val + r.val) k) + b (ix2 0 k)

theorem conv_all (r : Fin 512) (k : Fin 512) :
    most X f b (ix2 r k) + f (ix2 29 k) * tile X 31 (ix3 0 r k) + f (ix2 30 k) * low X 32 (ix2 r k) = conv X f b r k := by
  unfold conv
  rw [← sum31_from]
  unfold most
  pointwise [k0_pay19, k0_pay18, k0_pay17, k0_pay16, k0_pay15, k0_pay14, k0_pay13, k0_pay12, k0_pay11]
  rfl

/-- The normalised convolution times its logistic. -/
def act (g o : Vec Ideal S1x512 .f32) : FVec Ideal S512x512 .f32 := k0_pay20 (most X f b) (tile X 31) (View.ld f (Rect.unit ![29, 0] ![1, 512] inb_S31x512_S1x512_29_0)) (low X 32) (View.ld f (Rect.unit ![30, 0] ![1, 512] inb_S31x512_S1x512_30_0)) g o

theorem act_at (g o : Vec Ideal S1x512 .f32) (r : Fin 512) (k : Fin 512) :
    act X f b g o (ix2 r k) = swish (norm5 (conv X f b r) (g (ix2 0 k)) (o (ix2 0 k)) k) := by
  unfold act
  have e := conv_all X f b r
  generalize most X f b = w at e ⊢
  have e' : conv X f b r = fun k => w (ix2 r k) + f (ix2 29 k) * tile X 31 (ix3 0 r k) + f (ix2 30 k) * low X 32 (ix2 r k) := funext fun k => (e k).symm
  rw [e']
  pointwise [k0_pay20]
  rfl

end

variable (m : (ℓ : Loc nD τ sig) → Buf (Elt Ideal) ℓ) (c : Dev nD) (t : Fin cfg0.N)

/-- The rows point `t` convolves. -/
def rows : ℕ → Fin 512 → EReal := table (k0_pay2 (grid0.coords t) (iblk m c 2 t)) (k0_pay3 (iblk m c 1 t))

/-- The activated convolution of point `t`. -/
def acts : FVec Ideal S512x512 .f32 := act (rows m c t) (iblk m c 5 t) (iblk m c 6 t) (iblk m c 7 t) (iblk m c 8 t)

/-- Its row sums of squares. -/
def squares : FVec Ideal S512x1 .f32 := k0_pay21 (most (rows m c t) (iblk m c 5 t) (iblk m c 6 t)) (tile (rows m c t) 31) (View.ld (iblk m c 5 t) (Rect.unit ![29, 0] ![1, 512] inb_S31x512_S1x512_29_0)) (low (rows m c t) 32) (View.ld (iblk m c 5 t) (Rect.unit ![30, 0] ![1, 512] inb_S31x512_S1x512_30_0)) (iblk m c 7 t) (iblk m c 8 t)

theorem squares_at (r : Fin 512) : squares m c t (ix2 r 0) = ∑ x : Fin 512, acts m c t (ix2 r x) * acts m c t (ix2 r x) := by
  unfold squares acts act
  pointwise [k0_pay21]
  rfl

/-- The residual sum of point `t`. -/
def resid : FVec Ideal S512x1024 .f32 := k0_pay22 (acts m c t) (squares m c t) (Scalar.ofBits .f32 0x44000000#32) (iblk m c 10 t) (iblk m c 3 t)
  (iblk m c 9 t) (View.ld (iblk m c 11 t) (Rect.unit ![0, 0] ![512, 1024] inb_S1024x1024_S512x1024_0_0))
  (View.ld (iblk m c 11 t) (Rect.unit ![512, 0] ![512, 1024] inb_S1024x1024_S512x1024_512_0)) (iblk m c 0 t) (iblk m c 4 t)

theorem point : outsAt0 m c t = k0_pay1 (resid m c t) (iblk m c 12 t) (iblk m c 13 t) := by
  unfold outsAt0
  frame_out
  unfold resid squares acts act most rows
  generalize hh : k0_pay2 (grid0.coords t) (iblk m c 2 t) = h
  generalize hu : k0_pay3 (iblk m c 1 t) = u
  simp only [load_under, shift0, shift1, shift2, shift3, shift4, shift5, shift6, low_ld]
  simp (disch := decide) only [load_shifts, Nat.reduceAdd]
  rfl

end Cert.Kernel5Ideal.Mix
end
-- ==== Proof.MixFinal.lean ====
module

public import proofs.«01_k».proof.Proof.MixBlock
public import Idealize.ShloMosaic.Lib.Pipeline.ValueKit
public import Idealize.ShloMosaic.Lib.Claim

/-! The result array of the mixing call is the reference's. -/

@[expose] public section
set_option maxRecDepth 16384
noncomputable section
open Idealize.ShloMosaic Idealize.ShloMosaic.TcCoe Idealize.SL.Sem
open Idealize.ShloMosaic.Pipeline (Dat)
open Cert.Reference5Ideal.Mix (tap sum31 norm5 swish rms5 mean5 norm mean)
namespace Cert.Kernel5Ideal.Mix
open Cert.Kernel5Ideal Cert.Kernel5Ideal.Gen
open Cert.Reference5Ideal.Read

variable (m : (ℓ : Loc nD τ sig) → Buf (Elt Ideal) ℓ) (c : Dev nD) (t : Fin cfg0.N)

/-- Where each window's block sits at point `t = 16 b + i`. -/
theorem idx : ∀ t : Fin cfg0.N, win0_0.index t = ![t.val / 16, t.val % 16, 0] ∧ win0_1.index t = ![t.val / 16, t.val % 16, 0]
    ∧ win0_2.index t = ![t.val / 16, 16 * (t.val % 16) - 1, 0] ∧ win0_3.index t = ![t.val / 16, t.val % 16, 0]
    ∧ win0_4.index t = ![t.val / 16, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![t.val / 16, t.val % 16, 0] :=
  (by decide +kernel : ∀ t : Fin grid0.N, _)

theorem lt_points : t.val < 32 := lt_of_lt_of_eq t.isLt (show cfg0.N = 32 from N_0)

/-- The batch row of a grid point. -/
def bat : Fin 2 := ⟨t.val / 16, by have := lt_points t; omega⟩

/-- The sequence position of a row of a grid point's tile. -/
def pos (r : Fin 512) : Fin 8192 := ⟨512 * (t.val % 16) + r.val, by omega⟩

theorem x_at (r : Fin 512) (n : Fin 1024) : iblk m c 0 t (ix3 0 r n)
    = m ((c : Thread nD τ).loc main_arg0) (ix3 ⟨t.val / 16, by have := lt_points t; omega⟩ ⟨512 * (t.val % 16) + r.val, by omega⟩ n) := by
  have hN := lt_points t
  blk_point [iblk, V, idx t]

theorem u_at (r : Fin 512) (k : Fin 512) : iblk m c 1 t (ix3 0 r k)
    = m ((c : Thread nD τ).loc main_arg1) (ix3 ⟨t.val / 16, by have := lt_points t; omega⟩ ⟨512 * (t.val % 16) + r.val, by omega⟩ k) := by
  have hN := lt_points t
  blk_point [iblk, V, idx t]

theorem halo_at (r : Fin 32) (k : Fin 512) : iblk m c 2 t (ix3 0 r k)
    = m ((c : Thread nD τ).loc main_arg1)
        (ix3 ⟨t.val / 16, by have := lt_points t; omega⟩ ⟨32 * (16 * (t.val % 16) - 1) + r.val, by omega⟩ k) := by
  have hN := lt_points t
  blk_point [iblk, V, idx t]

theorem attn_at (r : Fin 512) (k : Fin 512) : iblk m c 3 t (ix3 0 r k)
    = m ((c : Thread nD τ).loc main_arg2) (ix3 ⟨t.val / 16, by have := lt_points t; omega⟩ ⟨512 * (t.val % 16) + r.val, by omega⟩ k) := by
  have hN := lt_points t
  blk_point [iblk, V, idx t]

theorem g1_at (n : Fin 1024) : iblk m c 4 t (ix3 0 0 n)
    = m ((c : Thread nD τ).loc main_arg3) (ix3 ⟨t.val / 16, by have := lt_points t; omega⟩ 0 n) := by
  have hN := lt_points t
  blk_point [iblk, V, idx t]

theorem dw_at (j : Fin 31) (k : Fin 512) : iblk m c 5 t (ix2 j k) = m ((c : Thread nD τ).loc main_arg4) (ix2 j k) := by
  have hN := lt_points t
  blk_point [iblk, V, idx t]

theorem bias_at (k : Fin 512) : iblk m c 6 t (ix2 0 k) = m ((c : Thread nD τ).loc main_arg5) (ix1 k) := by
  have hN := lt_points t
  blk_point [iblk, idx t]

theorem clg_at (k : Fin 512) : iblk m c 7 t (ix2 0 k) = m ((c : Thread nD τ).loc main_arg6) (ix1 k) := by
  have hN := lt_points t
  blk_point [iblk, idx t]

theorem clb_at (k : Fin 512) : iblk m c 8 t (ix2 0 k) = m ((c : Thread nD τ).loc main_arg7) (ix1 k) := by
  have hN := lt_points t
  blk_point [iblk, idx t]

theorem gsb_at (k : Fin 512) : iblk m c 9 t (ix2 0 k) = m ((c : Thread nD τ).loc main_arg8) (ix1 k) := by
  have hN := lt_points t
  blk_point [iblk, idx t]

theorem gcv_at (k : Fin 512) : iblk m c 10 t (ix2 0 k) = m ((c : Thread nD τ).loc main_arg9) (ix1 k) := by
  have hN := lt_points t
  blk_point [iblk, idx t]

theorem wout_at (j n : Fin 1024) : iblk m c 11 t (ix2 j n) = m ((c : Thread nD τ).loc main_arg10) (ix2 j n) := by
  have hN := lt_points t
  blk_point [iblk, idx t]

theorem lng_at (n : Fin 1024) : iblk m c 12 t (ix2 0 n) = m ((c : Thread nD τ).loc main_arg11) (ix1 n) := by
  have hN := lt_points t
  blk_point [iblk, idx t]

theorem lnb_at (n : Fin 1024) : iblk m c 13 t (ix2 0 n) = m ((c : Thread nD τ).loc main_arg12) (ix1 n) := by
  have hN := lt_points t
  blk_point [iblk, idx t]

/-- The padded input of the convolution. -/
abbrev M0 := val_main_v0 (F := Ideal) (m ((c : Thread nD τ).loc main_arg1))
/-- The convolution. -/
abbrev M221 := val_main_v221 (F := Ideal) (m ((c : Thread nD τ).loc main_arg1)) (m ((c : Thread nD τ).loc main_arg4)) (m ((c : Thread nD τ).loc main_arg5))
/-- The activated convolution. -/
abbrev M252 := val_main_v252 (F := Ideal) (m ((c : Thread nD τ).loc main_arg1)) (m ((c : Thread nD τ).loc main_arg4)) (m ((c : Thread nD τ).loc main_arg5))
  (m ((c : Thread nD τ).loc main_arg6)) (m ((c : Thread nD τ).loc main_arg7))
/-- The convolution branch. -/
abbrev M265 := val_main_v265 (F := Ideal) (m ((c : Thread nD τ).loc main_arg1)) (m ((c : Thread nD τ).loc main_arg4)) (m ((c : Thread nD τ).loc main_arg5))
  (m ((c : Thread nD τ).loc main_arg6)) (m ((c : Thread nD τ).loc main_arg7)) (m ((c : Thread nD τ).loc main_arg9))
/-- The residual sum. -/
abbrev M277 := val_main_v277 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))
/-- The normalised result. -/
abbrev M301 := val_main_v301 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))
  (m ((c : Thread nD τ).loc main_arg11)) (m ((c : Thread nD τ).loc main_arg12))

/-- The tile index of a grid point. -/
theorem tile_no : ∀ t : Fin cfg0.N, (grid0.coords t 1).val = t.val % 16 := (by decide +kernel : ∀ t : Fin grid0.N, _)

theorem halo_first (h0 : t.val % 16 = 0) (r : Fin 32) (k : Fin 512) : k0_pay2 (grid0.coords t) (iblk m c 2 t) (ix2 r k) = (0 : EReal) := by
  pointwise [k0_pay2, tile_no t, h0]

theorem halo_later (h0 : ¬ t.val % 16 = 0) (r : Fin 32) (k : Fin 512) :
    k0_pay2 (grid0.coords t) (iblk m c 2 t) (ix2 r k) = iblk m c 2 t (ix3 0 r k) := by
  have hN := lt_points t
  have e : ¬ BitVec.ofNat 32 (t.val % 16) = 0#32 := by
    intro h
    have := congrArg BitVec.toNat h
    simp at this
    omega
  have e' : Scalar.cmpi CmpIPredicate.eq (BitVec.ofNat 32 (t.val % 16)) 0#32 = 0#1 := by
    show BitVec.ofBool (BitVec.ofNat 32 (t.val % 16) == 0#32) = 0#1
    rw [beq_eq_false_iff_ne.mpr e]
    rfl
  pointwise [k0_pay2, tile_no t, e']

/-- The rows a point convolves are the padded input's. -/
theorem rows_eq (n : ℕ) (h : 2 ≤ n) (hn : n < 544) (k : Fin 512) (q : Fin 8222) (hq : q.val = 512 * (t.val % 16) + n - 2) :
    rows m c t n k = M0 m c (ix3 (bat t) q k) := by
  have hN := lt_points t
  obtain ⟨q, hq'⟩ := q
  dsimp only at hq
  subst hq
  unfold M0 rows table
  rw [Cert.Reference5Ideal.Mix.pad_at]
  by_cases h1 : n < 32
  · rw [dif_pos h1]
    by_cases h0 : t.val % 16 = 0
    · rw [halo_first m c t h0, dif_pos (by dsimp only; omega)]
    · rw [halo_later m c t h0, halo_at, dif_neg (by dsimp only; omega)]
      refine congrArg _ (congrArg (fun z => ix3 (bat t) z _) (Fin.ext ?_))
      dsimp only; omega
  · rw [dif_neg h1, dif_pos hn, dif_neg (by dsimp only; omega)]
    refine Eq.trans (b := iblk m c 1 t (ix3 0 ⟨n - 32, by omega⟩ k)) (by pointwise [k0_pay3]) ?_
    rw [u_at]
    refine congrArg _ (congrArg (fun z => ix3 (bat t) z _) (Fin.ext ?_))
    dsimp only; omega

theorem conv_eq (r k : Fin 512) : conv (rows m c t) (iblk m c 5 t) (iblk m c 6 t) r k = M221 m c (ix3 (bat t) (pos t r) k) := by
  unfold M221 conv
  rw [Cert.Reference5Ideal.Mix.conv_at, bias_at]
  refine congrArg (fun z : EReal => z + (_ : EReal)) (congrArg sum31 (funext fun j => ?_))
  unfold tap
  rw [dw_at, rows_eq m c t (2 + j.val + r.val) (by omega) (by omega) k ⟨j.val + (pos t r).val, by omega⟩
    (by show j.val + (512 * (t.val % 16) + r.val) = _; omega)]

theorem acts_eq (r k : Fin 512) : acts m c t (ix2 r k) = M252 m c (ix3 (bat t) (pos t r) k) := by
  unfold M252 acts
  rw [act_at, Cert.Reference5Ideal.Mix.swish_at, Cert.Reference5Ideal.Mix.norm_at, clg_at, clb_at]
  refine congrArg swish (congrArg (fun g => norm5 g _ _ k) (funext fun k => ?_))
  exact conv_eq m c t r k

theorem resid_eq (r : Fin 512) (n : Fin 1024) : resid m c t (ix2 r n) = M277 m c (ix3 (bat t) (pos t r) n) := by
  unfold M277
  rw [Cert.Reference5Ideal.Mix.res_at, Cert.Reference5Ideal.Mix.dot_at]
  have hs := squares_at m c t r
  have ha := fun k => acts_eq m c t r k
  simp only [ha] at hs
  unfold resid
  generalize acts m c t = a at ha ⊢
  generalize squares m c t = s at hs ⊢
  pointwise [k0_pay22]
  rw [x_at, g1_at]
  refine congrArg₂ _ rfl (congrArg₂ _ rfl (congrArg₂ _ (Finset.sum_congr rfl fun k _ => ?_) (Finset.sum_congr rfl fun k _ => ?_)))
  · rw [Cert.Reference5Ideal.Mix.gain_at, attn_at, gsb_at]
    exact congrArg (fun z : EReal => (_ : EReal) * z) (wout_at m c t _ n)
  · rw [Cert.Reference5Ideal.Mix.rms_at, ha, hs, gcv_at]
    exact congrArg (fun z : EReal => (_ : EReal) * z) (wout_at m c t _ n)

theorem outs_eq (r : Fin 512) (n : Fin 1024) : outsAt0 m c t (ix3 0 r n) = M301 m c (ix3 (bat t) (pos t r) n) := by
  unfold M301
  rw [point, Cert.Reference5Ideal.Mix.out_at]
  have e := fun n => resid_eq m c t r n
  generalize resid m c t = g at e ⊢
  pointwise [k0_pay1]
  simp only [e, lng_at, lnb_at]
  rfl

/-- The result array. -/
theorem final_out : (dats m 0 c).arrAt 14 (cfgs 0).N = M301 m c := by
  refine (dats m 0 c).arrAt_eq_of_covers 14 _ (by decide +kernel) fun t _ y => ?_
  blk_simp
  rw [after0_14]
  obtain ⟨z, r, n, rfl⟩ : ∃ (z : Fin 1) (r : Fin 512) (n : Fin 1024), y = ix3 z r n := ⟨y 0, y 1, y 2, eq_ix3 y⟩
  obtain rfl : z = 0 := Subsingleton.elim _ _
  rw [outs_eq]
  have e : ((View.whole main_v8).slice (win0_14.rect t)).emb (ix3 0 r n) = ix3 (bat t) (pos t r) n := by
    unfold bat pos
    blk_ext [idx t]
  rw [e]

end Cert.Kernel5Ideal.Mix
end
-- ==== Proof.MixClaim.lean ====
module

public import proofs.«01_k».proof.Proof.MixFinal
public import proofs.«01_k».proof.Proof.Gen.Reference5Ideal.Run

/-! The mixing call's result against the reference's. -/

@[expose] public section
set_option maxRecDepth 16384
noncomputable section
open Idealize.ShloMosaic Idealize.ShloMosaic.TcCoe Idealize.SL.Sem
namespace Cert.Proof.Mix
open Cert.Kernel5Ideal.Mix

/-- The reference leaves its arguments as they were, and no semaphore is raised. -/
theorem reference_frame : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- Over the extended reals the result is the reference's, at every argument. -/
theorem algebraic : Cert.algebraic_Kernel5Ideal_Reference5Ideal := by
  intro m ρ m' ρ' _ hagree
  refine ⟨fun c => _,
    (θ_run Cert.Kernel5Ideal.defs _ _).mono (fun _ h c => ⟨((h.1 c).1 14).trans (final_out m c), h.2 c⟩)
      (θ_run_and (Cert.Kernel5Ideal.Gen.run_main m ρ) (Cert.Kernel5Ideal.Gen.unchanged m ρ)), ?_⟩
  refine (θ_run Cert.Reference5Ideal.defs _ _).mono (fun _ h c => ?_) (Cert.Reference5Ideal.Value.run (F := Ideal) m' ρ')
  obtain ⟨e0, e1, e2, e3, e4, e5, e6, e7, e8, e9, e10, e11, e12⟩ := hagree c
  refine ⟨(h c).1.trans ?_, (h c).2⟩
  refine (Cert.Reference5Ideal.Read.val_main_v301_eq _).trans ?_
  show Cert.Reference5Ideal.Read.val_main_v301 (F := Ideal)
    (m' ((c.tc : Thread Cert.Reference5Ideal.nD Cert.Reference5Ideal.τ).loc Cert.Reference5Ideal.main_arg0))
    (m' ((c.tc : Thread Cert.Reference5Ideal.nD Cert.Reference5Ideal.τ).loc Cert.Reference5Ideal.main_arg1))
    (m' ((c.tc : Thread Cert.Reference5Ideal.nD Cert.Reference5Ideal.τ).loc Cert.Reference5Ideal.main_arg2))
    (m' ((c.tc : Thread Cert.Reference5Ideal.nD Cert.Reference5Ideal.τ).loc Cert.Reference5Ideal.main_arg3))
    (m' ((c.tc : Thread Cert.Reference5Ideal.nD Cert.Reference5Ideal.τ).loc Cert.Reference5Ideal.main_arg4))
    (m' ((c.tc : Thread Cert.Reference5Ideal.nD Cert.Reference5Ideal.τ).loc Cert.Reference5Ideal.main_arg5))
    (m' ((c.tc : Thread Cert.Reference5Ideal.nD Cert.Reference5Ideal.τ).loc Cert.Reference5Ideal.main_arg6))
    (m' ((c.tc : Thread Cert.Reference5Ideal.nD Cert.Reference5Ideal.τ).loc Cert.Reference5Ideal.main_arg7))
    (m' ((c.tc : Thread Cert.Reference5Ideal.nD Cert.Reference5Ideal.τ).loc Cert.Reference5Ideal.main_arg8))
    (m' ((c.tc : Thread Cert.Reference5Ideal.nD Cert.Reference5Ideal.τ).loc Cert.Reference5Ideal.main_arg9))
    (m' ((c.tc : Thread Cert.Reference5Ideal.nD Cert.Reference5Ideal.τ).loc Cert.Reference5Ideal.main_arg10))
    (m' ((c.tc : Thread Cert.Reference5Ideal.nD Cert.Reference5Ideal.τ).loc Cert.Reference5Ideal.main_arg11))
    (m' ((c.tc : Thread Cert.Reference5Ideal.nD Cert.Reference5Ideal.τ).loc Cert.Reference5Ideal.main_arg12)) = _
  rw [e0, e1, e2, e3, e4, e5, e6, e7, e8, e9, e10, e11, e12]

end Cert.Proof.Mix
end
-- ==== Proof.SMixBlock.lean ====
module

public import proofs.«01_k».proof.Proof.Gen.Kernel6Ideal.Frame
public import proofs.«01_k».proof.Proof.MixRef
public import proofs.«01_k».proof.Proof.Reads
public import Idealize.ShloMosaic.Lib.Pipeline.ValueKit
public import Idealize.ShloMosaic.Lib.Pipeline.ReadBack
public import Idealize.ShloMosaic.Lib.Pointwise

/-! What the mixing call of the sample leaves in its result block, as a function of its blocks. The scratch block holds the rows of one
    table, the state's rows over the new ones, and each tap of the convolution reads rows of the table. -/

@[expose] public section
set_option maxRecDepth 16384
noncomputable section
open Idealize.ShloMosaic Idealize.ShloMosaic.TcCoe Idealize.SL.Sem
open Idealize.ShloMosaic.Pipeline (Dat)
open Cert.Reads Cert.Reference5Ideal.Mix
namespace Cert.Kernel6Ideal.SMix
open Cert.Kernel6Ideal Cert.Kernel6Ideal.Gen

/-- The 256 new rows under the state's 960 rows. -/
def table (h : Vec Ideal S960x512 .f32) (u : Vec Ideal S256x512 .f32) (n : ℕ) (k : Fin 512) : EReal :=
  if h1 : n < 960 then h (ix2 ⟨n, h1⟩ k) else if h2 : n < 1216 then u (ix2 ⟨n - 960, by omega⟩ k) else 0

section
variable (X : ℕ → Fin 512 → EReal)

/-- The table as a block. -/
def under : Vec Ideal S1216x512 .f32 := fun y => X (y 0).val ⟨(y 1).val, (y 1).isLt⟩

/-- 256 rows of the table from row `o` on. -/
def low (o : ℕ) : Vec Ideal S256x512 .f32 := fun y => X (o + (y 0).val) ⟨(y 1).val, (y 1).isLt⟩

theorem low_ld (o : ℕ) (i : ∀ d, (![o, 0] : Fin 2 → ℕ) d + (![256, 512] : Fin 2 → ℕ) d ≤ S1216x512.size d) :
    View.ld (Val := Elt Ideal) (e' := .f32) (under X) (Rect.unit ![o, 0] ![256, 512] i) = low X o := by
  funext x
  show X ((Rect.unit (s := S1216x512) ![o, 0] ![256, 512] i).emb x 0).val ⟨((Rect.unit (s := S1216x512) ![o, 0] ![256, 512] i).emb x 1).val, _⟩ = _
  have e0 : ((Rect.unit (s := S1216x512) ![o, 0] ![256, 512] i).emb x 0).val = o + (x 0).val := Rect.idx_unit_val _ _ _ x 0
  have e1 : ((Rect.unit (s := S1216x512) ![o, 0] ![256, 512] i).emb x 1).val = 0 + (x 1).val := Rect.idx_unit_val _ _ _ x 1
  unfold low
  exact congrArg₂ X e0 (Fin.ext (e1.trans (Nat.zero_add _)))

section Loads
variable {κ : Kind} {sp : Space}

/-- A load from the scratch block after its two stores. -/
theorem load_under (v : View sig κ sp S1216x512 .f32) (h : Vec Ideal S960x512 .f32) (u : Vec Ideal S256x512 .f32) (R : Rect S1216x512) :
    v.readCov [⟨Rect.unit ![960, 0] ![256, 512] inb_S1216x512_S256x512_960_0, u⟩, ⟨Rect.unit ![0, 0] ![960, 512] inb_S1216x512_S960x512_0_0, h⟩]
      R.toLoadRect = View.ld (Val := Elt Ideal) (e' := .f32) (under (table h u)) R := by
  refine readCov_eq v (under (table h u)) _ _ ?_ fun x => ?_
  · intro q hq
    rcases List.mem_cons.mp hq with rfl | hq
    · intro x
      have e0 : ((Rect.unit (s := S1216x512) ![960, 0] ![256, 512] inb_S1216x512_S256x512_960_0).emb x 0).val = 960 + (x 0).val := Rect.idx_unit_val _ _ _ x 0
      have e1 : ((Rect.unit (s := S1216x512) ![960, 0] ![256, 512] inb_S1216x512_S256x512_960_0).emb x 1).val = 0 + (x 1).val := Rect.idx_unit_val _ _ _ x 1
      have l0 : (x 0).val < 256 := (x 0).isLt
      show u x = table h u ((Rect.unit (s := S1216x512) ![960, 0] ![256, 512] inb_S1216x512_S256x512_960_0).emb x 0).val
        ⟨((Rect.unit (s := S1216x512) ![960, 0] ![256, 512] inb_S1216x512_S256x512_960_0).emb x 1).val, _⟩
      unfold table
      rw [dif_neg (by omega), dif_pos (by omega)]
      refine congrArg u ((eq_ix2 x).trans (congrArg₂ ix2 (Fin.ext ?_) (Fin.ext ?_)))
      · show (x 0).val = ((Rect.unit (s := S1216x512) ![960, 0] ![256, 512] inb_S1216x512_S256x512_960_0).emb x 0).val - 960; omega
      · show (x 1).val = ((Rect.unit (s := S1216x512) ![960, 0] ![256, 512] inb_S1216x512_S256x512_960_0).emb x 1).val; omega
    rcases List.mem_cons.mp hq with rfl | hq
    · intro x
      have e0 : ((Rect.unit (s := S1216x512) ![0, 0] ![960, 512] inb_S1216x512_S960x512_0_0).emb x 0).val = 0 + (x 0).val := Rect.idx_unit_val _ _ _ x 0
      have e1 : ((Rect.unit (s := S1216x512) ![0, 0] ![960, 512] inb_S1216x512_S960x512_0_0).emb x 1).val = 0 + (x 1).val := Rect.idx_unit_val _ _ _ x 1
      have l0 : (x 0).val < 960 := (x 0).isLt
      show h x = table h u ((Rect.unit (s := S1216x512) ![0, 0] ![960, 512] inb_S1216x512_S960x512_0_0).emb x 0).val
        ⟨((Rect.unit (s := S1216x512) ![0, 0] ![960, 512] inb_S1216x512_S960x512_0_0).emb x 1).val, _⟩
      unfold table
      rw [dif_pos (by omega)]
      refine congrArg h ((eq_ix2 x).trans (congrArg₂ ix2 (Fin.ext ?_) (Fin.ext ?_)))
      · show (x 0).val = ((Rect.unit (s := S1216x512) ![0, 0] ![960, 512] inb_S1216x512_S960x512_0_0).emb x 0).val; omega
      · show (x 1).val = ((Rect.unit (s := S1216x512) ![0, 0] ![960, 512] inb_S1216x512_S960x512_0_0).emb x 1).val; omega
    · exact absurd hq List.not_mem_nil
  · generalize R.emb x = y
    have l0 : (y 0).val < 1216 := (y 0).isLt
    have l1 : (y 1).val < 512 := (y 1).isLt
    by_cases hy : (y 0).val < 960
    · exact (has_there _ _ _ (has_here _ _ _)).cover (Rect.mem_set_unit.mpr (Fin.forall_fin_two.mpr ⟨⟨by simp <;> omega, by simp <;> omega⟩, ⟨by simp <;> omega, by simp <;> omega⟩⟩))
    · exact (has_here _ _ _).cover (Rect.mem_set_unit.mpr (Fin.forall_fin_two.mpr ⟨⟨by simp <;> omega, by simp <;> omega⟩, ⟨by simp <;> omega, by simp <;> omega⟩⟩))

end Loads

variable (f : Vec Ideal S31x512 .f32) (b : Vec Ideal S1x512 .f32)

/-- The convolution without its last two taps, as the body builds it. -/
def most : FVec Ideal S256x512 .f32 := k0_pay9 (k0_pay8 (k0_pay7 (k0_pay5 (k0_pay4 b (low X 0) (View.ld f (Rect.unit ![0, 0] ![1, 512] inb_S31x512_S1x512_0_0)) (low X 32) (View.ld f (Rect.unit ![1, 0] ![1, 512] inb_S31x512_S1x512_1_0)) (low X 64) (View.ld f (Rect.unit ![2, 0] ![1, 512] inb_S31x512_S1x512_2_0))) (low X 96) (View.ld f (Rect.unit ![3, 0] ![1, 512] inb_S31x512_S1x512_3_0)) (low X 128) (View.ld f (Rect.unit ![4, 0] ![1, 512] inb_S31x512_S1x512_4_0)) (low X 160) (View.ld f (Rect.unit ![5, 0] ![1, 512] inb_S31x512_S1x512_5_0)) (low X 192) (View.ld f (Rect.unit ![6, 0] ![1, 512] inb_S31x512_S1x512_6_0)) (low X 224) (View.ld f (Rect.unit ![7, 0] ![1, 512] inb_S31x512_S1x512_7_0)) (low X 256) (View.ld f (Rect.unit ![8, 0] ![1, 512] inb_S31x512_S1x512_8_0))) (low X 288) (k0_pay6 (View.ld f (Rect.unit ![9, 0] ![1, 512] inb_S31x512_S1x512_9_0))) (low X 320) (View.ld f (Rect.unit ![10, 0] ![1, 512] inb_S31x512_S1x512_10_0)) (low X 352) (View.ld f (Rect.unit ![11, 0] ![1, 512] inb_S31x512_S1x512_11_0)) (low X 384) (View.ld f (Rect.unit ![12, 0] ![1, 512] inb_S31x512_S1x512_12_0)) (low X 416) (View.ld f (Rect.unit ![13, 0] ![1, 512] inb_S31x512_S1x512_13_0)) (low X 448) (View.ld f (Rect.unit ![14, 0] ![1, 512] inb_S31x512_S1x512_14_0)) (low X 480) (View.ld f (Rect.unit ![15, 0] ![1, 512] inb_S31x512_S1x512_15_0))) (low X 512) (View.ld f (Rect.unit ![16, 0] ![1, 512] inb_S31x512_S1x512_16_0)) (low X 544) (View.ld f (Rect.unit ![17, 0] ![1, 512] inb_S31x512_S1x512_17_0)) (low X 576) (View.ld f (Rect.unit ![18, 0] ![1, 512] inb_S31x512_S1x512_18_0)) (low X 608) (View.ld f (Rect.unit ![19, 0] ![1, 512] inb_S31x512_S1x512_19_0)) (low X 640) (View.ld f (Rect.unit ![20, 0] ![1, 512] inb_S31x512_S1x512_20_0)) (low X 672) (View.ld f (Rect.unit ![21, 0] ![1, 512] inb_S31x512_S1x512_21_0)) (low X 704) (View.ld f (Rect.unit ![22, 0] ![1, 512] inb_S31x512_S1x512_22_0))) (low X 736) (View.ld f (Rect.unit ![23, 0] ![1, 512] inb_S31x512_S1x512_23_0)) (low X 768) (View.ld f (Rect.unit ![24, 0] ![1, 512] inb_S31x512_S1x512_24_0)) (low X 800) (View.ld f (Rect.unit ![25, 0] ![1, 512] inb_S31x512_S1x512_25_0)) (low X 832) (View.ld f (Rect.unit ![26, 0] ![1, 512] inb_S31x512_S1x512_26_0)) (low X 864) (View.ld f (Rect.unit ![27, 0] ![1, 512] inb_S31x512_S1x512_27_0)) (low X 896) (View.ld f (Rect.unit ![28, 0] ![1, 512] inb_S31x512_S1x512_28_0))

/-- The convolution at one entry. -/
def conv (r : Fin 256) (k : Fin 512) : EReal := sum31 (fun j => f (ix2 j k) * X (32 * j.val + r.val) k) + b (ix2 0 k)

theorem conv_all (r : Fin 256) (k : Fin 512) :
    most X f b (ix2 r k) + f (ix2 29 k) * low X 928 (ix2 r k) + f (ix2 30 k) * low X 960 (ix2 r k) = conv X f b r k := by
  unfold conv
  rw [← sum31_from]
  unfold most
  pointwise [k0_pay9, k0_pay8, k0_pay7, k0_pay6, k0_pay5, k0_pay4]
  rw [show low X 0 (ix2 r k) = X r.val k from congrArg (fun n => X n k) (Nat.zero_add r.val)]
  rfl

/-- An entry of a row over the root of the row's mean square. -/
def unit5 (s : Fin 512 → EReal) (k : Fin 512) : EReal :=
  s k * Ideal.rsqrt (mean5 (fun x => s x * s x) + Ideal.ofBits .f32 0x3727C5AC#32)

/-- The normalised convolution times its logistic, over the root of its mean square. -/
def act (g o : Vec Ideal S1x512 .f32) : FVec Ideal S256x512 .f32 := k0_pay11 (most X f b) (low X 928) (k0_pay10 (View.ld f (Rect.unit ![29, 0] ![1, 512] inb_S31x512_S1x512_29_0))) (low X 960) (View.ld f (Rect.unit ![30, 0] ![1, 512] inb_S31x512_S1x512_30_0)) g o

theorem act_at (g o : Vec Ideal S1x512 .f32) (r : Fin 256) (k : Fin 512) :
    act X f b g o (ix2 r k) = unit5 (fun k => swish (norm5 (conv X f b r) (g (ix2 0 k)) (o (ix2 0 k)) k)) k := by
  unfold act
  have e := conv_all X f b r
  generalize most X f b = w at e ⊢
  have e' : conv X f b r = fun k => w (ix2 r k) + f (ix2 29 k) * low X 928 (ix2 r k) + f (ix2 30 k) * low X 960 (ix2 r k) := funext fun k => (e k).symm
  rw [e']
  pointwise [k0_pay11, k0_pay10]
  rfl

end

variable (m : (ℓ : Loc nD τ sig) → Buf (Elt Ideal) ℓ) (c : Dev nD) (t : Fin cfg0.N)

/-- The rows the call convolves. -/
def rows : ℕ → Fin 512 → EReal := table (k0_pay2 (iblk m c 2 t)) (k0_pay3 (iblk m c 1 t))

/-- The activated convolution. -/
def acts : FVec Ideal S256x512 .f32 := act (rows m c t) (iblk m c 5 t) (iblk m c 6 t) (iblk m c 7 t) (iblk m c 8 t)

/-- The residual sum. -/
def resid : FVec Ideal S256x1024 .f32 := k0_pay12 (acts m c t) (iblk m c 10 t) (iblk m c 3 t)
  (iblk m c 9 t) (View.ld (iblk m c 11 t) (Rect.unit ![0, 0] ![512, 1024] inb_S1024x1024_S512x1024_0_0))
  (View.ld (iblk m c 11 t) (Rect.unit ![512, 0] ![512, 1024] inb_S1024x1024_S512x1024_512_0)) (iblk m c 0 t) (iblk m c 4 t)

/-- Its row sums. -/
def sums (g : FVec Ideal S256x1024 .f32) : FVec Ideal S256x1 .f32 :=
  shapeCast S256x1 (multiReduction .add [1] S256 g 0x00000000#32 reduces_S256x1024_S256 (.inl rfl) rfl) shapeCasts_S256_S256x1

theorem point : outsAt0 m c t = k0_pay1 (resid m c t) (k0_pay13 (iblk m c 12 t)) (k0_pay14 (iblk m c 13 t)) (sums (resid m c t)) := by
  unfold outsAt0
  frame_out
  unfold resid acts act most rows
  generalize hh : k0_pay2 (iblk m c 2 t) = h
  generalize hu : k0_pay3 (iblk m c 1 t) = u
  simp only [load_under, low_ld]
  rfl

end Cert.Kernel6Ideal.SMix
end
-- ==== Proof.SMixRef.lean ====
module

public import proofs.«01_k».proof.Defs
public import proofs.«01_k».proof.Proof.Gen.Reference6Ideal.Read
public import proofs.«01_k».proof.Proof.MixRef
public import Idealize.ShloMosaic.Lib.Pointwise

/-! The stages of the reference mixing call of the sample, read at an index. -/

@[expose] public section
set_option maxRecDepth 16384
noncomputable section
open Idealize.ShloMosaic Idealize.ShloMosaic.TcCoe Idealize.SL.Sem
open Cert.Reference5Ideal.Mix (sum31 mean5 norm5 swish rms5 mean norm)
namespace Cert.Reference6Ideal.SMix
open Cert.Reference6Ideal Cert.Reference6Ideal.Read

variable (a0 : (⟨S32x8x1024, .f32⟩ : BufTy).Contents (Elt Ideal)) (a1 : (⟨S1x256x512, .f32⟩ : BufTy).Contents (Elt Ideal))
  (a2 : (⟨S32x8x512, .f32⟩ : BufTy).Contents (Elt Ideal)) (a3 : (⟨S32x1024, .f32⟩ : BufTy).Contents (Elt Ideal))
  (a4 : (⟨S32x30x512, .f32⟩ : BufTy).Contents (Elt Ideal)) (a5 : (⟨S31x512, .f32⟩ : BufTy).Contents (Elt Ideal))
  (a6 a7 a8 a9 a10 : (⟨S512, .f32⟩ : BufTy).Contents (Elt Ideal)) (a11 : (⟨S1024x1024, .f32⟩ : BufTy).Contents (Elt Ideal))
  (a12 a13 : (⟨S1024, .f32⟩ : BufTy).Contents (Elt Ideal))

theorem u_at (b : Fin 32) (t : Fin 8) (k : Fin 512) : val_main_v1 (F := Ideal) a1 (ix3 b t k) = a1 (ix3 0 ⟨t.val * 32 + b.val, by omega⟩ k) := by
  pointwise [val_main_v1, val_main_v0]

/-- The convolution's input: the state's thirty tokens, then the eight new ones. -/
theorem joined_at (b : Fin 32) (t : Fin 38) (k : Fin 512) :
    val_main_v2 (F := Ideal) a1 a4 (ix3 b t k)
      = if h : t.val < 30 then a4 (ix3 b ⟨t.val, h⟩ k) else val_main_v1 (F := Ideal) a1 (ix3 b ⟨t.val - 30, by omega⟩ k) := by
  pointwise [val_main_v2]

/-- One tap of the convolution. -/
def tap (b : Fin 32) (t : Fin 8) (k : Fin 512) (j : Fin 31) : EReal :=
  a5 (ix2 j k) * val_main_v2 (F := Ideal) a1 a4 (ix3 b ⟨j.val + t.val, by omega⟩ k)

theorem tap0 (b : Fin 32) (t : Fin 8) (k : Fin 512) : val_main_v10 (F := Ideal) a1 a4 a5 (ix3 b t k) = tap a1 a4 a5 b t k 0 := by
  unfold tap
  pointwise [val_main_v10, val_main_v9, val_main_v8, val_main_v7, val_main_v6, val_main_v5, val_main_v4, val_main_v3, val_main_cst]
  simp only [mul_comm]

theorem tap1 (b : Fin 32) (t : Fin 8) (k : Fin 512) :
    val_main_v17 (F := Ideal) a1 a4 a5 (ix3 b t k) = val_main_v10 (F := Ideal) a1 a4 a5 (ix3 b t k) + tap a1 a4 a5 b t k 1 := by
  unfold tap
  pointwise [val_main_v17, val_main_v16, val_main_v15, val_main_v14, val_main_v13, val_main_v12, val_main_v11]
  simp only [mul_comm]

theorem tap2 (b : Fin 32) (t : Fin 8) (k : Fin 512) :
    val_main_v24 (F := Ideal) a1 a4 a5 (ix3 b t k) = val_main_v17 (F := Ideal) a1 a4 a5 (ix3 b t k) + tap a1 a4 a5 b t k 2 := by
  unfold tap
  pointwise [val_main_v24, val_main_v23, val_main_v22, val_main_v21, val_main_v20, val_main_v19, val_main_v18]
  simp only [mul_comm]

theorem tap3 (b : Fin 32) (t : Fin 8) (k : Fin 512) :
    val_main_v31 (F := Ideal) a1 a4 a5 (ix3 b t k) = val_main_v24 (F := Ideal) a1 a4 a5 (ix3 b t k) + tap a1 a4 a5 b t k 3 := by
  unfold tap
  pointwise [val_main_v31, val_main_v30, val_main_v29, val_main_v28, val_main_v27, val_main_v26, val_main_v25]
  simp only [mul_comm]

theorem tap4 (b : Fin 32) (t : Fin 8) (k : Fin 512) :
    val_main_v38 (F := Ideal) a1 a4 a5 (ix3 b t k) = val_main_v31 (F := Ideal) a1 a4 a5 (ix3 b t k) + tap a1 a4 a5 b t k 4 := by
  unfold tap
  pointwise [val_main_v38, val_main_v37, val_main_v36, val_main_v35, val_main_v34, val_main_v33, val_main_v32]
  simp only [mul_comm]

theorem tap5 (b : Fin 32) (t : Fin 8) (k : Fin 512) :
    val_main_v45 (F := Ideal) a1 a4 a5 (ix3 b t k) = val_main_v38 (F := Ideal) a1 a4 a5 (ix3 b t k) + tap a1 a4 a5 b t k 5 := by
  unfold tap
  pointwise [val_main_v45, val_main_v44, val_main_v43, val_main_v42, val_main_v41, val_main_v40, val_main_v39]
  simp only [mul_comm]

theorem tap6 (b : Fin 32) (t : Fin 8) (k : Fin 512) :
    val_main_v52 (F := Ideal) a1 a4 a5 (ix3 b t k) = val_main_v45 (F := Ideal) a1 a4 a5 (ix3 b t k) + tap a1 a4 a5 b t k 6 := by
  unfold tap
  pointwise [val_main_v52, val_main_v51, val_main_v50, val_main_v49, val_main_v48, val_main_v47, val_main_v46]
  simp only [mul_comm]

theorem tap7 (b : Fin 32) (t : Fin 8) (k : Fin 512) :
    val_main_v59 (F := Ideal) a1 a4 a5 (ix3 b t k) = val_main_v52 (F := Ideal) a1 a4 a5 (ix3 b t k) + tap a1 a4 a5 b t k 7 := by
  unfold tap
  pointwise [val_main_v59, val_main_v58, val_main_v57, val_main_v56, val_main_v55, val_main_v54, val_main_v53]
  simp only [mul_comm]

theorem tap8 (b : Fin 32) (t : Fin 8) (k : Fin 512) :
    val_main_v66 (F := Ideal) a1 a4 a5 (ix3 b t k) = val_main_v59 (F := Ideal) a1 a4 a5 (ix3 b t k) + tap a1 a4 a5 b t k 8 := by
  unfold tap
  pointwise [val_main_v66, val_main_v65, val_main_v64, val_main_v63, val_main_v62, val_main_v61, val_main_v60]
  simp only [mul_comm]

theorem tap9 (b : Fin 32) (t : Fin 8) (k : Fin 512) :
    val_main_v73 (F := Ideal) a1 a4 a5 (ix3 b t k) = val_main_v66 (F := Ideal) a1 a4 a5 (ix3 b t k) + tap a1 a4 a5 b t k 9 := by
  unfold tap
  pointwise [val_main_v73, val_main_v72, val_main_v71, val_main_v70, val_main_v69, val_main_v68, val_main_v67]
  simp only [mul_comm]

theorem tap10 (b : Fin 32) (t : Fin 8) (k : Fin 512) :
    val_main_v80 (F := Ideal) a1 a4 a5 (ix3 b t k) = val_main_v73 (F := Ideal) a1 a4 a5 (ix3 b t k) + tap a1 a4 a5 b t k 10 := by
  unfold tap
  pointwise [val_main_v80, val_main_v79, val_main_v78, val_main_v77, val_main_v76, val_main_v75, val_main_v74]
  simp only [mul_comm]

theorem tap11 (b : Fin 32) (t : Fin 8) (k : Fin 512) :
    val_main_v87 (F := Ideal) a1 a4 a5 (ix3 b t k) = val_main_v80 (F := Ideal) a1 a4 a5 (ix3 b t k) + tap a1 a4 a5 b t k 11 := by
  unfold tap
  pointwise [val_main_v87, val_main_v86, val_main_v85, val_main_v84, val_main_v83, val_main_v82, val_main_v81]
  simp only [mul_comm]

theorem tap12 (b : Fin 32) (t : Fin 8) (k : Fin 512) :
    val_main_v94 (F := Ideal) a1 a4 a5 (ix3 b t k) = val_main_v87 (F := Ideal) a1 a4 a5 (ix3 b t k) + tap a1 a4 a5 b t k 12 := by
  unfold tap
  pointwise [val_main_v94, val_main_v93, val_main_v92, val_main_v91, val_main_v90, val_main_v89, val_main_v88]
  simp only [mul_comm]

theorem tap13 (b : Fin 32) (t : Fin 8) (k : Fin 512) :
    val_main_v101 (F := Ideal) a1 a4 a5 (ix3 b t k) = val_main_v94 (F := Ideal) a1 a4 a5 (ix3 b t k) + tap a1 a4 a5 b t k 13 := by
  unfold tap
  pointwise [val_main_v101, val_main_v100, val_main_v99, val_main_v98, val_main_v97, val_main_v96, val_main_v95]
  simp only [mul_comm]

theorem tap14 (b : Fin 32) (t : Fin 8) (k : Fin 512) :
    val_main_v108 (F := Ideal) a1 a4 a5 (ix3 b t k) = val_main_v101 (F := Ideal) a1 a4 a5 (ix3 b t k) + tap a1 a4 a5 b t k 14 := by
  unfold tap
  pointwise [val_main_v108, val_main_v107, val_main_v106, val_main_v105, val_main_v104, val_main_v103, val_main_v102]
  simp only [mul_comm]

theorem tap15 (b : Fin 32) (t : Fin 8) (k : Fin 512) :
    val_main_v115 (F := Ideal) a1 a4 a5 (ix3 b t k) = val_main_v108 (F := Ideal) a1 a4 a5 (ix3 b t k) + tap a1 a4 a5 b t k 15 := by
  unfold tap
  pointwise [val_main_v115, val_main_v114, val_main_v113, val_main_v112, val_main_v111, val_main_v110, val_main_v109]
  simp only [mul_comm]

theorem tap16 (b : Fin 32) (t : Fin 8) (k : Fin 512) :
    val_main_v122 (F := Ideal) a1 a4 a5 (ix3 b t k) = val_main_v115 (F := Ideal) a1 a4 a5 (ix3 b t k) + tap a1 a4 a5 b t k 16 := by
  unfold tap
  pointwise [val_main_v122, val_main_v121, val_main_v120, val_main_v119, val_main_v118, val_main_v117, val_main_v116]
  simp only [mul_comm]

theorem tap17 (b : Fin 32) (t : Fin 8) (k : Fin 512) :
    val_main_v129 (F := Ideal) a1 a4 a5 (ix3 b t k) = val_main_v122 (F := Ideal) a1 a4 a5 (ix3 b t k) + tap a1 a4 a5 b t k 17 := by
  unfold tap
  pointwise [val_main_v129, val_main_v128, val_main_v127, val_main_v126, val_main_v125, val_main_v124, val_main_v123]
  simp only [mul_comm]

theorem tap18 (b : Fin 32) (t : Fin 8) (k : Fin 512) :
    val_main_v136 (F := Ideal) a1 a4 a5 (ix3 b t k) = val_main_v129 (F := Ideal) a1 a4 a5 (ix3 b t k) + tap a1 a4 a5 b t k 18 := by
  unfold tap
  pointwise [val_main_v136, val_main_v135, val_main_v134, val_main_v133, val_main_v132, val_main_v131, val_main_v130]
  simp only [mul_comm]

theorem tap19 (b : Fin 32) (t : Fin 8) (k : Fin 512) :
    val_main_v143 (F := Ideal) a1 a4 a5 (ix3 b t k) = val_main_v136 (F := Ideal) a1 a4 a5 (ix3 b t k) + tap a1 a4 a5 b t k 19 := by
  unfold tap
  pointwise [val_main_v143, val_main_v142, val_main_v141, val_main_v140, val_main_v139, val_main_v138, val_main_v137]
  simp only [mul_comm]

theorem tap20 (b : Fin 32) (t : Fin 8) (k : Fin 512) :
    val_main_v150 (F := Ideal) a1 a4 a5 (ix3 b t k) = val_main_v143 (F := Ideal) a1 a4 a5 (ix3 b t k) + tap a1 a4 a5 b t k 20 := by
  unfold tap
  pointwise [val_main_v150, val_main_v149, val_main_v148, val_main_v147, val_main_v146, val_main_v145, val_main_v144]
  simp only [mul_comm]

theorem tap21 (b : Fin 32) (t : Fin 8) (k : Fin 512) :
    val_main_v157 (F := Ideal) a1 a4 a5 (ix3 b t k) = val_main_v150 (F := Ideal) a1 a4 a5 (ix3 b t k) + tap a1 a4 a5 b t k 21 := by
  unfold tap
  pointwise [val_main_v157, val_main_v156, val_main_v155, val_main_v154, val_main_v153, val_main_v152, val_main_v151]
  simp only [mul_comm]

theorem tap22 (b : Fin 32) (t : Fin 8) (k : Fin 512) :
    val_main_v164 (F := Ideal) a1 a4 a5 (ix3 b t k) = val_main_v157 (F := Ideal) a1 a4 a5 (ix3 b t k) + tap a1 a4 a5 b t k 22 := by
  unfold tap
  pointwise [val_main_v164, val_main_v163, val_main_v162, val_main_v161, val_main_v160, val_main_v159, val_main_v158]
  simp only [mul_comm]

theorem tap23 (b : Fin 32) (t : Fin 8) (k : Fin 512) :
    val_main_v171 (F := Ideal) a1 a4 a5 (ix3 b t k) = val_main_v164 (F := Ideal) a1 a4 a5 (ix3 b t k) + tap a1 a4 a5 b t k 23 := by
  unfold tap
  pointwise [val_main_v171, val_main_v170, val_main_v169, val_main_v168, val_main_v167, val_main_v166, val_main_v165]
  simp only [mul_comm]

theorem tap24 (b : Fin 32) (t : Fin 8) (k : Fin 512) :
    val_main_v178 (F := Ideal) a1 a4 a5 (ix3 b t k) = val_main_v171 (F := Ideal) a1 a4 a5 (ix3 b t k) + tap a1 a4 a5 b t k 24 := by
  unfold tap
  pointwise [val_main_v178, val_main_v177, val_main_v176, val_main_v175, val_main_v174, val_main_v173, val_main_v172]
  simp only [mul_comm]

theorem tap25 (b : Fin 32) (t : Fin 8) (k : Fin 512) :
    val_main_v185 (F := Ideal) a1 a4 a5 (ix3 b t k) = val_main_v178 (F := Ideal) a1 a4 a5 (ix3 b t k) + tap a1 a4 a5 b t k 25 := by
  unfold tap
  pointwise [val_main_v185, val_main_v184, val_main_v183, val_main_v182, val_main_v181, val_main_v180, val_main_v179]
  simp only [mul_comm]

theorem tap26 (b : Fin 32) (t : Fin 8) (k : Fin 512) :
    val_main_v192 (F := Ideal) a1 a4 a5 (ix3 b t k) = val_main_v185 (F := Ideal) a1 a4 a5 (ix3 b t k) + tap a1 a4 a5 b t k 26 := by
  unfold tap
  pointwise [val_main_v192, val_main_v191, val_main_v190, val_main_v189, val_main_v188, val_main_v187, val_main_v186]
  simp only [mul_comm]

theorem tap27 (b : Fin 32) (t : Fin 8) (k : Fin 512) :
    val_main_v199 (F := Ideal) a1 a4 a5 (ix3 b t k) = val_main_v192 (F := Ideal) a1 a4 a5 (ix3 b t k) + tap a1 a4 a5 b t k 27 := by
  unfold tap
  pointwise [val_main_v199, val_main_v198, val_main_v197, val_main_v196, val_main_v195, val_main_v194, val_main_v193]
  simp only [mul_comm]

theorem tap28 (b : Fin 32) (t : Fin 8) (k : Fin 512) :
    val_main_v206 (F := Ideal) a1 a4 a5 (ix3 b t k) = val_main_v199 (F := Ideal) a1 a4 a5 (ix3 b t k) + tap a1 a4 a5 b t k 28 := by
  unfold tap
  pointwise [val_main_v206, val_main_v205, val_main_v204, val_main_v203, val_main_v202, val_main_v201, val_main_v200]
  simp only [mul_comm]

theorem tap29 (b : Fin 32) (t : Fin 8) (k : Fin 512) :
    val_main_v213 (F := Ideal) a1 a4 a5 (ix3 b t k) = val_main_v206 (F := Ideal) a1 a4 a5 (ix3 b t k) + tap a1 a4 a5 b t k 29 := by
  unfold tap
  pointwise [val_main_v213, val_main_v212, val_main_v211, val_main_v210, val_main_v209, val_main_v208, val_main_v207]
  simp only [mul_comm]

theorem tap30 (b : Fin 32) (t : Fin 8) (k : Fin 512) :
    val_main_v220 (F := Ideal) a1 a4 a5 (ix3 b t k) = val_main_v213 (F := Ideal) a1 a4 a5 (ix3 b t k) + tap a1 a4 a5 b t k 30 := by
  unfold tap
  pointwise [val_main_v220, val_main_v219, val_main_v218, val_main_v217, val_main_v216, val_main_v215, val_main_v214]
  simp only [mul_comm]

theorem conv_at (b : Fin 32) (t : Fin 8) (k : Fin 512) :
    val_main_v223 (F := Ideal) a1 a4 a5 a6 (ix3 b t k) = sum31 (tap a1 a4 a5 b t k) + a6 (ix1 k) := by
  have e : val_main_v223 (F := Ideal) a1 a4 a5 a6 (ix3 b t k) = val_main_v220 (F := Ideal) a1 a4 a5 (ix3 b t k) + a6 (ix1 k) := by
    pointwise [val_main_v223, val_main_v222, val_main_v221]
  rw [e, tap30, tap29, tap28, tap27, tap26, tap25, tap24, tap23, tap22, tap21, tap20, tap19, tap18, tap17, tap16, tap15, tap14,
    tap13, tap12, tap11, tap10, tap9, tap8, tap7, tap6, tap5, tap4, tap3, tap2, tap1, tap0]
  rfl

theorem norm_at (b : Fin 32) (t : Fin 8) (k : Fin 512) :
    val_main_v247 (F := Ideal) a1 a4 a5 a6 a7 a8 (ix3 b t k)
      = norm5 (fun k => val_main_v223 (F := Ideal) a1 a4 a5 a6 (ix3 b t k)) (a7 (ix1 k)) (a8 (ix1 k)) k := by
  pointwise [val_main_v247, val_main_v246, val_main_v245, val_main_v244, val_main_v243, val_main_v242, val_main_v241,
    val_main_v240, val_main_v239, val_main_v238, val_main_v237, val_main_v236, val_main_v235, val_main_v234, val_main_v233,
    val_main_v232, val_main_v231, val_main_v230, val_main_v229, val_main_v228, val_main_v227, val_main_v226, val_main_v225,
    val_main_v224, val_main_cst_0, val_main_cst_1, val_main_cst_2, val_main_cst_3, val_main_cst_4]
  rfl

theorem swish_at (b : Fin 32) (t : Fin 8) (k : Fin 512) :
    val_main_v254 (F := Ideal) a1 a4 a5 a6 a7 a8 (ix3 b t k) = swish (val_main_v247 (F := Ideal) a1 a4 a5 a6 a7 a8 (ix3 b t k)) := by
  pointwise [val_main_v254, val_main_v253, val_main_v252, val_main_v251, val_main_v250, val_main_v249, val_main_v248, val_main_cst_5, val_main_cst_6]
  rfl

theorem rms_at (b : Fin 32) (t : Fin 8) (k : Fin 512) :
    val_main_v267 (F := Ideal) a1 a4 a5 a6 a7 a8 a10 (ix3 b t k)
      = rms5 (fun k => val_main_v254 (F := Ideal) a1 a4 a5 a6 a7 a8 (ix3 b t k)) (a10 (ix1 k)) k := by
  pointwise [val_main_v267, val_main_v266, val_main_v265, val_main_v264, val_main_v263, val_main_v262, val_main_v261,
    val_main_v260, val_main_v259, val_main_v258, val_main_v257, val_main_v256, val_main_v255, val_main_cst_7, val_main_cst_8, val_main_cst_9]
  rfl

theorem gain_at (b : Fin 32) (t : Fin 8) (k : Fin 512) : val_main_v270 (F := Ideal) a2 a9 (ix3 b t k) = a2 (ix3 b t k) * a9 (ix1 k) := by
  pointwise [val_main_v270, val_main_v269, val_main_v268]

theorem both_at (b : Fin 32) (t : Fin 8) (n : Fin 1024) :
    val_main_v272 (F := Ideal) a1 a2 a4 a5 a6 a7 a8 a9 a10 a11 (ix3 b t n)
      = ∑ k : Fin 1024, val_main_v271 (F := Ideal) a1 a2 a4 a5 a6 a7 a8 a9 a10 (ix3 b t k) * a11 (ix2 k n) := by
  pointwise [val_main_v272]

theorem left_at (b : Fin 32) (t : Fin 8) (k : Fin 512) : val_main_v271 (F := Ideal) a1 a2 a4 a5 a6 a7 a8 a9 a10 (ix3 b t ⟨k.val, by omega⟩)
    = val_main_v270 (F := Ideal) a2 a9 (ix3 b t k) := by
  pointwise [val_main_v271]

theorem right_at (b : Fin 32) (t : Fin 8) (k : Fin 512) : val_main_v271 (F := Ideal) a1 a2 a4 a5 a6 a7 a8 a9 a10 (ix3 b t ⟨512 + k.val, by omega⟩)
    = val_main_v267 (F := Ideal) a1 a4 a5 a6 a7 a8 a10 (ix3 b t k) := by
  pointwise [val_main_v271]

/-- The product of the two parts side by side is the sum of their products with the two halves of the weight. -/
theorem dot_at (b : Fin 32) (t : Fin 8) (n : Fin 1024) :
    val_main_v272 (F := Ideal) a1 a2 a4 a5 a6 a7 a8 a9 a10 a11 (ix3 b t n)
      = (∑ k : Fin 512, val_main_v270 (F := Ideal) a2 a9 (ix3 b t k) * a11 (ix2 ⟨k.val, by omega⟩ n))
        + ∑ k : Fin 512, val_main_v267 (F := Ideal) a1 a4 a5 a6 a7 a8 a10 (ix3 b t k) * a11 (ix2 ⟨512 + k.val, by omega⟩ n) := by
  rw [both_at]
  refine (Fin.sum_univ_add (a := 512) (b := 512) _).trans (congrArg₂ _ (Finset.sum_congr rfl fun k _ => ?_) (Finset.sum_congr rfl fun k _ => ?_))
  · exact congrArg (fun z : EReal => z * (_ : EReal)) (left_at a1 a2 a4 a5 a6 a7 a8 a9 a10 b t k)
  · exact congrArg (fun z : EReal => z * (_ : EReal)) (right_at a1 a2 a4 a5 a6 a7 a8 a9 a10 b t k)

theorem res_at (b : Fin 32) (t : Fin 8) (n : Fin 1024) :
    val_main_v280 (F := Ideal) a0 a1 a2 a3 a4 a5 a6 a7 a8 a9 a10 a11 (ix3 b t n)
      = Ideal.ofBits .f32 0x3F9837F0#32 * a0 (ix3 b t n)
        + (1 + a3 (ix2 b n)) * val_main_v272 (F := Ideal) a1 a2 a4 a5 a6 a7 a8 a9 a10 a11 (ix3 b t n) := by
  pointwise [val_main_v280, val_main_v279, val_main_v278, val_main_v277, val_main_v276, val_main_v275, val_main_v274, val_main_v273, val_main_cst_10, val_main_cst_11]

theorem out_at (b : Fin 32) (t : Fin 8) (n : Fin 1024) :
    val_main_v304 (F := Ideal) a0 a1 a2 a3 a4 a5 a6 a7 a8 a9 a10 a11 a12 a13 (ix3 b t n)
      = norm (fun n => val_main_v280 (F := Ideal) a0 a1 a2 a3 a4 a5 a6 a7 a8 a9 a10 a11 (ix3 b t n)) (a12 (ix1 n)) (a13 (ix1 n)) n := by
  pointwise [val_main_v304, val_main_v303, val_main_v302, val_main_v301, val_main_v300, val_main_v299, val_main_v298,
    val_main_v297, val_main_v296, val_main_v295, val_main_v294, val_main_v293, val_main_v292, val_main_v291, val_main_v290,
    val_main_v289, val_main_v288, val_main_v287, val_main_v286, val_main_v285, val_main_v284, val_main_v283, val_main_v282,
    val_main_v281, val_main_cst_12, val_main_cst_13, val_main_cst_14, val_main_cst_15, val_main_cst_16]
  rfl

theorem listed_at (r : Fin 256) (n : Fin 1024) :
    val_main_v306 (F := Ideal) a0 a1 a2 a3 a4 a5 a6 a7 a8 a9 a10 a11 a12 a13 (ix3 0 r n)
      = val_main_v304 (F := Ideal) a0 a1 a2 a3 a4 a5 a6 a7 a8 a9 a10 a11 a12 a13 (ix3 ⟨r.val % 32, by omega⟩ ⟨r.val / 32, by omega⟩ n) := by
  pointwise [val_main_v306, val_main_v305]

end Cert.Reference6Ideal.SMix
end
-- ==== Proof.SMixFinal.lean ====
module

public import proofs.«01_k».proof.Proof.SMixBlock
public import proofs.«01_k».proof.Proof.SMixRef
public import Idealize.ShloMosaic.Lib.Pipeline.ValueKit
public import Idealize.ShloMosaic.Lib.Claim
public import Idealize.ShloMosaic.Lib.Pointwise

/-! The result array of the sample's mixing call is the reference's. -/

@[expose] public section
set_option maxRecDepth 16384
noncomputable section
open Idealize.ShloMosaic Idealize.ShloMosaic.TcCoe Idealize.SL.Sem
open Idealize.ShloMosaic.Pipeline (Dat)
open Cert.Reference5Ideal.Mix (sum31 norm5 swish rms5 mean5 norm mean)
open Cert.Reference6Ideal.SMix (tap)
namespace Cert.Kernel6Ideal.SMix
open Cert.Kernel6Ideal Cert.Kernel6Ideal.Gen
open Cert.Reference6Ideal.Read

variable (m : (ℓ : Loc nD τ sig) → Buf (Elt Ideal) ℓ) (c : Dev nD) (t : Fin cfg0.N)

/-- Every window's block is its whole array. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0, 0] :=
  (by decide +kernel : ∀ t : Fin grid0.N, _)

/-- The sequence of a row of the time-major listing. -/
def bat (r : Fin 256) : Fin 32 := ⟨r.val % 32, by omega⟩

/-- The token of a row of the time-major listing. -/
def tok (r : Fin 256) : Fin 8 := ⟨r.val / 32, by omega⟩

theorem cast_rows (v : S256x1024.Idx → EReal) (r : Fin 256) (k : Fin 1024) :
    shapeCast S1x256x1024 v shapeCasts_S256x1024_S1x256x1024 (ix3 0 r k) = v (ix2 r k) := by
  pointwise

theorem cast_time (v : S8x32x1x1024.Idx → EReal) (r : Fin 256) (k : Fin 1024) :
    shapeCast S256x1024 v shapeCasts_S8x32x1x1024_S256x1024 (ix2 r k) = v (ix4 (tok r) (bat r) 0 k) := by
  unfold tok bat
  pointwise

theorem cast_spread (v : S32x1024.Idx → EReal) (s : Fin 8) (b : Fin 32) (k : Fin 1024) :
    broadcastInDim S8x32x1x1024 ![0, 1, 2, 3] bcast_S1x32x1x1024_S8x32x1x1024_0_1_2_3 (shapeCast S1x32x1x1024 v shapeCasts_S32x1024_S1x32x1x1024) (ix4 s b 0 k)
      = v (ix2 b k) := by
  pointwise

theorem V_v9 : V m c main_v9 = shapeCast S1x256x1024 (transpose S8x32x1024 [1, 0, 2] (m ((c : Thread nD τ).loc main_arg0)) transposes_S32x8x1024_S8x32x1024_1_0_2)
    shapeCasts_S8x32x1024_S1x256x1024 := by
  show StableHlo.after (hostOps0 ++ []) (fun b => m (c, b)) (Proc.devRef .tc main_v9) = _
  simp only [List.cons_append, List.nil_append]
  after_results_simp
  rfl

theorem V_v9_at (r : Fin 256) (k : Fin 1024) : V m c main_v9 (ix3 0 r k)
    = m ((c : Thread nD τ).loc main_arg0) (ix3 ⟨r.val % 32, by omega⟩ ⟨r.val / 32, by omega⟩ k) := by
  rw [V_v9]
  pointwise

theorem x_at (r : Fin 256) (k : Fin 1024) : iblk m c 0 t (ix3 0 r k)
    = m ((c : Thread nD τ).loc main_arg0) (ix3 ⟨r.val % 32, by omega⟩ ⟨r.val / 32, by omega⟩ k) := by
  blk_simp [iblk]
  have e : ((cfg0.win 0).blk t).view.emb (ix3 0 r k) = ix3 0 r k := by
    blk_ext [idx t]
  refine Eq.trans ?_ (V_v9_at m c r k)
  exact congrArg (V m c main_v9) e

theorem u_at (r : Fin 256) (k : Fin 512) : iblk m c 1 t (ix3 0 r k) = m ((c : Thread nD τ).loc main_arg1) (ix3 0 r k) := by
  blk_point [iblk, V, idx t]

theorem V_v11 : V m c main_v11 = shapeCast S1x960x512 (transpose S30x32x512 [1, 0, 2] (m ((c : Thread nD τ).loc main_arg4)) transposes_S32x30x512_S30x32x512_1_0_2)
    shapeCasts_S30x32x512_S1x960x512 := by
  show StableHlo.after (hostOps0 ++ []) (fun b => m (c, b)) (Proc.devRef .tc main_v11) = _
  simp only [List.cons_append, List.nil_append]
  after_results_simp
  rfl

theorem V_v11_at (r : Fin 960) (k : Fin 512) : V m c main_v11 (ix3 0 r k)
    = m ((c : Thread nD τ).loc main_arg4) (ix3 ⟨r.val % 32, by omega⟩ ⟨r.val / 32, by omega⟩ k) := by
  rw [V_v11]
  pointwise

theorem halo_at (r : Fin 960) (k : Fin 512) : iblk m c 2 t (ix3 0 r k)
    = m ((c : Thread nD τ).loc main_arg4) (ix3 ⟨r.val % 32, by omega⟩ ⟨r.val / 32, by omega⟩ k) := by
  blk_simp [iblk]
  have e : ((cfg0.win 2).blk t).view.emb (ix3 0 r k) = ix3 0 r k := by
    blk_ext [idx t]
  refine Eq.trans ?_ (V_v11_at m c r k)
  exact congrArg (V m c main_v11) e

theorem V_v13 : V m c main_v13 = shapeCast S1x256x512 (transpose S8x32x512 [1, 0, 2] (m ((c : Thread nD τ).loc main_arg2)) transposes_S32x8x512_S8x32x512_1_0_2)
    shapeCasts_S8x32x512_S1x256x512 := by
  show StableHlo.after (hostOps0 ++ []) (fun b => m (c, b)) (Proc.devRef .tc main_v13) = _
  simp only [List.cons_append, List.nil_append]
  after_results_simp
  rfl

theorem V_v13_at (r : Fin 256) (k : Fin 512) : V m c main_v13 (ix3 0 r k)
    = m ((c : Thread nD τ).loc main_arg2) (ix3 ⟨r.val % 32, by omega⟩ ⟨r.val / 32, by omega⟩ k) := by
  rw [V_v13]
  pointwise

theorem attn_at (r : Fin 256) (k : Fin 512) : iblk m c 3 t (ix3 0 r k)
    = m ((c : Thread nD τ).loc main_arg2) (ix3 ⟨r.val % 32, by omega⟩ ⟨r.val / 32, by omega⟩ k) := by
  blk_simp [iblk]
  have e : ((cfg0.win 3).blk t).view.emb (ix3 0 r k) = ix3 0 r k := by
    blk_ext [idx t]
  refine Eq.trans ?_ (V_v13_at m c r k)
  exact congrArg (V m c main_v13) e

theorem V_v17 : V m c main_v17 = shapeCast S1x256x1024 (shapeCast S256x1024 (broadcastInDim S8x32x1x1024 ![0, 1, 2, 3] bcast_S1x32x1x1024_S8x32x1x1024_0_1_2_3
    (shapeCast S1x32x1x1024 (m ((c : Thread nD τ).loc main_arg3)) shapeCasts_S32x1024_S1x32x1x1024)) shapeCasts_S8x32x1x1024_S256x1024) shapeCasts_S256x1024_S1x256x1024 := by
  show StableHlo.after (hostOps0 ++ []) (fun b => m (c, b)) (Proc.devRef .tc main_v17) = _
  simp only [List.cons_append, List.nil_append]
  after_results_simp
  rfl

theorem V_v17_at (r : Fin 256) (k : Fin 1024) : V m c main_v17 (ix3 0 r k)
    = m ((c : Thread nD τ).loc main_arg3) (ix2 (bat r) k) := by
  rw [V_v17, cast_rows, cast_time, cast_spread]

theorem g1_at (r : Fin 256) (k : Fin 1024) : iblk m c 4 t (ix3 0 r k)
    = m ((c : Thread nD τ).loc main_arg3) (ix2 (bat r) k) := by
  blk_simp [iblk]
  have e : ((cfg0.win 4).blk t).view.emb (ix3 0 r k) = ix3 0 r k := by
    blk_ext [idx t]
  refine Eq.trans ?_ (V_v17_at m c r k)
  exact congrArg (V m c main_v17) e

theorem dw_at (j : Fin 31) (k : Fin 512) : iblk m c 5 t (ix2 j k) = m ((c : Thread nD τ).loc main_arg5) (ix2 j k) := by
  blk_point [iblk, V, idx t]

theorem V_v0 : V m c main_v0 = shapeCast S1x512 (m ((c : Thread nD τ).loc main_arg6)) shapeCasts_S512_S1x512 := by
  show StableHlo.after (hostOps0 ++ []) (fun b => m (c, b)) (Proc.devRef .tc main_v0) = _
  simp only [List.cons_append, List.nil_append]
  after_results_simp
  rfl

theorem V_v0_at (k : Fin 512) : V m c main_v0 (ix2 0 k)
    = m ((c : Thread nD τ).loc main_arg6) (ix1 k) := by
  rw [V_v0]
  pointwise

theorem bias_at (k : Fin 512) : iblk m c 6 t (ix2 0 k)
    = m ((c : Thread nD τ).loc main_arg6) (ix1 k) := by
  blk_simp [iblk]
  have e : ((cfg0.win 6).blk t).view.emb (ix2 0 k) = ix2 0 k := by
    blk_ext [idx t]
  refine Eq.trans ?_ (V_v0_at m c k)
  exact congrArg (V m c main_v0) e

theorem V_v1 : V m c main_v1 = shapeCast S1x512 (m ((c : Thread nD τ).loc main_arg7)) shapeCasts_S512_S1x512 := by
  show StableHlo.after (hostOps0 ++ []) (fun b => m (c, b)) (Proc.devRef .tc main_v1) = _
  simp only [List.cons_append, List.nil_append]
  after_results_simp
  rfl

theorem V_v1_at (k : Fin 512) : V m c main_v1 (ix2 0 k)
    = m ((c : Thread nD τ).loc main_arg7) (ix1 k) := by
  rw [V_v1]
  pointwise

theorem clg_at (k : Fin 512) : iblk m c 7 t (ix2 0 k)
    = m ((c : Thread nD τ).loc main_arg7) (ix1 k) := by
  blk_simp [iblk]
  have e : ((cfg0.win 7).blk t).view.emb (ix2 0 k) = ix2 0 k := by
    blk_ext [idx t]
  refine Eq.trans ?_ (V_v1_at m c k)
  exact congrArg (V m c main_v1) e

theorem V_v2 : V m c main_v2 = shapeCast S1x512 (m ((c : Thread nD τ).loc main_arg8)) shapeCasts_S512_S1x512 := by
  show StableHlo.after (hostOps0 ++ []) (fun b => m (c, b)) (Proc.devRef .tc main_v2) = _
  simp only [List.cons_append, List.nil_append]
  after_results_simp
  rfl

theorem V_v2_at (k : Fin 512) : V m c main_v2 (ix2 0 k)
    = m ((c : Thread nD τ).loc main_arg8) (ix1 k) := by
  rw [V_v2]
  pointwise

theorem clb_at (k : Fin 512) : iblk m c 8 t (ix2 0 k)
    = m ((c : Thread nD τ).loc main_arg8) (ix1 k) := by
  blk_simp [iblk]
  have e : ((cfg0.win 8).blk t).view.emb (ix2 0 k) = ix2 0 k := by
    blk_ext [idx t]
  refine Eq.trans ?_ (V_v2_at m c k)
  exact congrArg (V m c main_v2) e

theorem V_v3 : V m c main_v3 = shapeCast S1x512 (m ((c : Thread nD τ).loc main_arg9)) shapeCasts_S512_S1x512 := by
  show StableHlo.after (hostOps0 ++ []) (fun b => m (c, b)) (Proc.devRef .tc main_v3) = _
  simp only [List.cons_append, List.nil_append]
  after_results_simp
  rfl

theorem V_v3_at (k : Fin 512) : V m c main_v3 (ix2 0 k)
    = m ((c : Thread nD τ).loc main_arg9) (ix1 k) := by
  rw [V_v3]
  pointwise

theorem gsb_at (k : Fin 512) : iblk m c 9 t (ix2 0 k)
    = m ((c : Thread nD τ).loc main_arg9) (ix1 k) := by
  blk_simp [iblk]
  have e : ((cfg0.win 9).blk t).view.emb (ix2 0 k) = ix2 0 k := by
    blk_ext [idx t]
  refine Eq.trans ?_ (V_v3_at m c k)
  exact congrArg (V m c main_v3) e

theorem V_v4 : V m c main_v4 = shapeCast S1x512 (m ((c : Thread nD τ).loc main_arg10)) shapeCasts_S512_S1x512 := by
  show StableHlo.after (hostOps0 ++ []) (fun b => m (c, b)) (Proc.devRef .tc main_v4) = _
  simp only [List.cons_append, List.nil_append]
  after_results_simp
  rfl

theorem V_v4_at (k : Fin 512) : V m c main_v4 (ix2 0 k)
    = m ((c : Thread nD τ).loc main_arg10) (ix1 k) := by
  rw [V_v4]
  pointwise

theorem gcv_at (k : Fin 512) : iblk m c 10 t (ix2 0 k)
    = m ((c : Thread nD τ).loc main_arg10) (ix1 k) := by
  blk_simp [iblk]
  have e : ((cfg0.win 10).blk t).view.emb (ix2 0 k) = ix2 0 k := by
    blk_ext [idx t]
  refine Eq.trans ?_ (V_v4_at m c k)
  exact congrArg (V m c main_v4) e

theorem wout_at (j n : Fin 1024) : iblk m c 11 t (ix2 j n) = m ((c : Thread nD τ).loc main_arg11) (ix2 j n) := by
  blk_point [iblk, idx t]

theorem V_v6 : V m c main_v6 = shapeCast S1x1024 (m ((c : Thread nD τ).loc main_arg12)) shapeCasts_S1024_S1x1024 := by
  show StableHlo.after (hostOps0 ++ []) (fun b => m (c, b)) (Proc.devRef .tc main_v6) = _
  simp only [List.cons_append, List.nil_append]
  after_results_simp
  rfl

theorem V_v6_at (k : Fin 1024) : V m c main_v6 (ix2 0 k)
    = m ((c : Thread nD τ).loc main_arg12) (ix1 k) := by
  rw [V_v6]
  pointwise

theorem lng_at (k : Fin 1024) : iblk m c 12 t (ix2 0 k)
    = m ((c : Thread nD τ).loc main_arg12) (ix1 k) := by
  blk_simp [iblk]
  have e : ((cfg0.win 12).blk t).view.emb (ix2 0 k) = ix2 0 k := by
    blk_ext [idx t]
  refine Eq.trans ?_ (V_v6_at m c k)
  exact congrArg (V m c main_v6) e

theorem V_v7 : V m c main_v7 = shapeCast S1x1024 (m ((c : Thread nD τ).loc main_arg13)) shapeCasts_S1024_S1x1024 := by
  show StableHlo.after (hostOps0 ++ []) (fun b => m (c, b)) (Proc.devRef .tc main_v7) = _
  simp only [List.cons_append, List.nil_append]
  after_results_simp
  rfl

theorem V_v7_at (k : Fin 1024) : V m c main_v7 (ix2 0 k)
    = m ((c : Thread nD τ).loc main_arg13) (ix1 k) := by
  rw [V_v7]
  pointwise

theorem lnb_at (k : Fin 1024) : iblk m c 13 t (ix2 0 k)
    = m ((c : Thread nD τ).loc main_arg13) (ix1 k) := by
  blk_simp [iblk]
  have e : ((cfg0.win 13).blk t).view.emb (ix2 0 k) = ix2 0 k := by
    blk_ext [idx t]
  refine Eq.trans ?_ (V_v7_at m c k)
  exact congrArg (V m c main_v7) e

/-- The state and the new tokens, joined. -/
abbrev M2 := val_main_v2 (F := Ideal) (m ((c : Thread nD τ).loc main_arg1)) (m ((c : Thread nD τ).loc main_arg4))
/-- The convolution. -/
abbrev M223 := val_main_v223 (F := Ideal) (m ((c : Thread nD τ).loc main_arg1)) (m ((c : Thread nD τ).loc main_arg4)) (m ((c : Thread nD τ).loc main_arg5)) (m ((c : Thread nD τ).loc main_arg6))
/-- The activated convolution. -/
abbrev M254 := val_main_v254 (F := Ideal) (m ((c : Thread nD τ).loc main_arg1)) (m ((c : Thread nD τ).loc main_arg4)) (m ((c : Thread nD τ).loc main_arg5)) (m ((c : Thread nD τ).loc main_arg6))
  (m ((c : Thread nD τ).loc main_arg7)) (m ((c : Thread nD τ).loc main_arg8))
/-- The residual sum. -/
abbrev M280 := val_main_v280 (F := Ideal) (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10)) (m ((c : Thread nD τ).loc main_arg11))
/-- The normalised result. -/
abbrev M304 := val_main_v304 (F := Ideal) (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10)) (m ((c : Thread nD τ).loc main_arg11))
  (m ((c : Thread nD τ).loc main_arg12)) (m ((c : Thread nD τ).loc main_arg13))
/-- The result, listed by time. -/
abbrev M306 := val_main_v306 (F := Ideal) (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10)) (m ((c : Thread nD τ).loc main_arg11))
  (m ((c : Thread nD τ).loc main_arg12)) (m ((c : Thread nD τ).loc main_arg13))

/-- The rows the call convolves are the joined input's, listed by time. -/
theorem rows_eq (n : ℕ) (hn : n < 1216) (k : Fin 512) (b : Fin 32) (q : Fin 38) (hb : b.val = n % 32) (hq : q.val = n / 32) :
    rows m c t n k = M2 m c (ix3 b q k) := by
  obtain ⟨b, hb'⟩ := b
  obtain ⟨q, hq'⟩ := q
  dsimp only at hb hq
  subst hb hq
  unfold M2 rows table
  rw [Cert.Reference6Ideal.SMix.joined_at]
  by_cases h1 : n < 960
  · rw [dif_pos h1, dif_pos (by dsimp only; omega)]
    refine Eq.trans (b := iblk m c 2 t (ix3 0 ⟨n, h1⟩ k)) (by pointwise [k0_pay2]) ?_
    rw [halo_at]
  · rw [dif_neg h1, dif_pos hn, dif_neg (by dsimp only; omega), Cert.Reference6Ideal.SMix.u_at]
    refine Eq.trans (b := iblk m c 1 t (ix3 0 ⟨n - 960, by omega⟩ k)) (by pointwise [k0_pay3]) ?_
    rw [u_at]
    refine congrArg _ (congrArg (fun z => ix3 0 z _) (Fin.ext ?_))
    dsimp only; omega

theorem conv_eq (r : Fin 256) (k : Fin 512) : conv (rows m c t) (iblk m c 5 t) (iblk m c 6 t) r k = M223 m c (ix3 (bat r) (tok r) k) := by
  unfold M223 conv
  rw [Cert.Reference6Ideal.SMix.conv_at, bias_at]
  refine congrArg (fun z : EReal => z + (_ : EReal)) (congrArg sum31 (funext fun j => ?_))
  unfold tap
  rw [dw_at, rows_eq m c t (32 * j.val + r.val) (by omega) k (bat r) ⟨j.val + (tok r).val, by omega⟩
    (by show r.val % 32 = _; omega) (by show j.val + r.val / 32 = _; omega)]

theorem acts_eq (r : Fin 256) (k : Fin 512) : acts m c t (ix2 r k) = unit5 (fun k => M254 m c (ix3 (bat r) (tok r) k)) k := by
  unfold M254 acts
  rw [act_at]
  refine congrArg (fun s => unit5 s k) (funext fun k => ?_)
  rw [Cert.Reference6Ideal.SMix.swish_at, Cert.Reference6Ideal.SMix.norm_at, clg_at, clb_at]
  refine congrArg swish (congrArg (fun g => norm5 g _ _ k) (funext fun k => ?_))
  exact conv_eq m c t r k

theorem resid_eq (r : Fin 256) (n : Fin 1024) : resid m c t (ix2 r n) = M280 m c (ix3 (bat r) (tok r) n) := by
  unfold M280
  rw [Cert.Reference6Ideal.SMix.res_at, Cert.Reference6Ideal.SMix.dot_at]
  have ha := fun k => acts_eq m c t r k
  unfold resid
  generalize acts m c t = a at ha ⊢
  pointwise [k0_pay12]
  rw [x_at, g1_at]
  refine congrArg₂ _ rfl (congrArg₂ _ rfl (congrArg₂ _ (Finset.sum_congr rfl fun k _ => ?_) (Finset.sum_congr rfl fun k _ => ?_)))
  · rw [Cert.Reference6Ideal.SMix.gain_at, attn_at, gsb_at]
    exact congrArg (fun z : EReal => (_ : EReal) * z) (wout_at m c t _ n)
  · rw [Cert.Reference6Ideal.SMix.rms_at, ha, gcv_at]
    exact congrArg (fun z : EReal => (_ : EReal) * z) (wout_at m c t _ n)

theorem outs_eq (r : Fin 256) (n : Fin 1024) : outsAt0 m c t (ix3 0 r n) = M306 m c (ix3 0 r n) := by
  unfold M306
  rw [point, Cert.Reference6Ideal.SMix.listed_at, Cert.Reference6Ideal.SMix.out_at]
  have e := fun n => resid_eq m c t r n
  generalize resid m c t = g at e ⊢
  pointwise [k0_pay1, k0_pay13, k0_pay14, sums]
  simp only [e, lng_at, lnb_at]
  rfl

/-- The result array. -/
theorem final_out : (dats m 0 c).arrAt 14 (cfgs 0).N = M306 m c := by
  refine (dats m 0 c).arrAt_eq_of_covers 14 _ (by decide +kernel) fun t _ y => ?_
  blk_simp
  rw [after0_14]
  obtain ⟨z, r, n, rfl⟩ : ∃ (z : Fin 1) (r : Fin 256) (n : Fin 1024), y = ix3 z r n := ⟨y 0, y 1, y 2, eq_ix3 y⟩
  obtain rfl : z = 0 := Subsingleton.elim _ _
  rw [outs_eq]
  have e : ((View.whole main_v18).slice (win0_14.rect t)).emb (ix3 0 r n) = ix3 0 r n := by
    blk_ext [idx t]
  rw [e]

end Cert.Kernel6Ideal.SMix
end
-- ==== Proof.SMixClaim.lean ====
module

public import proofs.«01_k».proof.Proof.SMixFinal
public import proofs.«01_k».proof.Proof.Gen.Reference6Ideal.Run

/-! The sample's mixing call's result against the reference's. -/

@[expose] public section
set_option maxRecDepth 16384
noncomputable section
open Idealize.ShloMosaic Idealize.ShloMosaic.TcCoe Idealize.SL.Sem
namespace Cert.Proof.SMix
open Cert.Kernel6Ideal.SMix

/-- The reference leaves its arguments as they were, and no semaphore is raised. -/
theorem reference_frame : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- Over the extended reals the result is the reference's, at every argument. -/
theorem algebraic : Cert.algebraic_Kernel6Ideal_Reference6Ideal := by
  intro m ρ m' ρ' _ hagree
  refine ⟨fun c => _,
    (θ_run Cert.Kernel6Ideal.defs _ _).mono (fun _ h c => ⟨((h.1 c).1 14).trans (final_out m c), h.2 c⟩)
      (θ_run_and (Cert.Kernel6Ideal.Gen.run_main m ρ) (Cert.Kernel6Ideal.Gen.unchanged m ρ)), ?_⟩
  refine (θ_run Cert.Reference6Ideal.defs _ _).mono (fun _ h c => ?_) (Cert.Reference6Ideal.Value.run (F := Ideal) m' ρ')
  obtain ⟨e0, e1, e2, e3, e4, e5, e6, e7, e8, e9, e10, e11, e12, e13⟩ := hagree c
  refine ⟨(h c).1.trans ?_, (h c).2⟩
  refine (Cert.Reference6Ideal.Read.val_main_v306_eq _).trans ?_
  show Cert.Reference6Ideal.Read.val_main_v306 (F := Ideal)
    (m' ((c.tc : Thread Cert.Reference6Ideal.nD Cert.Reference6Ideal.τ).loc Cert.Reference6Ideal.main_arg0))
    (m' ((c.tc : Thread Cert.Reference6Ideal.nD Cert.Reference6Ideal.τ).loc Cert.Reference6Ideal.main_arg1))
    (m' ((c.tc : Thread Cert.Reference6Ideal.nD Cert.Reference6Ideal.τ).loc Cert.Reference6Ideal.main_arg2))
    (m' ((c.tc : Thread Cert.Reference6Ideal.nD Cert.Reference6Ideal.τ).loc Cert.Reference6Ideal.main_arg3))
    (m' ((c.tc : Thread Cert.Reference6Ideal.nD Cert.Reference6Ideal.τ).loc Cert.Reference6Ideal.main_arg4))
    (m' ((c.tc : Thread Cert.Reference6Ideal.nD Cert.Reference6Ideal.τ).loc Cert.Reference6Ideal.main_arg5))
    (m' ((c.tc : Thread Cert.Reference6Ideal.nD Cert.Reference6Ideal.τ).loc Cert.Reference6Ideal.main_arg6))
    (m' ((c.tc : Thread Cert.Reference6Ideal.nD Cert.Reference6Ideal.τ).loc Cert.Reference6Ideal.main_arg7))
    (m' ((c.tc : Thread Cert.Reference6Ideal.nD Cert.Reference6Ideal.τ).loc Cert.Reference6Ideal.main_arg8))
    (m' ((c.tc : Thread Cert.Reference6Ideal.nD Cert.Reference6Ideal.τ).loc Cert.Reference6Ideal.main_arg9))
    (m' ((c.tc : Thread Cert.Reference6Ideal.nD Cert.Reference6Ideal.τ).loc Cert.Reference6Ideal.main_arg10))
    (m' ((c.tc : Thread Cert.Reference6Ideal.nD Cert.Reference6Ideal.τ).loc Cert.Reference6Ideal.main_arg11))
    (m' ((c.tc : Thread Cert.Reference6Ideal.nD Cert.Reference6Ideal.τ).loc Cert.Reference6Ideal.main_arg12))
    (m' ((c.tc : Thread Cert.Reference6Ideal.nD Cert.Reference6Ideal.τ).loc Cert.Reference6Ideal.main_arg13)) = _
  rw [e0, e1, e2, e3, e4, e5, e6, e7, e8, e9, e10, e11, e12, e13]

end Cert.Proof.SMix
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.FfnClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.InpClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.SInpClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.SFfnClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.MixClaim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.SMixClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, Cert.Proof.Ffn.reference_frame,
  fun m ρ _ => Cert.Kernel2.Gen.frame m ρ, fun m ρ _ => Cert.Kernel2Ideal.Gen.frame m ρ, Cert.Proof.Inp.reference_frame,
  fun m ρ _ => Cert.Kernel3.Gen.frame m ρ, fun m ρ _ => Cert.Kernel3Ideal.Gen.frame m ρ, Cert.Proof.SInp.reference_frame,
  fun m ρ _ => Cert.Kernel4.Gen.frame m ρ, fun m ρ _ => Cert.Kernel4Ideal.Gen.frame m ρ, Cert.Proof.SFfn.reference_frame,
  fun m ρ _ => Cert.Kernel5.Gen.frame m ρ, fun m ρ _ => Cert.Kernel5Ideal.Gen.frame m ρ, Cert.Proof.Mix.reference_frame,
  fun m ρ _ => Cert.Kernel6.Gen.frame m ρ, fun m ρ _ => Cert.Kernel6Ideal.Gen.frame m ρ, Cert.Proof.SMix.reference_frame,
  trivial, Cert.Proof.Ffn.algebraic, trivial, Cert.Proof.Inp.algebraic, trivial, Cert.Proof.SInp.algebraic, trivial, Cert.Proof.SFfn.algebraic,
  trivial, Cert.Proof.Mix.algebraic, trivial, Cert.Proof.SMix.algebraic⟩

end Cert.Proof

end
